-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel8 [hPre_finite8 : Cert.Pre_finite8.Facts] (m : (ℓ : Loc Cert.Kernel8.nD Cert.Kernel8.τ Cert.Kernel8.sig) → Buf (Elt Bits) ℓ) : Prop :=
  ∀ c : Dev Cert.Kernel8.nD,
    (Cert.Pre_finite8.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2))) = (fun _ => 1#1)

def Pre_Kernel8Ideal [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 [hPre_finite9 : Cert.Pre_finite9.Facts] (m : (ℓ : Loc Cert.Kernel9.nD Cert.Kernel9.τ Cert.Kernel9.sig) → Buf (Elt Bits) ℓ) : Prop :=
  ∀ c : Dev Cert.Kernel9.nD,
    (Cert.Pre_finite9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2))) = (fun _ => 1#1)

def Pre_Kernel9Ideal [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 [hPre_blocks10 : Cert.Pre_blocks10.Facts] (m : (ℓ : Loc Cert.Kernel10.nD Cert.Kernel10.τ Cert.Kernel10.sig) → Buf (Elt Bits) ℓ) : Prop :=
  ∀ c : Dev Cert.Kernel10.nD,
    (Cert.Pre_blocks10.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4))) = (fun _ => 1#1)

def Pre_Kernel10Ideal [hPre_blocks10 : Cert.Pre_blocks10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_blocks10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal [hPre_blocks10 : Cert.Pre_blocks10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_blocks10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 [hPre_blocks11 : Cert.Pre_blocks11.Facts] (m : (ℓ : Loc Cert.Kernel11.nD Cert.Kernel11.τ Cert.Kernel11.sig) → Buf (Elt Bits) ℓ) : Prop :=
  ∀ c : Dev Cert.Kernel11.nD,
    (Cert.Pre_blocks11.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3))) = (fun _ => 1#1)

def Pre_Kernel11Ideal [hPre_blocks11 : Cert.Pre_blocks11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_blocks11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal [hPre_blocks11 : Cert.Pre_blocks11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_blocks11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel8 [hKernel8 : Cert.Kernel8.Facts] [hPre_finite8 : Cert.Pre_finite8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] [hPre_finite9 : Cert.Pre_finite9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] [hPre_blocks10 : Cert.Pre_blocks10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] [hPre_blocks10 : Cert.Pre_blocks10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] [hPre_blocks10 : Cert.Pre_blocks10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] [hPre_blocks11 : Cert.Pre_blocks11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] [hPre_blocks11 : Cert.Pre_blocks11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] [hPre_blocks11 : Cert.Pre_blocks11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel8_Kernel8Ideal : Prop :=
  True

def algebraic_Kernel8Ideal_Reference8Ideal [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v12)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v50) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] [hPre_blocks10 : Cert.Pre_blocks10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] [hPre_blocks11 : Cert.Pre_blocks11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v61) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v40) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_in_range : Cert.Pre_in_range.Facts) (hPre_finite8 : Cert.Pre_finite8.Facts) (hPre_finite9 : Cert.Pre_finite9.Facts) (hPre_blocks10 : Cert.Pre_blocks10.Facts) (hPre_blocks11 : Cert.Pre_blocks11.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Reference (hReference := hReference) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel8 (hKernel8 := hKernel8) (hPre_finite8 := hPre_finite8)
    ∧ quiescent_Kernel8Ideal (hKernel8Ideal := hKernel8Ideal) (hPre_finite8 := hPre_finite8)
    ∧ quiescent_Reference8Ideal (hReference8Ideal := hReference8Ideal) (hPre_finite8 := hPre_finite8)
    ∧ quiescent_Kernel9 (hKernel9 := hKernel9) (hPre_finite9 := hPre_finite9)
    ∧ quiescent_Kernel9Ideal (hKernel9Ideal := hKernel9Ideal) (hPre_finite9 := hPre_finite9)
    ∧ quiescent_Reference9Ideal (hReference9Ideal := hReference9Ideal) (hPre_finite9 := hPre_finite9)
    ∧ quiescent_Kernel10 (hKernel10 := hKernel10) (hPre_blocks10 := hPre_blocks10)
    ∧ quiescent_Kernel10Ideal (hKernel10Ideal := hKernel10Ideal) (hPre_blocks10 := hPre_blocks10)
    ∧ quiescent_Reference10Ideal (hReference10Ideal := hReference10Ideal) (hPre_blocks10 := hPre_blocks10)
    ∧ quiescent_Kernel11 (hKernel11 := hKernel11) (hPre_blocks11 := hPre_blocks11)
    ∧ quiescent_Kernel11Ideal (hKernel11Ideal := hKernel11Ideal) (hPre_blocks11 := hPre_blocks11)
    ∧ quiescent_Reference11Ideal (hReference11Ideal := hReference11Ideal) (hPre_blocks11 := hPre_blocks11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel8_Kernel8Ideal
    ∧ algebraic_Kernel8Ideal_Reference8Ideal (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal) (hPre_blocks10 := hPre_blocks10)
    ∧ preserves_Kernel11_Kernel11Ideal
    ∧ algebraic_Kernel11Ideal_Reference11Ideal (hKernel11Ideal := hKernel11Ideal) (hReference11Ideal := hReference11Ideal) (hPre_blocks11 := hPre_blocks11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_blocks10.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S20480x4096 .bf16) (main_arg1 : FVec F S8x4096x4096 .f32) (main_arg2 : FVec F S8x4096x4096 .f32) (main_arg3 : IVec S40 32) (main_arg4 : IVec S1 32) : IVec S_ 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg4 main_v6
  let main_c_3 : IVec S_ 32 := constantI S_ 32 40#32
  let main_v8 : IVec S1 32 := broadcastInDim S1 ![] bcast_S_S1 main_c_3
  let main_v9 : IVec S1 1 := cmpi .sle main_arg4 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_blocks11.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S20480x4096 .bf16) (main_arg1 : FVec F S8x4096x4096 .f32) (main_arg2 : IVec S40 32) (main_arg3 : IVec S1 32) : IVec S_ 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg3 main_v6
  let main_c_3 : IVec S_ 32 := constantI S_ 32 40#32
  let main_v8 : IVec S1 32 := broadcastInDim S1 ![] bcast_S_S1 main_c_3
  let main_v9 : IVec S1 1 := cmpi .sle main_arg3 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_finite8.lean ====
abbrev S8448x1536 : Shape := ⟨2, ![8448, 1536]⟩
abbrev S8448x512 : Shape := ⟨2, ![8448, 512]⟩
abbrev S8448x11776 : Shape := ⟨2, ![8448, 11776]⟩
abbrev S_ : Shape := ⟨0, ![]⟩

class Facts : Prop where
  bcast_S_S8448x1536 : S_.BroadcastsInDim S8448x1536 (![] : Fin 0 → Fin S8448x1536.rank)
  reducesTo_S8448x1536_S_d0_1 : S8448x1536.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_

variable [Facts]

def fn {F : FTy → Type} [FloatOps F] (main_arg0 : FVec F S8448x1536 .f32) (main_arg1 : FVec F S8448x512 .f32) (main_arg2 : FVec F S8448x11776 .bf16) : IVec S_ 1 :=
  let main_v0 : FVec F S8448x1536 .f32 := Host.absf main_arg0
  let main_cst : FVec F S_ .f32 := constant S_ .f32 0x7F800000#32
  let main_v1 : FVec F S8448x1536 .f32 := broadcastInDim S8448x1536 ![] bcast_S_S8448x1536 main_cst
  let main_v2 : IVec S8448x1536 1 := cmpf .olt main_v0 main_v1
  let main_c : IVec S_ 1 := constantI S_ 1 1#1
  let main_v3 : IVec S_ 1 := (fun x v => Host.reduce IntOp.andi x v reducesTo_S8448x1536_S_d0_1 h_S_) main_v2 main_c
  let main_v4 : FVec F S8448x512 .f32 := Host.absf main_arg1
  let main_cst_0 : FVec F S_ .f32 := constant S_ .f32 0x7F800000#32
  let main_v5 : FVec F S8448x512 .f32 := broadcastInDim S8448x512 ![] bcast_S_S8448x512 main_cst_0
  let main_v6 : IVec S8448x512 1 := cmpf .olt main_v4 main_v5
  let main_c_1 : IVec S_ 1 := constantI S_ 1 1#1
  let main_v7 : IVec S_ 1 := (fun x v => Host.reduce IntOp.andi x v reducesTo_S8448x512_S_d0_1 h_S_) main_v6 main_c_1
  let main_v8 : IVec S_ 1 := andi main_v3 main_v7
  main_v8
-- ==== Pre_finite9.lean ====
abbrev S8448x1024 : Shape := ⟨2, ![8448, 1024]⟩
abbrev S8448x11776 : Shape := ⟨2, ![8448, 11776]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel

variable [Facts]

def fn {F : FTy → Type} [FloatOps F] (main_arg0 : FVec F S8448x1024 .f32) (main_arg1 : FVec F S8448x1024 .f32) (main_arg2 : FVec F S8448x11776 .bf16) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x1024 .f32 := Host.absf main_arg1
  let main_cst_0 : FVec F S_ .f32 := constant S_ .f32 0x7F800000#32
  let main_v5 : FVec F S8448x1024 .f32 := broadcastInDim S8448x1024 ![] bcast_S_S8448x1024 main_cst_0
  let main_v6 : IVec S8448x1024 1 := cmpf .olt main_v4 main_v5
  let main_c_1 : IVec S_ 1 := constantI S_ 1 1#1
  let main_v7 : IVec S_ 1 := (fun x v => Host.reduce IntOp.andi x v reducesTo_S8448x1024_S_d0_1 h_S_) main_v6 main_c_1
  let main_v8 : IVec S_ 1 := andi main_v3 main_v7
  main_v8
-- ==== Pre_in_range.lean ====
abbrev S8192x4096 : Shape := ⟨2, ![8192, 4096]⟩
abbrev S20480 : Shape := ⟨1, ![20480]⟩
abbrev S_ : Shape := ⟨0, ![]⟩

class Facts : Prop where
  bcast_S_S20480 : S_.BroadcastsInDim S20480 (![] : Fin 0 → Fin S20480.rank)
  reducesTo_S20480_S_d0 : S20480.ReducesTo [0] S_
  h_S_ : 0 < S_.numel

variable [Facts]

def fn {F : FTy → Type} [FloatOps F] (main_arg0 : FVec F S8192x4096 .bf16) (main_arg1 : IVec S20480 32) : IVec S_ 1 :=
  let main_c : IVec S_ 32 := constantI S_ 32 0#32
  let main_v0 : IVec S20480 32 := broadcastInDim S20480 ![] bcast_S_S20480 main_c
  let main_v1 : IVec S20480 1 := cmpi .sge main_arg1 main_v0
  let main_c_0 : IVec S_ 32 := constantI S_ 32 8192#32
  let main_v2 : IVec S20480 32 := broadcastInDim S20480 ![] bcast_S_S20480 main_c_0
  let main_v3 : IVec S20480 1 := cmpi .slt main_arg1 main_v2
  let main_v4 : IVec S20480 1 := andi main_v1 main_v3
  let main_c_1 : IVec S_ 1 := constantI S_ 1 1#1
  let main_v5 : IVec S_ 1 := (fun x v => Host.reduce IntOp.andi x v reducesTo_S20480_S_d0 h_S_) main_v4 main_c_1
  main_v5
-- ==== Kernel.lean ====
abbrev S8192x4096 : Shape := ⟨2, ![8192, 4096]⟩
abbrev S20480 : Shape := ⟨1, ![20480]⟩
abbrev S8192x16x256 : Shape := ⟨3, ![8192, 16, 256]⟩
abbrev S20480x16x256 : Shape := ⟨3, ![20480, 16, 256]⟩
abbrev S_ : Shape := ⟨0, ![]⟩
abbrev S1 : Shape := ⟨1, ![1]⟩
abbrev S1x16x256 : Shape := ⟨3, ![1, 16, 256]⟩
abbrev S16x256 : Shape := ⟨2, ![16, 256]⟩

abbrev nBuf : Space → Nat
  | .hbm => 3
  | .vmem => 0
  | .smem => 1
  | _ => 0

abbrev bufTy : (tb : Table) → Fin (tcTables nBuf tb) → BufTy
  | .hbm, ⟨0, _⟩ => ⟨S8192x4096, .bf16⟩
  | .hbm, ⟨1, _⟩ => ⟨S8192x16x256, .bf16⟩
  | .hbm, ⟨2, _⟩ => ⟨S20480x16x256, .bf16⟩
  | .local _ .smem, ⟨0, _⟩ => ⟨S20480, .i32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg1 : Ref sig .tc := ⟨.smem, 0, rfl⟩

abbrev nD : Nat := 1
abbrev τ : Topo := Topo.v7x

variable {F : FTy → Type} [FloatOps F]

abbrev grid0 : Pipeline.Grid := ⟨1, ![80], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg5 : BitVec 32 := Scf.iv c0_i32 c1_i32 k0_t1
  let v3 : BitVec 32 := Scalar.addi v0 arg5
  let v4 : Index := Scalar.indexCast v3
  ![v4.toNat]
def k0_off2 (i : grid0.Coords) (k0_t1 : Fin k0_t1_loop.trips) : Fin 3 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg5 : BitVec 32 := Scf.iv c0_i32 c1_i32 k0_t1
  let v6 : BitVec 32 := Scalar.addi v0 arg5
  let c0_i32_6 : BitVec 32 := 0#32
  let c0_i32_7 : BitVec 32 := 0#32
  ![v6.toNat, 0, 0]
def k0_off3 (v5 : BitVec 32) : Fin 3 → Nat :=
  let c0_i32_8 : BitVec 32 := 0#32
  let c0_i32_9 : BitVec 32 := 0#32
  ![v5.toNat, 0, 0]

def k0_chk1 (v5 : BitVec 32) : Prop :=
  (∀ a, (k0_off3 v5) a + S1x16x256.size a ≤ S8192x16x256.size a) ∧
  (∀ (hinb : ∀ a, (k0_off3 v5) a + S1x16x256.size a ≤ S8192x16x256.size a), (Rect.unit (s := S8192x16x256) (k0_off3 v5) S1x16x256.size hinb).WholeWords (EltTy.packing .bf16))
theorem k0_off3_inb : ∀ (v5 : BitVec 32) (k0_hw1 : k0_chk1 v5), ∀ a, (k0_off3 v5) a + S1x16x256.size a ≤ S8192x16x256.size a := fun v5 k0_hw1 => k0_hw1.1
theorem k0_off3_wordsbf16 : ∀ (v5 : BitVec 32) (k0_hw1 : k0_chk1 v5), (Rect.unit (s := S8192x16x256) (k0_off3 v5) S1x16x256.size (k0_off3_inb v5 k0_hw1)).WholeWords (EltTy.packing .bf16) := fun v5 k0_hw1 => k0_hw1.2 (k0_off3_inb v5 k0_hw1)

@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off4 (i : grid0.Coords) (k0_t2 : Fin k0_t2_loop.trips) : Fin 1 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg5 : BitVec 32 := Scf.iv c0_i32_2 c1_i32_4 k0_t2
  let v3 : BitVec 32 := Scalar.addi v0 arg5
  let v4 : Index := Scalar.indexCast v3
  ![v4.toNat]
def k0_off5 (i : grid0.Coords) (k0_t2 : Fin k0_t2_loop.trips) : Fin 3 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg5 : BitVec 32 := Scf.iv c0_i32_2 c1_i32_4 k0_t2
  let v6 : BitVec 32 := Scalar.addi v0 arg5
  let c0_i32_6 : BitVec 32 := 0#32
  let c0_i32_7 : BitVec 32 := 0#32
  ![v6.toNat, 0, 0]
def k0_off6 (v5 : BitVec 32) : Fin 3 → Nat :=
  let c0_i32_8 : BitVec 32 := 0#32
  let c0_i32_9 : BitVec 32 := 0#32
  ![v5.toNat, 0, 0]

def k0_chk2 (v5 : BitVec 32) : Prop :=
  (∀ a, (k0_off6 v5) a + S1x16x256.size a ≤ S8192x16x256.size a) ∧
  (∀ (hinb : ∀ a, (k0_off6 v5) a + S1x16x256.size a ≤ S8192x16x256.size a), (Rect.unit (s := S8192x16x256) (k0_off6 v5) S1x16x256.size hinb).WholeWords (EltTy.packing .bf16))
theorem k0_off6_inb : ∀ (v5 : BitVec 32) (k0_hw2 : k0_chk2 v5), ∀ a, (k0_off6 v5) a + S1x16x256.size a ≤ S8192x16x256.size a := fun v5 k0_hw2 => k0_hw2.1
theorem k0_off6_wordsbf16 : ∀ (v5 : BitVec 32) (k0_hw2 : k0_chk2 v5), (Rect.unit (s := S8192x16x256) (k0_off6 v5) S1x16x256.size (k0_off6_inb v5 k0_hw2)).WholeWords (EltTy.packing .bf16) := fun v5 k0_hw2 => k0_hw2.2 (k0_off6_inb v5 k0_hw2)
-- ==== Reference.lean ====
abbrev S8192x4096 : Shape := ⟨2, ![8192, 4096]⟩
abbrev S20480 : Shape := ⟨1, ![20480]⟩
abbrev S_ : Shape := ⟨0, ![]⟩
abbrev S20480x1 : Shape := ⟨2, ![20480, 1]⟩
abbrev S20480x4096 : Shape := ⟨2, ![20480, 4096]⟩
abbrev S20480x16x256 : Shape := ⟨3, ![20480, 16, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S20480, .i32⟩
  | .hbm, ⟨2, _⟩ => ⟨S_, .i32⟩
  | .hbm, ⟨3, _⟩ => ⟨S20480, .i32⟩
  | .hbm, ⟨4, _⟩ => ⟨S20480, .i1⟩
  | .hbm, ⟨5, _⟩ => ⟨S_, .i32⟩
  | .hbm, ⟨6, _⟩ => ⟨S20480, .i32⟩
  | .hbm, ⟨7, _⟩ => ⟨S20480, .i32⟩
  | .hbm, ⟨8, _⟩ => ⟨S20480, .i32⟩
  | .hbm, ⟨9, _⟩ => ⟨S20480x1, .i32⟩
  | .hbm, ⟨10, _⟩ => ⟨S20480x4096, .bf16⟩
  | .hbm, ⟨11, _⟩ => ⟨S20480x16x256, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S8448x4096 : Shape := ⟨2, ![8448, 4096]⟩
abbrev S4096x11008 : Shape := ⟨2, ![4096, 11008]⟩
abbrev S8448x11008 : Shape := ⟨2, ![8448, 11008]⟩
abbrev S768x4096 : Shape := ⟨2, ![768, 4096]⟩
abbrev S4096x256 : Shape := ⟨2, ![4096, 256]⟩
abbrev S768x256 : Shape := ⟨2, ![768, 256]⟩

abbrev nBuf : Space → Nat
  | .hbm => 6
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S4096x11008, .f32⟩
  | .hbm, ⟨2, _⟩ => ⟨S4096x11008, .f32⟩
  | .hbm, ⟨3, _⟩ => ⟨S4096x11008, .bf16⟩
  | .hbm, ⟨4, _⟩ => ⟨S4096x11008, .bf16⟩
  | .hbm, ⟨5, _⟩ => ⟨S8448x11008, .bf16⟩
  | .local _ .vmem, ⟨0, _⟩ => ⟨S768x4096, .bf16⟩
  | .local _ .vmem, ⟨1, _⟩ => ⟨S768x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S768x256, .bf16⟩
  | .local _ .vmem, ⟨7, _⟩ => ⟨S768x256, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8448x4096 : Shape := ⟨2, ![8448, 4096]⟩
abbrev S4096x11008 : Shape := ⟨2, ![4096, 11008]⟩
abbrev S8448x11008 : Shape := ⟨2, ![8448, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x11008, .f32⟩
  | .hbm, ⟨2, _⟩ => ⟨S4096x11008, .f32⟩
  | .hbm, ⟨3, _⟩ => ⟨S8448x4096, .f32⟩
  | .hbm, ⟨4, _⟩ => ⟨S8448x11008, .f32⟩
  | .hbm, ⟨5, _⟩ => ⟨S8448x11008, .f32⟩
  | .hbm, ⟨6, _⟩ => ⟨S8448x11008, .f32⟩
  | .hbm, ⟨7, _⟩ => ⟨S_, .f32⟩
  | .hbm, ⟨8, _⟩ => ⟨S8448x11008, .f32⟩
  | .hbm, ⟨9, _⟩ => ⟨S8448x11008, .f32⟩
  | .hbm, ⟨10, _⟩ => ⟨S_, .f32⟩
  | .hbm, ⟨11, _⟩ => ⟨S8448x11008, .f32⟩
  | .hbm, ⟨12, _⟩ => ⟨S8448x11008, .f32⟩
  | .hbm, ⟨13, _⟩ => ⟨S8448x11008, .f32⟩
  | .hbm, ⟨14, _⟩ => ⟨S8448x11008, .f32⟩
  | .hbm, ⟨15, _⟩ => ⟨S8448x11008, .f32⟩
  | .hbm, ⟨16, _⟩ => ⟨S8448x11008, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S8448x11008 : Shape := ⟨2, ![8448, 11008]⟩
abbrev S11008x4096 : Shape := ⟨2, ![11008, 4096]⟩
abbrev S8448x4096 : Shape := ⟨2, ![8448, 4096]⟩
abbrev S8x24576 : Shape := ⟨2, ![8, 24576]⟩
abbrev S768x11008 : Shape := ⟨2, ![768, 11008]⟩
abbrev S11008x256 : Shape := ⟨2, ![11008, 256]⟩
abbrev S768x256 : Shape := ⟨2, ![768, 256]⟩
abbrev S8x256 : Shape := ⟨2, ![8, 256]⟩
abbrev S768x1 : Shape := ⟨2, ![768, 1]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S8448x11008, .bf16⟩
  | .hbm, ⟨1, _⟩ => ⟨S11008x4096, .f32⟩
  | .hbm, ⟨2, _⟩ => ⟨S8448x4096, .f32⟩
  | .hbm, ⟨3, _⟩ => ⟨S8x24576, .f32⟩
  | .hbm, ⟨4, _⟩ => ⟨S11008x4096, .bf16⟩
  | .hbm, ⟨5, _⟩ => ⟨S8448x4096, .f32⟩
  | .local _ .vmem, ⟨0, _⟩ => ⟨S768x11008, .bf16⟩
  | .local _ .vmem, ⟨1, _⟩ => ⟨S768x11008, .bf16⟩
  | .local _ .vmem, ⟨2, _⟩ => ⟨S11008x256, .bf16⟩
  | .local _ .vmem, ⟨3, _⟩ => ⟨S11008x256, .bf16⟩
  | .local _ .vmem, ⟨4, _⟩ => ⟨S768x256, .f32⟩
  | .local _ .vmem, ⟨5, _⟩ => ⟨S768x256, .f32⟩
  | .local _ .vmem, ⟨6, _⟩ => ⟨S8x256, .f32⟩
  | .local _ .vmem, ⟨7, _⟩ => ⟨S8x256, .f32⟩
  | .local _ .vmem, ⟨8, _⟩ => ⟨S768x256, .f32⟩
  | .local _ .vmem, ⟨9, _⟩ => ⟨S768x256, .f32⟩
  | _, _ => ⟨S8448x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8448x11008 : Shape := ⟨2, ![8448, 11008]⟩
abbrev S11008x4096 : Shape := ⟨2, ![11008, 4096]⟩
abbrev S8448x4096 : Shape := ⟨2, ![8448, 4096]⟩
abbrev S8x24576 : Shape := ⟨2, ![8, 24576]⟩
abbrev S1x24576 : Shape := ⟨2, ![1, 24576]⟩
abbrev S24576 : Shape := ⟨1, ![24576]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8448x11008, .bf16⟩
  | .hbm, ⟨1, _⟩ => ⟨S11008x4096, .f32⟩
  | .hbm, ⟨2, _⟩ => ⟨S8448x4096, .f32⟩
  | .hbm, ⟨3, _⟩ => ⟨S8x24576, .f32⟩
  | .hbm, ⟨4, _⟩ => ⟨S1x24576, .f32⟩
  | .hbm, ⟨5, _⟩ => ⟨S24576, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S1x24576, .f32⟩
  | .hbm, ⟨13, _⟩ => ⟨S24576, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S8448x11008, .f32⟩
  | .hbm, ⟨21, _⟩ => ⟨S8448x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S256x4096, .f32⟩
  | .hbm, ⟨29, _⟩ => ⟨S256x4096, .f32⟩
  | .hbm, ⟨30, _⟩ => ⟨S1x4096, .f32⟩
  | .hbm, ⟨31, _⟩ => ⟨S256x4096, .f32⟩
  | .hbm, ⟨32, _⟩ => ⟨S256x4096, .f32⟩
  | .hbm, ⟨33, _⟩ => ⟨S256x4096, .f32⟩
  | .hbm, ⟨34, _⟩ => ⟨S8448x4096, .f32⟩
  | _, _ => ⟨S8448x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel4.lean ====
abbrev S8448x4096 : Shape := ⟨2, ![8448, 4096]⟩
abbrev S4096x11824 : Shape := ⟨2, ![4096, 11824]⟩
abbrev S4096x11776 : Shape := ⟨2, ![4096, 11776]⟩
abbrev S8448x11776 : Shape := ⟨2, ![8448, 11776]⟩
abbrev S768x4096 : Shape := ⟨2, ![768, 4096]⟩
abbrev S4096x512 : Shape := ⟨2, ![4096, 512]⟩
abbrev S768x512 : Shape := ⟨2, ![768, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S4096x11824, .f32⟩
  | .hbm, ⟨2, _⟩ => ⟨S4096x11776, .f32⟩
  | .hbm, ⟨3, _⟩ => ⟨S4096x11776, .bf16⟩
  | .hbm, ⟨4, _⟩ => ⟨S8448x11776, .bf16⟩
  | .local _ .vmem, ⟨0, _⟩ => ⟨S768x4096, .bf16⟩
  | .local _ .vmem, ⟨1, _⟩ => ⟨S768x4096, .bf16⟩
  | .local _ .vmem, ⟨2, _⟩ => ⟨S4096x512, .bf16⟩
  | .local _ .vmem, ⟨3, _⟩ => ⟨S4096x512, .bf16⟩
  | .local _ .vmem, ⟨4, _⟩ => ⟨S768x512, .bf16⟩
  | .local _ .vmem, ⟨5, _⟩ => ⟨S768x512, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8448x4096 : Shape := ⟨2, ![8448, 4096]⟩
abbrev S4096x11824 : Shape := ⟨2, ![4096, 11824]⟩
abbrev S8448x11824 : Shape := ⟨2, ![8448, 11824]⟩
abbrev S8448x11776 : Shape := ⟨2, ![8448, 11776]⟩

abbrev nBuf : Space → Nat
  | .hbm => 6
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x11824, .f32⟩
  | .hbm, ⟨2, _⟩ => ⟨S8448x4096, .f32⟩
  | .hbm, ⟨3, _⟩ => ⟨S8448x11824, .f32⟩
  | .hbm, ⟨4, _⟩ => ⟨S8448x11776, .f32⟩
  | .hbm, ⟨5, _⟩ => ⟨S8448x11776, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8448x1024 : Shape := ⟨2, ![8448, 1024]⟩
abbrev S8448x1536 : Shape := ⟨2, ![8448, 1536]⟩
abbrev S4096x4096 : Shape := ⟨2, ![4096, 4096]⟩
abbrev S8448x4096 : Shape := ⟨2, ![8448, 4096]⟩
abbrev S8x24576 : Shape := ⟨2, ![8, 24576]⟩
abbrev S1024x4096 : Shape := ⟨2, ![1024, 4096]⟩
abbrev S1536x4096 : Shape := ⟨2, ![1536, 4096]⟩
abbrev S768x1024 : Shape := ⟨2, ![768, 1024]⟩
abbrev S768x1536 : Shape := ⟨2, ![768, 1536]⟩
abbrev S1024x512 : Shape := ⟨2, ![1024, 512]⟩
abbrev S1536x512 : Shape := ⟨2, ![1536, 512]⟩
abbrev S768x512 : Shape := ⟨2, ![768, 512]⟩
abbrev S8x512 : Shape := ⟨2, ![8, 512]⟩
abbrev S768x1 : Shape := ⟨2, ![768, 1]⟩
abbrev S1x512 : Shape := ⟨2, ![1, 512]⟩

abbrev nBuf : Space → Nat
  | .hbm => 13
  | .vmem => 18
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S8448x1536, .bf16⟩
  | .hbm, ⟨3, _⟩ => ⟨S4096x4096, .f32⟩
  | .hbm, ⟨4, _⟩ => ⟨S8448x4096, .f32⟩
  | .hbm, ⟨5, _⟩ => ⟨S8x24576, .f32⟩
  | .hbm, ⟨6, _⟩ => ⟨S1024x4096, .f32⟩
  | .hbm, ⟨7, _⟩ => ⟨S1024x4096, .bf16⟩
  | .hbm, ⟨8, _⟩ => ⟨S1536x4096, .f32⟩
  | .hbm, ⟨9, _⟩ => ⟨S1536x4096, .bf16⟩
  | .hbm, ⟨10, _⟩ => ⟨S1536x4096, .f32⟩
  | .hbm, ⟨11, _⟩ => ⟨S1536x4096, .bf16⟩
  | .hbm, ⟨12, _⟩ => ⟨S8448x4096, .f32⟩
  | .local _ .vmem, ⟨0, _⟩ => ⟨S768x1024, .bf16⟩
  | .local _ .vmem, ⟨1, _⟩ => ⟨S768x1024, .bf16⟩
  | .local _ .vmem, ⟨2, _⟩ => ⟨S768x1536, .bf16⟩
  | .local _ .vmem, ⟨3, _⟩ => ⟨S768x1536, .bf16⟩
  | .local _ .vmem, ⟨4, _⟩ => ⟨S768x1536, .bf16⟩
  | .local _ .vmem, ⟨5, _⟩ => ⟨S768x1536, .bf16⟩
  | .local _ .vmem, ⟨6, _⟩ => ⟨S1024x512, .bf16⟩
  | .local _ .vmem, ⟨7, _⟩ => ⟨S1024x512, .bf16⟩
  | .local _ .vmem, ⟨8, _⟩ => ⟨S1536x512, .bf16⟩
  | .local _ .vmem, ⟨9, _⟩ => ⟨S1536x512, .bf16⟩
  | .local _ .vmem, ⟨10, _⟩ => ⟨S1536x512, .bf16⟩
  | .local _ .vmem, ⟨11, _⟩ => ⟨S1536x512, .bf16⟩
  | .local _ .vmem, ⟨12, _⟩ => ⟨S768x512, .f32⟩
  | .local _ .vmem, ⟨13, _⟩ => ⟨S768x512, .f32⟩
  | .local _ .vmem, ⟨14, _⟩ => ⟨S8x512, .f32⟩
  | .local _ .vmem, ⟨15, _⟩ => ⟨S8x512, .f32⟩
  | .local _ .vmem, ⟨16, _⟩ => ⟨S768x512, .f32⟩
  | .local _ .vmem, ⟨17, _⟩ => ⟨S768x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8448x1024 : Shape := ⟨2, ![8448, 1024]⟩
abbrev S8448x1536 : Shape := ⟨2, ![8448, 1536]⟩
abbrev S4096x4096 : Shape := ⟨2, ![4096, 4096]⟩
abbrev S8448x4096 : Shape := ⟨2, ![8448, 4096]⟩
abbrev S8x24576 : Shape := ⟨2, ![8, 24576]⟩
abbrev S1x24576 : Shape := ⟨2, ![1, 24576]⟩
abbrev S24576 : Shape := ⟨1, ![24576]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S8448x1536, .bf16⟩
  | .hbm, ⟨3, _⟩ => ⟨S4096x4096, .f32⟩
  | .hbm, ⟨4, _⟩ => ⟨S8448x4096, .f32⟩
  | .hbm, ⟨5, _⟩ => ⟨S8x24576, .f32⟩
  | .hbm, ⟨6, _⟩ => ⟨S1x24576, .f32⟩
  | .hbm, ⟨7, _⟩ => ⟨S24576, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S1x24576, .f32⟩
  | .hbm, ⟨15, _⟩ => ⟨S24576, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S8448x1024, .f32⟩
  | .hbm, ⟨23, _⟩ => ⟨S8448x1536, .f32⟩
  | .hbm, ⟨24, _⟩ => ⟨S8448x1536, .f32⟩
  | .hbm, ⟨25, _⟩ => ⟨S8448x4096, .f32⟩
  | .hbm, ⟨26, _⟩ => ⟨S8448x4096, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S256x4096, .f32⟩
  | .hbm, ⟨34, _⟩ => ⟨S256x4096, .f32⟩
  | .hbm, ⟨35, _⟩ => ⟨S1x4096, .f32⟩
  | .hbm, ⟨36, _⟩ => ⟨S256x4096, .f32⟩
  | .hbm, ⟨37, _⟩ => ⟨S256x4096, .f32⟩
  | .hbm, ⟨38, _⟩ => ⟨S256x4096, .f32⟩
  | .hbm, ⟨39, _⟩ => ⟨S8448x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel8.lean ====
abbrev S8448x1536 : Shape := ⟨2, ![8448, 1536]⟩
abbrev S8448x512 : Shape := ⟨2, ![8448, 512]⟩
abbrev S8448x11776 : Shape := ⟨2, ![8448, 11776]⟩
abbrev S_ : Shape := ⟨0, ![]⟩
abbrev S256x384 : Shape := ⟨2, ![256, 384]⟩
abbrev S8448x128 : Shape := ⟨2, ![8448, 128]⟩
abbrev S256x128 : Shape := ⟨2, ![256, 128]⟩
abbrev S768x128 : Shape := ⟨2, ![768, 128]⟩
abbrev S768x1 : Shape := ⟨2, ![768, 1]⟩
abbrev S768x256 : Shape := ⟨2, ![768, 256]⟩
abbrev S768 : Shape := ⟨1, ![768]⟩
abbrev S512x128 : Shape := ⟨2, ![512, 128]⟩
abbrev S768x512 : Shape := ⟨2, ![768, 512]⟩

abbrev nBuf : Space → Nat
  | .hbm => 9
  | .vmem => 8
  | .smem => 0
  | _ => 0

abbrev bufTy : (tb : Table) → Fin (tcTables nBuf tb) → BufTy
  | .hbm, ⟨0, _⟩ => ⟨S8448x1536, .f32⟩
  | .hbm, ⟨1, _⟩ => ⟨S8448x512, .f32⟩
  | .hbm, ⟨2, _⟩ => ⟨S8448x11776, .bf16⟩
  | .hbm, ⟨3, _⟩ => ⟨S_, .f32⟩
  | .hbm, ⟨4, _⟩ => ⟨S8448x1536, .f32⟩
  | .hbm, ⟨5, _⟩ => ⟨S8448x1536, .f32⟩
  | .hbm, ⟨6, _⟩ => ⟨S8448x1536, .bf16⟩
  | .hbm, ⟨7, _⟩ => ⟨S8448x512, .bf16⟩
  | .hbm, ⟨8, _⟩ => ⟨S8448x1536, .bf16⟩
  | .local _ .vmem, ⟨0, _⟩ => ⟨S256x384, .bf16⟩
  | .local _ .vmem, ⟨1, _⟩ => ⟨S256x384, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x384, .bf16⟩
  | .local _ .vmem, ⟨7, _⟩ => ⟨S256x384, .bf16⟩
  | _, _ => ⟨S8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 33], ![false, false]⟩

@[reducible] def k0_t1_loop (i : grid0.Coords) : Scf.Loop 32 :=
  let c0_i32_12 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v33 : BitVec 32 := Scalar.select v1 c0_i32 c16_i32
  let v34 : BitVec 32 := Scalar.subi v33 c0_i32_12
  let c1_i32 : BitVec 32 := 1#32
  let v36 : BitVec 32 := Scalar.divsi v34 c1_i32
  let v37 : BitVec 32 := Scalar.muli v36 c1_i32
  let v38 : BitVec 32 := Scalar.addi c0_i32_12 v37
  let c1_i32_13 : BitVec 32 := 1#32
  ⟨c0_i32_12, v38, c1_i32_13⟩
def k0_mult1 (i : grid0.Coords) (k0_t1 : Fin (k0_t1_loop i).trips) : BitVec 32 :=
  let c0_i32_12 : BitVec 32 := 0#32
  let c1_i32_13 : BitVec 32 := 1#32
  let arg6 : BitVec 32 := Scf.iv c0_i32_12 c1_i32_13 k0_t1
  let c512_i32 : BitVec 32 := 512#32
  let v52 : BitVec 32 := Scalar.muli arg6 c512_i32
  v52
def k0_off1 (i : grid0.Coords) (k0_t1 : Fin (k0_t1_loop i).trips) : Fin 2 → Nat :=
  let c0_i32_12 : BitVec 32 := 0#32
  let c1_i32_13 : BitVec 32 := 1#32
  let arg6 : BitVec 32 := Scf.iv c0_i32_12 c1_i32_13 k0_t1
  let c512_i32 : BitVec 32 := 512#32
  let v52 : BitVec 32 := Scalar.muli arg6 c512_i32
  let v53 : BitVec 32 := v52
  let v54 : Index := Scalar.indexCast v53
  let c0_21 : Index := 0#32
  ![v54.toNat, 0]
@[reducible] def k0_t2_loop (i : grid0.Coords) : Scf.Loop 32 :=
  let c0_i32_12 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v33 : BitVec 32 := Scalar.select v1 c0_i32 c16_i32
  let v34 : BitVec 32 := Scalar.subi v33 c0_i32_12
  let c1_i32 : BitVec 32 := 1#32
  let v36 : BitVec 32 := Scalar.divsi v34 c1_i32
  let v37 : BitVec 32 := Scalar.muli v36 c1_i32
  let v38 : BitVec 32 := Scalar.addi c0_i32_12 v37
  let v35 : BitVec 32 := Scalar.addi c0_i32_12 v34
  let c1_i32_14 : BitVec 32 := 1#32
  ⟨v38, v35, c1_i32_14⟩
def k0_mult2 (i : grid0.Coords) (k0_t2 : Fin (k0_t2_loop i).trips) : BitVec 32 :=
  let c0_i32_12 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v33 : BitVec 32 := Scalar.select v1 c0_i32 c16_i32
  let v34 : BitVec 32 := Scalar.subi v33 c0_i32_12
  let c1_i32 : BitVec 32 := 1#32
  let v36 : BitVec 32 := Scalar.divsi v34 c1_i32
  let v37 : BitVec 32 := Scalar.muli v36 c1_i32
  let v38 : BitVec 32 := Scalar.addi c0_i32_12 v37
  let c1_i32_14 : BitVec 32 := 1#32
  let arg6 : BitVec 32 := Scf.iv v38 c1_i32_14 k0_t2
  let c512_i32 : BitVec 32 := 512#32
  let v52 : BitVec 32 := Scalar.muli arg6 c512_i32
  v52
def k0_off2 (i : grid0.Coords) (k0_t2 : Fin (k0_t2_loop i).trips) : Fin 2 → Nat :=
  let c0_i32_12 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v33 : BitVec 32 := Scalar.select v1 c0_i32 c16_i32
  let v34 : BitVec 32 := Scalar.subi v33 c0_i32_12
  let c1_i32 : BitVec 32 := 1#32
  let v36 : BitVec 32 := Scalar.divsi v34 c1_i32
  let v37 : BitVec 32 := Scalar.muli v36 c1_i32
  let v38 : BitVec 32 := Scalar.addi c0_i32_12 v37
  let c1_i32_14 : BitVec 32 := 1#32
  let arg6 : BitVec 32 := Scf.iv v38 c1_i32_14 k0_t2
  let c512_i32 : BitVec 32 := 512#32
  let v52 : BitVec 32 := Scalar.muli arg6 c512_i32
  let v53 : BitVec 32 := v52
  let v54 : Index := Scalar.indexCast v53
  let c0_21 : Index := 0#32
  ![v54.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8448x1536 : Shape := ⟨2, ![8448, 1536]⟩
abbrev S8448x512 : Shape := ⟨2, ![8448, 512]⟩
abbrev S8448x11776 : Shape := ⟨2, ![8448, 11776]⟩
abbrev S8192x1536 : Shape := ⟨2, ![8192, 1536]⟩
abbrev S8192x4x3x128 : Shape := ⟨4, ![8192, 4, 3, 128]⟩
abbrev S256x1536 : Shape := ⟨2, ![256, 1536]⟩
abbrev S256x4x3x128 : Shape := ⟨4, ![256, 4, 3, 128]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S8448x4x128 : Shape := ⟨3, ![8448, 4, 128]⟩
abbrev S4x8448x8192x3 : Shape := ⟨4, ![4, 8448, 8192, 3]⟩
abbrev S4x3x8192x8448 : Shape := ⟨4, ![4, 3, 8192, 8448]⟩
abbrev S_ : Shape := ⟨0, ![]⟩
abbrev S4x3x8192 : Shape := ⟨3, ![4, 3, 8192]⟩
abbrev S4x3x8192x1 : Shape := ⟨4, ![4, 3, 8192, 1]⟩
abbrev S4x128x3x8192 : Shape := ⟨4, ![4, 128, 3, 8192]⟩
abbrev S4x256x256x3 : Shape := ⟨4, ![4, 256, 256, 3]⟩
abbrev S4x3x256x256 : Shape := ⟨4, ![4, 3, 256, 256]⟩
abbrev S4x3x256 : Shape := ⟨3, ![4, 3, 256]⟩
abbrev S4x3x256x1 : Shape := ⟨4, ![4, 3, 256, 1]⟩
abbrev S4x128x3x256 : Shape := ⟨4, ![4, 128, 3, 256]⟩

abbrev nBuf : Space → Nat
  | .hbm => 65
  | .vmem => 0
  | .smem => 0
  | _ => 0

abbrev bufTy : (tb : Table) → Fin (tcTables nBuf tb) → BufTy
  | .hbm, ⟨0, _⟩ => ⟨S8448x1536, .f32⟩
  | .hbm, ⟨1, _⟩ => ⟨S8448x512, .f32⟩
  | .hbm, ⟨2, _⟩ => ⟨S8448x11776, .bf16⟩
  | .hbm, ⟨3, _⟩ => ⟨S8448x512, .bf16⟩
  | .hbm, ⟨4, _⟩ => ⟨S8448x512, .f32⟩
  | .hbm, ⟨5, _⟩ => ⟨S8192x1536, .f32⟩
  | .hbm, ⟨6, _⟩ => ⟨S8192x4x3x128, .f32⟩
  | .hbm, ⟨7, _⟩ => ⟨S256x1536, .f32⟩
  | .hbm, ⟨8, _⟩ => ⟨S256x4x3x128, .f32⟩
  | .hbm, ⟨9, _⟩ => ⟨S8192x512, .f32⟩
  | .hbm, ⟨10, _⟩ => ⟨S8192x4x128, .f32⟩
  | .hbm, ⟨11, _⟩ => ⟨S256x512, .f32⟩
  | .hbm, ⟨12, _⟩ => ⟨S256x4x128, .f32⟩
  | .hbm, ⟨13, _⟩ => ⟨S8192x512, .f32⟩
  | .hbm, ⟨14, _⟩ => ⟨S8192x4x128, .f32⟩
  | .hbm, ⟨15, _⟩ => ⟨S256x512, .f32⟩
  | .hbm, ⟨16, _⟩ => ⟨S256x4x128, .f32⟩
  | .hbm, ⟨17, _⟩ => ⟨S8448x4x128, .f32⟩
  | .hbm, ⟨18, _⟩ => ⟨S8448x4x128, .f32⟩
  | .hbm, ⟨19, _⟩ => ⟨S4x8448x8192x3, .f32⟩
  | .hbm, ⟨20, _⟩ => ⟨S4x3x8192x8448, .f32⟩
  | .hbm, ⟨21, _⟩ => ⟨S_, .f32⟩
  | .hbm, ⟨22, _⟩ => ⟨S4x3x8192x8448, .f32⟩
  | .hbm, ⟨23, _⟩ => ⟨S4x3x8192x8448, .f32⟩
  | .hbm, ⟨24, _⟩ => ⟨S_, .f32⟩
  | .hbm, ⟨25, _⟩ => ⟨S4x3x8192, .f32⟩
  | .hbm, ⟨26, _⟩ => ⟨S_, .f32⟩
  | .hbm, ⟨27, _⟩ => ⟨S4x3x8192, .f32⟩
  | .hbm, ⟨28, _⟩ => ⟨S4x3x8192, .f32⟩
  | .hbm, ⟨29, _⟩ => ⟨S4x3x8192x1, .f32⟩
  | .hbm, ⟨30, _⟩ => ⟨S4x3x8192x8448, .f32⟩
  | .hbm, ⟨31, _⟩ => ⟨S4x3x8192x8448, .f32⟩
  | .hbm, ⟨32, _⟩ => ⟨S4x3x8192x8448, .f32⟩
  | .hbm, ⟨33, _⟩ => ⟨S_, .f32⟩
  | .hbm, ⟨34, _⟩ => ⟨S4x3x8192, .f32⟩
  | .hbm, ⟨35, _⟩ => ⟨S4x3x8192x1, .f32⟩
  | .hbm, ⟨36, _⟩ => ⟨S4x3x8192x8448, .f32⟩
  | .hbm, ⟨37, _⟩ => ⟨S4x3x8192x8448, .f32⟩
  | .hbm, ⟨38, _⟩ => ⟨S4x128x3x8192, .f32⟩
  | .hbm, ⟨39, _⟩ => ⟨S8192x4x3x128, .f32⟩
  | .hbm, ⟨40, _⟩ => ⟨S8192x1536, .f32⟩
  | .hbm, ⟨41, _⟩ => ⟨S4x256x256x3, .f32⟩
  | .hbm, ⟨42, _⟩ => ⟨S4x3x256x256, .f32⟩
  | .hbm, ⟨43, _⟩ => ⟨S_, .f32⟩
  | .hbm, ⟨44, _⟩ => ⟨S4x3x256x256, .f32⟩
  | .hbm, ⟨45, _⟩ => ⟨S4x3x256x256, .f32⟩
  | .hbm, ⟨46, _⟩ => ⟨S_, .f32⟩
  | .hbm, ⟨47, _⟩ => ⟨S4x3x256, .f32⟩
  | .hbm, ⟨48, _⟩ => ⟨S_, .f32⟩
  | .hbm, ⟨49, _⟩ => ⟨S4x3x256, .f32⟩
  | .hbm, ⟨50, _⟩ => ⟨S4x3x256, .f32⟩
  | .hbm, ⟨51, _⟩ => ⟨S4x3x256x1, .f32⟩
  | .hbm, ⟨52, _⟩ => ⟨S4x3x256x256, .f32⟩
  | .hbm, ⟨53, _⟩ => ⟨S4x3x256x256, .f32⟩
  | .hbm, ⟨54, _⟩ => ⟨S4x3x256x256, .f32⟩
  | .hbm, ⟨55, _⟩ => ⟨S_, .f32⟩
  | .hbm, ⟨56, _⟩ => ⟨S4x3x256, .f32⟩
  | .hbm, ⟨57, _⟩ => ⟨S4x3x256x1, .f32⟩
  | .hbm, ⟨58, _⟩ => ⟨S4x3x256x256, .f32⟩
  | .hbm, ⟨59, _⟩ => ⟨S4x3x256x256, .f32⟩
  | .hbm, ⟨60, _⟩ => ⟨S4x128x3x256, .f32⟩
  | .hbm, ⟨61, _⟩ => ⟨S256x4x3x128, .f32⟩
  | .hbm, ⟨62, _⟩ => ⟨S256x1536, .f32⟩
  | .hbm, ⟨63, _⟩ => ⟨S8448x1536, .f32⟩
  | .hbm, ⟨64, _⟩ => ⟨S8448x1536, .bf16⟩
  | _, _ => ⟨S8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Kernel9.lean ====
abbrev S8448x1024 : Shape := ⟨2, ![8448, 1024]⟩
abbrev S8448x11776 : Shape := ⟨2, ![8448, 11776]⟩
abbrev S_ : Shape := ⟨0, ![]⟩
abbrev S8448x8x2x64 : Shape := ⟨4, ![8448, 8, 2, 64]⟩
abbrev S8448x8x64 : Shape := ⟨3, ![8448, 8, 64]⟩
abbrev S8448x8x1x64 : Shape := ⟨4, ![8448, 8, 1, 64]⟩
abbrev S8448x8x256 : Shape := ⟨3, ![8448, 8, 256]⟩
abbrev S8448x2048 : Shape := ⟨2, ![8448, 2048]⟩
abbrev S256x256 : Shape := ⟨2, ![256, 256]⟩
abbrev S8448x128 : Shape := ⟨2, ![8448, 128]⟩
abbrev S256x128 : Shape := ⟨2, ![256, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S512x512 : Shape := ⟨2, ![512, 512]⟩

abbrev nBuf : Space → Nat
  | .hbm => 18
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x11776, .bf16⟩
  | .hbm, ⟨3, _⟩ => ⟨S_, .f32⟩
  | .hbm, ⟨4, _⟩ => ⟨S8448x1024, .f32⟩
  | .hbm, ⟨5, _⟩ => ⟨S8448x1024, .f32⟩
  | .hbm, ⟨6, _⟩ => ⟨S8448x8x2x64, .f32⟩
  | .hbm, ⟨7, _⟩ => ⟨S_, .f32⟩
  | .hbm, ⟨8, _⟩ => ⟨S8448x8x64, .f32⟩
  | .hbm, ⟨9, _⟩ => ⟨S8448x8x1x64, .f32⟩
  | .hbm, ⟨10, _⟩ => ⟨S8448x8x64, .f32⟩
  | .hbm, ⟨11, _⟩ => ⟨S8448x8x1x64, .f32⟩
  | .hbm, ⟨12, _⟩ => ⟨S8448x8x64, .f32⟩
  | .hbm, ⟨13, _⟩ => ⟨S8448x8x256, .f32⟩
  | .hbm, ⟨14, _⟩ => ⟨S8448x2048, .f32⟩
  | .hbm, ⟨15, _⟩ => ⟨S8448x2048, .bf16⟩
  | .hbm, ⟨16, _⟩ => ⟨S8448x1024, .bf16⟩
  | .hbm, ⟨17, _⟩ => ⟨S8448x2048, .f32⟩
  | .local _ .vmem, ⟨0, _⟩ => ⟨S256x256, .bf16⟩
  | .local _ .vmem, ⟨1, _⟩ => ⟨S256x256, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x256, .f32⟩
  | .local _ .vmem, ⟨7, _⟩ => ⟨S256x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 33], ![false, false]⟩

@[reducible] def k0_t1_loop (i : grid0.Coords) : Scf.Loop 32 :=
  let c0_i32_11 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v31 : BitVec 32 := Scalar.select v1 c0_i32 c16_i32
  let v32 : BitVec 32 := Scalar.subi v31 c0_i32_11
  let c1_i32 : BitVec 32 := 1#32
  let v34 : BitVec 32 := Scalar.divsi v32 c1_i32
  let v35 : BitVec 32 := Scalar.muli v34 c1_i32
  let v36 : BitVec 32 := Scalar.addi c0_i32_11 v35
  let c1_i32_12 : BitVec 32 := 1#32
  ⟨c0_i32_11, v36, c1_i32_12⟩
def k0_mult1 (i : grid0.Coords) (k0_t1 : Fin (k0_t1_loop i).trips) : BitVec 32 :=
  let c0_i32_11 : BitVec 32 := 0#32
  let c1_i32_12 : BitVec 32 := 1#32
  let arg6 : BitVec 32 := Scf.iv c0_i32_11 c1_i32_12 k0_t1
  let c512_i32 : BitVec 32 := 512#32
  let v45 : BitVec 32 := Scalar.muli arg6 c512_i32
  v45
def k0_off1 (i : grid0.Coords) (k0_t1 : Fin (k0_t1_loop i).trips) : Fin 2 → Nat :=
  let c0_i32_11 : BitVec 32 := 0#32
  let c1_i32_12 : BitVec 32 := 1#32
  let arg6 : BitVec 32 := Scf.iv c0_i32_11 c1_i32_12 k0_t1
  let c512_i32 : BitVec 32 := 512#32
  let v45 : BitVec 32 := Scalar.muli arg6 c512_i32
  let v46 : BitVec 32 := v45
  let v47 : Index := Scalar.indexCast v46
  let c0_18 : Index := 0#32
  ![v47.toNat, 0]
@[reducible] def k0_t2_loop (i : grid0.Coords) : Scf.Loop 32 :=
  let c0_i32_11 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v31 : BitVec 32 := Scalar.select v1 c0_i32 c16_i32
  let v32 : BitVec 32 := Scalar.subi v31 c0_i32_11
  let c1_i32 : BitVec 32 := 1#32
  let v34 : BitVec 32 := Scalar.divsi v32 c1_i32
  let v35 : BitVec 32 := Scalar.muli v34 c1_i32
  let v36 : BitVec 32 := Scalar.addi c0_i32_11 v35
  let v33 : BitVec 32 := Scalar.addi c0_i32_11 v32
  let c1_i32_13 : BitVec 32 := 1#32
  ⟨v36, v33, c1_i32_13⟩
def k0_mult2 (i : grid0.Coords) (k0_t2 : Fin (k0_t2_loop i).trips) : BitVec 32 :=
  let c0_i32_11 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v31 : BitVec 32 := Scalar.select v1 c0_i32 c16_i32
  let v32 : BitVec 32 := Scalar.subi v31 c0_i32_11
  let c1_i32 : BitVec 32 := 1#32
  let v34 : BitVec 32 := Scalar.divsi v32 c1_i32
  let v35 : BitVec 32 := Scalar.muli v34 c1_i32
  let v36 : BitVec 32 := Scalar.addi c0_i32_11 v35
  let c1_i32_13 : BitVec 32 := 1#32
  let arg6 : BitVec 32 := Scf.iv v36 c1_i32_13 k0_t2
  let c512_i32 : BitVec 32 := 512#32
  let v45 : BitVec 32 := Scalar.muli arg6 c512_i32
  v45
def k0_off2 (i : grid0.Coords) (k0_t2 : Fin (k0_t2_loop i).trips) : Fin 2 → Nat :=
  let c0_i32_11 : BitVec 32 := 0#32
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .sge v0 c8192_i32
  let c0_i32 : BitVec 32 := 0#32
  let c16_i32 : BitVec 32 := 16#32
  let v31 : BitVec 32 := Scalar.select v1 c0_i32 c16_i32
  let v32 : BitVec 32 := Scalar.subi v31 c0_i32_11
  let c1_i32 : BitVec 32 := 1#32
  let v34 : BitVec 32 := Scalar.divsi v32 c1_i32
  let v35 : BitVec 32 := Scalar.muli v34 c1_i32
  let v36 : BitVec 32 := Scalar.addi c0_i32_11 v35
  let c1_i32_13 : BitVec 32 := 1#32
  let arg6 : BitVec 32 := Scf.iv v36 c1_i32_13 k0_t2
  let c512_i32 : BitVec 32 := 512#32
  let v45 : BitVec 32 := Scalar.muli arg6 c512_i32
  let v46 : BitVec 32 := v45
  let v47 : Index := Scalar.indexCast v46
  let c0_18 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8448x1024 : Shape := ⟨2, ![8448, 1024]⟩
abbrev S8448x11776 : Shape := ⟨2, ![8448, 11776]⟩
abbrev S8192x1024 : Shape := ⟨2, ![8192, 1024]⟩
abbrev S8192x8x2x64 : Shape := ⟨4, ![8192, 8, 2, 64]⟩
abbrev S256x1024 : Shape := ⟨2, ![256, 1024]⟩
abbrev S256x8x2x64 : Shape := ⟨4, ![256, 8, 2, 64]⟩
abbrev S8192x8x128 : Shape := ⟨3, ![8192, 8, 128]⟩
abbrev S256x8x128 : Shape := ⟨3, ![256, 8, 128]⟩
abbrev S8448x8x2x64 : Shape := ⟨4, ![8448, 8, 2, 64]⟩
abbrev S8448x8x128 : Shape := ⟨3, ![8448, 8, 128]⟩
abbrev S8x2x8192x8448 : Shape := ⟨4, ![8, 2, 8192, 8448]⟩
abbrev S_ : Shape := ⟨0, ![]⟩
abbrev S8x2x8192 : Shape := ⟨3, ![8, 2, 8192]⟩
abbrev S8x2x8192x1 : Shape := ⟨4, ![8, 2, 8192, 1]⟩
abbrev S8x128x2x8192 : Shape := ⟨4, ![8, 128, 2, 8192]⟩
abbrev S8192x8x2x128 : Shape := ⟨4, ![8192, 8, 2, 128]⟩
abbrev S8192x2048 : Shape := ⟨2, ![8192, 2048]⟩
abbrev S8x2x256x256 : Shape := ⟨4, ![8, 2, 256, 256]⟩
abbrev S8x2x256 : Shape := ⟨3, ![8, 2, 256]⟩
abbrev S8x2x256x1 : Shape := ⟨4, ![8, 2, 256, 1]⟩
abbrev S8x128x2x256 : Shape := ⟨4, ![8, 128, 2, 256]⟩
abbrev S256x8x2x128 : Shape := ⟨4, ![256, 8, 2, 128]⟩
abbrev S256x2048 : Shape := ⟨2, ![256, 2048]⟩
abbrev S8448x2048 : Shape := ⟨2, ![8448, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x11776, .bf16⟩
  | .hbm, ⟨3, _⟩ => ⟨S8448x1024, .bf16⟩
  | .hbm, ⟨4, _⟩ => ⟨S8448x1024, .f32⟩
  | .hbm, ⟨5, _⟩ => ⟨S8192x1024, .f32⟩
  | .hbm, ⟨6, _⟩ => ⟨S8192x8x2x64, .f32⟩
  | .hbm, ⟨7, _⟩ => ⟨S256x1024, .f32⟩
  | .hbm, ⟨8, _⟩ => ⟨S256x8x2x64, .f32⟩
  | .hbm, ⟨9, _⟩ => ⟨S8192x1024, .f32⟩
  | .hbm, ⟨10, _⟩ => ⟨S8192x8x2x64, .f32⟩
  | .hbm, ⟨11, _⟩ => ⟨S256x1024, .f32⟩
  | .hbm, ⟨12, _⟩ => ⟨S256x8x2x64, .f32⟩
  | .hbm, ⟨13, _⟩ => ⟨S8192x1024, .f32⟩
  | .hbm, ⟨14, _⟩ => ⟨S8192x8x128, .f32⟩
  | .hbm, ⟨15, _⟩ => ⟨S256x1024, .f32⟩
  | .hbm, ⟨16, _⟩ => ⟨S256x8x128, .f32⟩
  | .hbm, ⟨17, _⟩ => ⟨S8448x8x2x64, .f32⟩
  | .hbm, ⟨18, _⟩ => ⟨S8448x8x128, .f32⟩
  | .hbm, ⟨19, _⟩ => ⟨S8x2x8192x8448, .f32⟩
  | .hbm, ⟨20, _⟩ => ⟨S_, .f32⟩
  | .hbm, ⟨21, _⟩ => ⟨S8x2x8192x8448, .f32⟩
  | .hbm, ⟨22, _⟩ => ⟨S8x2x8192x8448, .f32⟩
  | .hbm, ⟨23, _⟩ => ⟨S_, .f32⟩
  | .hbm, ⟨24, _⟩ => ⟨S8x2x8192, .f32⟩
  | .hbm, ⟨25, _⟩ => ⟨S_, .f32⟩
  | .hbm, ⟨26, _⟩ => ⟨S8x2x8192, .f32⟩
  | .hbm, ⟨27, _⟩ => ⟨S8x2x8192, .f32⟩
  | .hbm, ⟨28, _⟩ => ⟨S8x2x8192x1, .f32⟩
  | .hbm, ⟨29, _⟩ => ⟨S8x2x8192x8448, .f32⟩
  | .hbm, ⟨30, _⟩ => ⟨S8x2x8192x8448, .f32⟩
  | .hbm, ⟨31, _⟩ => ⟨S8x2x8192x8448, .f32⟩
  | .hbm, ⟨32, _⟩ => ⟨S_, .f32⟩
  | .hbm, ⟨33, _⟩ => ⟨S8x2x8192, .f32⟩
  | .hbm, ⟨34, _⟩ => ⟨S8x2x8192x1, .f32⟩
  | .hbm, ⟨35, _⟩ => ⟨S8x2x8192x8448, .f32⟩
  | .hbm, ⟨36, _⟩ => ⟨S8x2x8192x8448, .f32⟩
  | .hbm, ⟨37, _⟩ => ⟨S8x128x2x8192, .f32⟩
  | .hbm, ⟨38, _⟩ => ⟨S8192x8x2x128, .f32⟩
  | .hbm, ⟨39, _⟩ => ⟨S8192x2048, .f32⟩
  | .hbm, ⟨40, _⟩ => ⟨S8x2x256x256, .f32⟩
  | .hbm, ⟨41, _⟩ => ⟨S_, .f32⟩
  | .hbm, ⟨42, _⟩ => ⟨S8x2x256x256, .f32⟩
  | .hbm, ⟨43, _⟩ => ⟨S8x2x256x256, .f32⟩
  | .hbm, ⟨44, _⟩ => ⟨S_, .f32⟩
  | .hbm, ⟨45, _⟩ => ⟨S8x2x256, .f32⟩
  | .hbm, ⟨46, _⟩ => ⟨S_, .f32⟩
  | .hbm, ⟨47, _⟩ => ⟨S8x2x256, .f32⟩
  | .hbm, ⟨48, _⟩ => ⟨S8x2x256, .f32⟩
  | .hbm, ⟨49, _⟩ => ⟨S8x2x256x1, .f32⟩
  | .hbm, ⟨50, _⟩ => ⟨S8x2x256x256, .f32⟩
  | .hbm, ⟨51, _⟩ => ⟨S8x2x256x256, .f32⟩
  | .hbm, ⟨52, _⟩ => ⟨S8x2x256x256, .f32⟩
  | .hbm, ⟨53, _⟩ => ⟨S_, .f32⟩
  | .hbm, ⟨54, _⟩ => ⟨S8x2x256, .f32⟩
  | .hbm, ⟨55, _⟩ => ⟨S8x2x256x1, .f32⟩
  | .hbm, ⟨56, _⟩ => ⟨S8x2x256x256, .f32⟩
  | .hbm, ⟨57, _⟩ => ⟨S8x2x256x256, .f32⟩
  | .hbm, ⟨58, _⟩ => ⟨S8x128x2x256, .f32⟩
  | .hbm, ⟨59, _⟩ => ⟨S256x8x2x128, .f32⟩
  | .hbm, ⟨60, _⟩ => ⟨S256x2048, .f32⟩
  | .hbm, ⟨61, _⟩ => ⟨S8448x2048, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Kernel10.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 6
  | .vmem => 8
  | .smem => 2
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S8x4096x4096, .f32⟩
  | .hbm, ⟨3, _⟩ => ⟨S8x4096x4096, .bf16⟩
  | .hbm, ⟨4, _⟩ => ⟨S8x4096x4096, .bf16⟩
  | .hbm, ⟨5, _⟩ => ⟨S20480x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x512, .bf16⟩
  | .local _ .vmem, ⟨7, _⟩ => ⟨S512x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![40, 8], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S40x512x4096 : Shape := ⟨3, ![40, 512, 4096]⟩
abbrev S_ : Shape := ⟨0, ![]⟩
abbrev S40x1 : Shape := ⟨2, ![40, 1]⟩
abbrev S40x4096x4096 : Shape := ⟨3, ![40, 4096, 4096]⟩
abbrev S40x1x1 : Shape := ⟨3, ![40, 1, 1]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S8x4096x4096, .f32⟩
  | .hbm, ⟨3, _⟩ => ⟨S40, .i32⟩
  | .hbm, ⟨4, _⟩ => ⟨S1, .i32⟩
  | .hbm, ⟨5, _⟩ => ⟨S20480x4096, .f32⟩
  | .hbm, ⟨6, _⟩ => ⟨S40x512x4096, .f32⟩
  | .hbm, ⟨7, _⟩ => ⟨S_, .i32⟩
  | .hbm, ⟨8, _⟩ => ⟨S40, .i32⟩
  | .hbm, ⟨9, _⟩ => ⟨S40, .i1⟩
  | .hbm, ⟨10, _⟩ => ⟨S_, .i32⟩
  | .hbm, ⟨11, _⟩ => ⟨S40, .i32⟩
  | .hbm, ⟨12, _⟩ => ⟨S40, .i32⟩
  | .hbm, ⟨13, _⟩ => ⟨S40, .i32⟩
  | .hbm, ⟨14, _⟩ => ⟨S40x1, .i32⟩
  | .hbm, ⟨15, _⟩ => ⟨S40x4096x4096, .f32⟩
  | .hbm, ⟨16, _⟩ => ⟨S_, .i32⟩
  | .hbm, ⟨17, _⟩ => ⟨S40, .i32⟩
  | .hbm, ⟨18, _⟩ => ⟨S40, .i1⟩
  | .hbm, ⟨19, _⟩ => ⟨S_, .i32⟩
  | .hbm, ⟨20, _⟩ => ⟨S40, .i32⟩
  | .hbm, ⟨21, _⟩ => ⟨S40, .i32⟩
  | .hbm, ⟨22, _⟩ => ⟨S40, .i32⟩
  | .hbm, ⟨23, _⟩ => ⟨S40x1, .i32⟩
  | .hbm, ⟨24, _⟩ => ⟨S40x4096x4096, .f32⟩
  | .hbm, ⟨25, _⟩ => ⟨S40x512x4096, .f32⟩
  | .hbm, ⟨26, _⟩ => ⟨S40x512x4096, .f32⟩
  | .hbm, ⟨27, _⟩ => ⟨S40x512x4096, .f32⟩
  | .hbm, ⟨28, _⟩ => ⟨S_, .f32⟩
  | .hbm, ⟨29, _⟩ => ⟨S40x512x4096, .f32⟩
  | .hbm, ⟨30, _⟩ => ⟨S40x512x4096, .f32⟩
  | .hbm, ⟨31, _⟩ => ⟨S_, .f32⟩
  | .hbm, ⟨32, _⟩ => ⟨S40x512x4096, .f32⟩
  | .hbm, ⟨33, _⟩ => ⟨S40x512x4096, .f32⟩
  | .hbm, ⟨34, _⟩ => ⟨S40x512x4096, .f32⟩
  | .hbm, ⟨35, _⟩ => ⟨S40x512x4096, .f32⟩
  | .hbm, ⟨36, _⟩ => ⟨S40x512x4096, .f32⟩
  | .hbm, ⟨37, _⟩ => ⟨S40, .i32⟩
  | .hbm, ⟨38, _⟩ => ⟨S40x1x1, .i32⟩
  | .hbm, ⟨39, _⟩ => ⟨S1x1x1, .i32⟩
  | .hbm, ⟨40, _⟩ => ⟨S40x1x1, .i32⟩
  | .hbm, ⟨41, _⟩ => ⟨S40x1x1, .i1⟩
  | .hbm, ⟨42, _⟩ => ⟨S_, .f32⟩
  | .hbm, ⟨43, _⟩ => ⟨S_, .f32⟩
  | .hbm, ⟨44, _⟩ => ⟨S40x512x4096, .i1⟩
  | .hbm, ⟨45, _⟩ => ⟨S40x512x4096, .f32⟩
  | .hbm, ⟨46, _⟩ => ⟨S40x512x4096, .f32⟩
  | .hbm, ⟨47, _⟩ => ⟨S20480x4096, .f32⟩
  | .hbm, ⟨48, _⟩ => ⟨S20480x4096, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Kernel11.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 6
  | .smem => 2
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S8x4096x4096, .bf16⟩
  | .hbm, ⟨3, _⟩ => ⟨S20480x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S512x512, .f32⟩
  | .local _ .vmem, ⟨5, _⟩ => ⟨S512x512, .f32⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![40, 8], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S20480x4096 : Shape := ⟨2, ![20480, 4096]⟩
abbrev S8x4096x4096 : Shape := ⟨3, ![8, 4096, 4096]⟩
abbrev S40 : Shape := ⟨1, ![40]⟩
abbrev S1 : Shape := ⟨1, ![1]⟩
abbrev S40x512x4096 : Shape := ⟨3, ![40, 512, 4096]⟩
abbrev S_ : Shape := ⟨0, ![]⟩
abbrev S40x1 : Shape := ⟨2, ![40, 1]⟩
abbrev S40x4096x4096 : Shape := ⟨3, ![40, 4096, 4096]⟩
abbrev S40x1x1 : Shape := ⟨3, ![40, 1, 1]⟩
abbrev S1x1x1 : Shape := ⟨3, ![1, 1, 1]⟩

abbrev nBuf : Space → Nat
  | .hbm => 27
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S8x4096x4096, .f32⟩
  | .hbm, ⟨2, _⟩ => ⟨S40, .i32⟩
  | .hbm, ⟨3, _⟩ => ⟨S1, .i32⟩
  | .hbm, ⟨4, _⟩ => ⟨S20480x4096, .f32⟩
  | .hbm, ⟨5, _⟩ => ⟨S40x512x4096, .f32⟩
  | .hbm, ⟨6, _⟩ => ⟨S_, .i32⟩
  | .hbm, ⟨7, _⟩ => ⟨S40, .i32⟩
  | .hbm, ⟨8, _⟩ => ⟨S40, .i1⟩
  | .hbm, ⟨9, _⟩ => ⟨S_, .i32⟩
  | .hbm, ⟨10, _⟩ => ⟨S40, .i32⟩
  | .hbm, ⟨11, _⟩ => ⟨S40, .i32⟩
  | .hbm, ⟨12, _⟩ => ⟨S40, .i32⟩
  | .hbm, ⟨13, _⟩ => ⟨S40x1, .i32⟩
  | .hbm, ⟨14, _⟩ => ⟨S40x4096x4096, .f32⟩
  | .hbm, ⟨15, _⟩ => ⟨S40x512x4096, .f32⟩
  | .hbm, ⟨16, _⟩ => ⟨S40, .i32⟩
  | .hbm, ⟨17, _⟩ => ⟨S40x1x1, .i32⟩
  | .hbm, ⟨18, _⟩ => ⟨S1x1x1, .i32⟩
  | .hbm, ⟨19, _⟩ => ⟨S40x1x1, .i32⟩
  | .hbm, ⟨20, _⟩ => ⟨S40x1x1, .i1⟩
  | .hbm, ⟨21, _⟩ => ⟨S_, .f32⟩
  | .hbm, ⟨22, _⟩ => ⟨S_, .f32⟩
  | .hbm, ⟨23, _⟩ => ⟨S40x512x4096, .i1⟩
  | .hbm, ⟨24, _⟩ => ⟨S40x512x4096, .f32⟩
  | .hbm, ⟨25, _⟩ => ⟨S40x512x4096, .f32⟩
  | .hbm, ⟨26, _⟩ => ⟨S20480x4096, .f32⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel12.lean ====
abbrev S8448x4096 : Shape := ⟨2, ![8448, 4096]⟩
abbrev S4096 : Shape := ⟨1, ![4096]⟩
abbrev S8x24576 : Shape := ⟨2, ![8, 24576]⟩
abbrev S1x4096 : Shape := ⟨2, ![1, 4096]⟩
abbrev S256x4096 : Shape := ⟨2, ![256, 4096]⟩
abbrev S8x4096 : Shape := ⟨2, ![8, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S8x24576, .f32⟩
  | .hbm, ⟨3, _⟩ => ⟨S1x4096, .f32⟩
  | .hbm, ⟨4, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S8x4096, .f32⟩
  | .local _ .vmem, ⟨4, _⟩ => ⟨S8x4096, .f32⟩
  | .local _ .vmem, ⟨5, _⟩ => ⟨S256x4096, .bf16⟩
  | .local _ .vmem, ⟨6, _⟩ => ⟨S256x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8448x4096 : Shape := ⟨2, ![8448, 4096]⟩
abbrev S4096 : Shape := ⟨1, ![4096]⟩
abbrev S8x24576 : Shape := ⟨2, ![8, 24576]⟩
abbrev S1x24576 : Shape := ⟨2, ![1, 24576]⟩
abbrev S24576 : Shape := ⟨1, ![24576]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 73
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S8x24576, .f32⟩
  | .hbm, ⟨3, _⟩ => ⟨S1x24576, .f32⟩
  | .hbm, ⟨4, _⟩ => ⟨S24576, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x24576, .f32⟩
  | .hbm, ⟨12, _⟩ => ⟨S24576, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S256x4096, .f32⟩
  | .hbm, ⟨46, _⟩ => ⟨S256x4096, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S256x1, .f32⟩
  | .hbm, ⟨57, _⟩ => ⟨S256x4096, .f32⟩
  | .hbm, ⟨58, _⟩ => ⟨S256x4096, .f32⟩
  | .hbm, ⟨59, _⟩ => ⟨S1x4096, .f32⟩
  | .hbm, ⟨60, _⟩ => ⟨S256x4096, .f32⟩
  | .hbm, ⟨61, _⟩ => ⟨S256x4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S1x4096, .f32⟩
  | .hbm, ⟨66, _⟩ => ⟨S256x4096, .f32⟩
  | .hbm, ⟨67, _⟩ => ⟨S256x4096, .f32⟩
  | .hbm, ⟨68, _⟩ => ⟨S1x4096, .f32⟩
  | .hbm, ⟨69, _⟩ => ⟨S256x4096, .f32⟩
  | .hbm, ⟨70, _⟩ => ⟨S256x4096, .f32⟩
  | .hbm, ⟨71, _⟩ => ⟨S8448x4096, .f32⟩
  | .hbm, ⟨72, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Kernel13.lean ====
abbrev S8448x2048 : Shape := ⟨2, ![8448, 2048]⟩
abbrev S4x64 : Shape := ⟨2, ![4, 64]⟩
abbrev S128 : Shape := ⟨1, ![128]⟩
abbrev S1x128 : Shape := ⟨2, ![1, 128]⟩
abbrev S8448x1024 : Shape := ⟨2, ![8448, 1024]⟩
abbrev S256x256 : Shape := ⟨2, ![256, 256]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S8448x1024, .bf16⟩
  | .local _ .vmem, ⟨0, _⟩ => ⟨S256x256, .f32⟩
  | .local _ .vmem, ⟨1, _⟩ => ⟨S256x256, .f32⟩
  | .local _ .vmem, ⟨2, _⟩ => ⟨S4x64, .f32⟩
  | .local _ .vmem, ⟨3, _⟩ => ⟨S1x128, .f32⟩
  | .local _ .vmem, ⟨4, _⟩ => ⟨S256x128, .bf16⟩
  | .local _ .vmem, ⟨5, _⟩ => ⟨S256x128, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![33, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8448x2048 : Shape := ⟨2, ![8448, 2048]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8448x8x2x128 : Shape := ⟨4, ![8448, 8, 2, 128]⟩
abbrev S8448x8x1x128 : Shape := ⟨4, ![8448, 8, 1, 128]⟩
abbrev S8448x8x128 : Shape := ⟨3, ![8448, 8, 128]⟩
abbrev S8448x8 : Shape := ⟨2, ![8448, 8]⟩
abbrev S8448x8x1 : Shape := ⟨3, ![8448, 8, 1]⟩
abbrev S1x1x128 : Shape := ⟨3, ![1, 1, 128]⟩
abbrev S8448x1024 : Shape := ⟨2, ![8448, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S4x64, .f32⟩
  | .hbm, ⟨2, _⟩ => ⟨S128, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8448x8x2x128, .f32⟩
  | .hbm, ⟨23, _⟩ => ⟨S8448x8x1x128, .f32⟩
  | .hbm, ⟨24, _⟩ => ⟨S8448x8x128, .f32⟩
  | .hbm, ⟨25, _⟩ => ⟨S8448x8x1x128, .f32⟩
  | .hbm, ⟨26, _⟩ => ⟨S8448x8x128, .f32⟩
  | .hbm, ⟨27, _⟩ => ⟨S8448x8x128, .f32⟩
  | .hbm, ⟨28, _⟩ => ⟨S8448x8x128, .f32⟩
  | .hbm, ⟨29, _⟩ => ⟨S8448x8x128, .f32⟩
  | .hbm, ⟨30, _⟩ => ⟨S8448x8x128, .f32⟩
  | .hbm, ⟨31, _⟩ => ⟨S_, .f32⟩
  | .hbm, ⟨32, _⟩ => ⟨S8448x8, .f32⟩
  | .hbm, ⟨33, _⟩ => ⟨S8448x8x1, .f32⟩
  | .hbm, ⟨34, _⟩ => ⟨S_, .f32⟩
  | .hbm, ⟨35, _⟩ => ⟨S8448x8x1, .f32⟩
  | .hbm, ⟨36, _⟩ => ⟨S8448x8x1, .f32⟩
  | .hbm, ⟨37, _⟩ => ⟨S_, .f32⟩
  | .hbm, ⟨38, _⟩ => ⟨S8448x8x1, .f32⟩
  | .hbm, ⟨39, _⟩ => ⟨S8448x8x1, .f32⟩
  | .hbm, ⟨40, _⟩ => ⟨S8448x8x1, .f32⟩
  | .hbm, ⟨41, _⟩ => ⟨S8448x8x128, .f32⟩
  | .hbm, ⟨42, _⟩ => ⟨S8448x8x128, .f32⟩
  | .hbm, ⟨43, _⟩ => ⟨S1x1x128, .f32⟩
  | .hbm, ⟨44, _⟩ => ⟨S8448x8x128, .f32⟩
  | .hbm, ⟨45, _⟩ => ⟨S8448x8x128, .f32⟩
  | .hbm, ⟨46, _⟩ => ⟨S_, .f32⟩
  | .hbm, ⟨47, _⟩ => ⟨S8448x8x128, .f32⟩
  | .hbm, ⟨48, _⟩ => ⟨S8448x8x128, .f32⟩
  | .hbm, ⟨49, _⟩ => ⟨S8448x1024, .f32⟩
  | .hbm, ⟨50, _⟩ => ⟨S8448x1024, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel14.lean ====
abbrev S8448x4096 : Shape := ⟨2, ![8448, 4096]⟩
abbrev S4096x11824 : Shape := ⟨2, ![4096, 11824]⟩
abbrev S4096x48 : Shape := ⟨2, ![4096, 48]⟩
abbrev S_ : Shape := ⟨0, ![]⟩
abbrev S4096x128 : Shape := ⟨2, ![4096, 128]⟩
abbrev S8448x128 : Shape := ⟨2, ![8448, 128]⟩
abbrev S768x4096 : Shape := ⟨2, ![768, 4096]⟩
abbrev S768x128 : Shape := ⟨2, ![768, 128]⟩

abbrev nBuf : Space → Nat
  | .hbm => 8
  | .vmem => 5
  | .smem => 0
  | _ => 0

abbrev bufTy : (tb : Table) → Fin (tcTables nBuf tb) → BufTy
  | .hbm, ⟨0, _⟩ => ⟨S8448x4096, .bf16⟩
  | .hbm, ⟨1, _⟩ => ⟨S4096x11824, .f32⟩
  | .hbm, ⟨2, _⟩ => ⟨S4096x48, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S8448x128, .f32⟩
  | .local _ .vmem, ⟨0, _⟩ => ⟨S768x4096, .bf16⟩
  | .local _ .vmem, ⟨1, _⟩ => ⟨S768x4096, .bf16⟩
  | .local _ .vmem, ⟨2, _⟩ => ⟨S4096x128, .bf16⟩
  | .local _ .vmem, ⟨3, _⟩ => ⟨S768x128, .f32⟩
  | .local _ .vmem, ⟨4, _⟩ => ⟨S768x128, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8448x4096 : Shape := ⟨2, ![8448, 4096]⟩
abbrev S4096x11824 : Shape := ⟨2, ![4096, 11824]⟩
abbrev S8448x11824 : Shape := ⟨2, ![8448, 11824]⟩
abbrev S8448x48 : Shape := ⟨2, ![8448, 48]⟩
abbrev S_ : Shape := ⟨0, ![]⟩
abbrev S8448x128 : Shape := ⟨2, ![8448, 128]⟩

abbrev nBuf : Space → Nat
  | .hbm => 8
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x11824, .f32⟩
  | .hbm, ⟨2, _⟩ => ⟨S8448x4096, .f32⟩
  | .hbm, ⟨3, _⟩ => ⟨S8448x11824, .f32⟩
  | .hbm, ⟨4, _⟩ => ⟨S8448x48, .f32⟩
  | .hbm, ⟨5, _⟩ => ⟨S_, .i32⟩
  | .hbm, ⟨6, _⟩ => ⟨S_, .f32⟩
  | .hbm, ⟨7, _⟩ => ⟨S8448x128, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.GatherBody.lean ====
/- The body of the gather kernel at one grid point: 256 row copies from the token array into the result, all issued
   on one semaphore by a first loop and waited for by a second. Stated and proved over any float format. -/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.ViewIndex
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Blocks of the two arrays -/

theorem oinb (b : Fin 20480) : ∀ a, (![b.val, 0, 0] : Fin 3 → Nat) a + S1x16x256.size a ≤ S20480x16x256.size a := by
  have := b.isLt; intro a; fin_cases a
  · show b.val + 1 ≤ 20480; omega
  · show 0 + 16 ≤ 16; omega
  · show 0 + 256 ≤ 256; omega
theorem sinb (b : Fin 8192) : ∀ a, (![b.val, 0, 0] : Fin 3 → Nat) a + S1x16x256.size a ≤ S8192x16x256.size a := by
  have := b.isLt; intro a; fin_cases a
  · show b.val + 1 ≤ 8192; omega
  · show 0 + 16 ≤ 16; omega
  · show 0 + 256 ≤ 256; omega

/-- Row `b` of the result, as the kernel names it: one row sliced out, its unit axis dropped. -/
def oBlk (b : Fin 20480) : Memref sig .tc .hbm S16x256 .bf16 :=
  ((Memref.whole main_v1).slice (Rect.unit (s := S20480x16x256) ![b.val, 0, 0] S1x16x256.size (oinb b)) (fun _ => rfl)).squeeze S16x256 Facts₀.squeezes_S1x16x256_S16x256
/-- Row `b` of the token array. -/
def sBlk (b : Fin 8192) : Memref sig .tc .hbm S16x256 .bf16 :=
  ((Memref.whole main_v0).slice (Rect.unit (s := S8192x16x256) ![b.val, 0, 0] S1x16x256.size (sinb b)) (fun _ => rfl)).squeeze S16x256 Facts₀.squeezes_S1x16x256_S16x256

theorem oset_eq (b : Fin 20480) : (oBlk b).view.set = (Rect.unit (s := S20480x16x256) ![b.val, 0, 0] S1x16x256.size (oinb b)).set := by
  unfold oBlk; exact (View.set_reshape _ _).trans (View.set_slice_whole _ _)

/-- The elements of row `b`. -/
abbrev bset (b : Fin 20480) : Finset S20480x16x256.Idx := (Rect.unit (s := S20480x16x256) ![b.val, 0, 0] S1x16x256.size (oinb b)).set

theorem mem_bset (b : Fin 20480) (y : S20480x16x256.Idx) : y ∈ bset b ↔ (y 0).val = b.val := by
  rw [Rect.mem_set_unit]
  have h1 : (y 1).val < 16 := (y 1).isLt
  have h2 : (y 2).val < 256 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 16; omega
    · show 0 ≤ (y 2).val ∧ (y 2).val < 0 + 256; omega
theorem mem_oset (b : Fin 20480) (y : S20480x16x256.Idx) (hy : y ∈ (oBlk b).view.set) : (y 0).val = b.val := by
  rw [oset_eq] at hy; exact (mem_bset b y).mp hy
theorem bset_disjoint : ∀ b b' : Fin 20480, b ≠ b' → Disjoint (bset b) (bset b') := fun b b' hne => by
  rw [Finset.disjoint_left]; intro y hy hy'; rw [mem_bset] at hy hy'; exact hne (Fin.ext (by omega))
theorem bset_cover : Finset.univ.biUnion bset = Finset.univ := by
  ext y; simp only [Finset.mem_biUnion, Finset.mem_univ, true_and, iff_true]; exact ⟨y 0, (mem_bset _ _).mpr rfl⟩

/-! ## The words of the table and the gathered array -/

/-- The table's index of slot `b`. -/
def ix (b : ℕ) (hb : b < 20480) : S20480.Idx := fun a => ⟨b, by
  obtain rfl : a = 0 := Subsingleton.elim _ _
  exact hb⟩

/-- The row the table names for slot `b` (taken below the number of rows, which the precondition makes no change). -/
def row (tb : S20480.Idx → Elt F .i32) (b : Fin 20480) : Fin 8192 :=
  ⟨(tb (ix b.val b.isLt) : BitVec 32).toNat % 8192, Nat.mod_lt _ (by decide)⟩

/-- The index of the token array that element `y` of the result is copied from. -/
def srcIx (r : Fin 8192) (y : S20480x16x256.Idx) : S8192x16x256.Idx :=
  fun a => match a with
    | ⟨0, _⟩ => r
    | ⟨1, _⟩ => y 1
    | ⟨2, _⟩ => y 2

/-- THE GATHERED ARRAY: row `b` of it is row `table[b]` of the token array. -/
def gat (f0 : S8192x16x256.Idx → Elt F .bf16) (tb : S20480.Idx → Elt F .i32) : S20480x16x256.Idx → Elt F .bf16 :=
  fun y => f0 (srcIx (row tb (y 0)) y)

/-- The element of the token array under the copied row's index is the one the gathered array names. -/
theorem copied_at (f0 : S8192x16x256.Idx → Elt F .bf16) (tb : S20480.Idx → Elt F .i32) (b : Fin 20480) (x : S16x256.Idx)
    (y : S20480x16x256.Idx) (h : (oBlk b).view.emb x = y) (hy : y ∈ (oBlk b).view.set) : f0 ((sBlk (row tb b)).view.emb x) = gat f0 tb y := by
  show f0 ((sBlk (row tb b)).view.emb x) = f0 (srcIx (row tb (y 0)) y)
  refine congrArg f0 ?_
  have e0 : (y 0 : Fin 20480) = b := by
    rw [oset_eq] at hy
    exact Fin.ext ((mem_bset b y).mp hy)
  refine Shape.idx3_ext ?_ ?_ ?_
  · show _ = (row tb (y 0)).val
    rw [e0]
    have hz : (Shape.reshapeEquiv (Facts₀.squeezes_S1x16x256_S16x256).numel_eq x 0).val < 1 := (Shape.reshapeEquiv (Facts₀.squeezes_S1x16x256_S16x256).numel_eq x 0).isLt
    show (row tb b).val + 1 * (Shape.reshapeEquiv (Facts₀.squeezes_S1x16x256_S16x256).numel_eq x 0).val = _
    omega
  · subst h; rfl
  · subst h; rfl

/-- What one row copy leaves, on the row it writes, is the gathered array. -/
theorem copied (f0 : S8192x16x256.Idx → Elt F .bf16) (tb : S20480.Idx → Elt F .i32) (g : S20480x16x256.Idx → Elt F .bf16) (b : Fin 20480) :
    ∀ y ∈ (oBlk b).view.set, ((oBlk b).view.write (Elt F) g ((sBlk (row tb b)).view.read (Elt F) f0) Finset.univ) y = gat f0 tb y := by
  intro y hy
  obtain ⟨x, -, rfl⟩ := Finset.mem_map.mp hy
  refine (View.write_emb_of_mem (v := (oBlk b).view) g _ (Finset.mem_univ x)).trans ?_
  exact copied_at f0 tb b x _ rfl hy

/-! ## What the body holds -/

abbrev aTab : Memref sig .tc .smem S20480 .i32 := Memref.whole main_arg1
abbrev aSrc : Memref sig .tc .hbm S8192x16x256 .bf16 := Memref.whole main_v0
abbrev aDst : Memref sig .tc .hbm S20480x16x256 .bf16 := Memref.whole main_v1

/-- The two loops of a grid point run 256 times. -/
theorem trips1 : k0_t1_loop.trips = 256 := by rfl
theorem trips2 : k0_t2_loop.trips = 256 := by rfl

/-- The word the kernel loads for a slot is the table's. -/
theorem word_eq (tb : S20480.Idx → Elt F .i32) (off : Fin 1 → ℕ) (b : Fin 20480) (h : off = ![b.val]) (inb : ∀ a, off a + S1.size a ≤ S20480.size a)
    (x : (Rect.unit (s := S20480) off S1.size inb).toLoadRect.shape.Idx) :
    aTab.view.readAt (Elt F) (Rect.unit (s := S20480) off S1.size inb).toLoadRect tb x = tb (ix b.val b.isLt) := by
  subst h
  rw [View.readAt_apply]
  show tb _ = tb _
  refine congrArg tb (Shape.idx1_ext ?_)
  have hx : (x 0).val < 1 := (x 0).isLt
  show b.val + 1 * (x 0).val = b.val
  omega

/-- A word below the number of rows passes the kernel's own check. -/
theorem chk1_of_lt (v : BitVec 32) (h : v.toNat < 8192) : k0_chk1 v := by
  refine ⟨?_, fun _ => Affine.words_rows (of_decide_eq_true rfl) rfl (by decide)⟩
  intro a; fin_cases a
  · show v.toNat + 1 ≤ 8192; omega
  · show 0 + 16 ≤ 16; omega
  · show 0 + 256 ≤ 256; omega
theorem chk2_of_lt (v : BitVec 32) (h : v.toNat < 8192) : k0_chk2 v := by
  refine ⟨?_, fun _ => Affine.words_rows (of_decide_eq_true rfl) rfl (by decide)⟩
  intro a; fin_cases a
  · show v.toNat + 1 ≤ 8192; omega
  · show 0 + 16 ≤ 16; omega
  · show 0 + 256 ≤ 256; omega

/-- A buffer held is an assertion an invariant may keep. -/
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

section Names

variable (c : Dev nD) (n : ℕ) (hn : n < 80)

/-- The slot that transfer `k` of grid point `n` fills. -/
def slot (k : Fin 256) : Fin 20480 := ⟨256 * n + k.val, by have := k.isLt; omega⟩

/-- The table, at the share the launch lends. -/
abbrev tabPt (tb : S20480.Idx → Elt F .i32) : sProp 𝕄 := aTab.view.loc (c : Thread nD τ) ↦{fullShare.right} tb

/-- Row `b` of the result held at contents `f`. -/
abbrev blkAt (f : S20480x16x256.Idx → Elt F .bf16) (b : Fin 20480) : sProp 𝕄 :=
  (oBlk b).view.loc (c : Thread nD τ) ↦[(oBlk b).view.set]{fullShare} f
/-- The token array under read token `t`, whole. -/
abbrev tokAt (f0 : S8192x16x256.Idx → Elt F .bf16) (t : ℕ) : sProp 𝕄 :=
  aSrc.view.loc (c : Thread nD τ) ↦{Transfers.shareTokN fullShare t} f0
/-- Of the token array under token `t`, row `r` alone … -/
abbrev srcAt (f0 : S8192x16x256.Idx → Elt F .bf16) (t : ℕ) (r : Fin 8192) : sProp 𝕄 :=
  (sBlk r).view.loc (c : Thread nD τ) ↦[(sBlk r).view.set]{Transfers.shareTokN fullShare t} f0
/-- … and every other row. -/
abbrev srcRest (f0 : S8192x16x256.Idx → Elt F .bf16) (t : ℕ) (r : Fin 8192) : sProp 𝕄 :=
  (sBlk r).view.loc (c : Thread nD τ) ↦[Finset.univ \ (sBlk r).view.set]{Transfers.shareTokN fullShare t} f0

/-- A whole token is one row of it and the rest. -/
theorem tok_split (f0 : S8192x16x256.Idx → Elt F .bf16) (t : ℕ) (r : Fin 8192) :
    (tokAt c f0 t : sProp 𝕄) ⊣⊢ iprop(srcAt c f0 t r ∗ srcRest c f0 t r) :=
  pointsTo_split_subset (Finset.subset_univ _)

/-- What transfer `k` of the point delivers: its slot's row of the result, gathered, and the row it read. -/
abbrev dlv (f0 : S8192x16x256.Idx → Elt F .bf16) (tb : S20480.Idx → Elt F .i32) (k : Fin 256) : sProp 𝕄 :=
  iprop(blkAt c (gat f0 tb) (slot n hn k) ∗ srcAt c f0 k.val (row tb (slot n hn k)))

instance dlv_storable (f0 : S8192x16x256.Idx → Elt F .bf16) (tb : S20480.Idx → Elt F .i32) (k : Fin 256) :
    BI.Storable (upEmb : UEmb _ 𝕄) (dlv c n hn f0 tb k) := by
  have h1 : BI.Storable (upEmb : UEmb _ 𝕄) (blkAt c (gat f0 tb) (slot n hn k)) := pts_storable _ _ _ _
  have h2 : BI.Storable (upEmb : UEmb _ 𝕄) (srcAt c f0 k.val (row tb (slot n hn k))) := pts_storable _ _ _ _
  unfold dlv; infer_instance

/-- The batch of the point's 256 transfers: `j` issued, `u` units waited for. -/
abbrev batch (f0 : S8192x16x256.Idx → Elt F .bf16) (tb : S20480.Idx → Elt F .i32) (j u : ℕ) : sProp 𝕄 :=
  Transfers.Batch (countersEmb (U := Pipeline.UD sig nD τ)) (c : Thread nD τ) (.dma cc0_scratch0.sem) () 256 (dlv c n hn f0 tb) j u

/-- Before trip `k` of the issue loop. -/
def issueAt (f0 : S8192x16x256.Idx → Elt F .bf16) (tb : S20480.Idx → Elt F .i32) (g : S20480x16x256.Idx → Elt F .bf16) (k : ℕ) (_ : PUnit) : sProp 𝕄 :=
  iprop(tabPt c tb ∗ batch c n hn f0 tb k 0 ∗ bigSep (Ring.rangeSet 256 k 256) (fun t => tokAt c f0 t.val)
    ∗ bigSep (Ring.rangeSet 256 0 k) (fun t => srcRest c f0 t.val (row tb (slot n hn t)))
    ∗ bigSep (Ring.rangeSet 256 k 256) (fun t => blkAt c g (slot n hn t)))

/-- Before trip `k` of the waiting loop: part of the batch waited for, or all of it. -/
def drainAt (f0 : S8192x16x256.Idx → Elt F .bf16) (tb : S20480.Idx → Elt F .i32) (k : ℕ) (_ : PUnit) : sProp 𝕄 :=
  iprop(⌜k ≤ 256⌝ ∗ (∃ W, owes (c : Thread nD τ) 0 W) ∗ tabPt c tb
    ∗ (if k < 256 then batch c n hn f0 tb 256 (k * 256)
       else iprop(semVal ((c : Thread nD τ), SemLoc.dma cc0_scratch0.sem) 0 ∗ bigSep Finset.univ (dlv c n hn f0 tb))))

end Names

/-- A row sliced at offsets that are row `b`'s is row `b`. -/
theorem oBlk_of (off : Fin 3 → ℕ) (b : Fin 20480) (h : off = ![b.val, 0, 0]) (inb : ∀ a, off a + S1x16x256.size a ≤ S20480x16x256.size a) :
    (aDst.slice (Rect.unit (s := S20480x16x256) off S1x16x256.size inb) (fun _ => rfl)).squeeze S16x256 Facts₀.squeezes_S1x16x256_S16x256 = oBlk b := by
  subst h; rfl
theorem sBlk_of (off : Fin 3 → ℕ) (b : Fin 8192) (h : off = ![b.val, 0, 0]) (inb : ∀ a, off a + S1x16x256.size a ≤ S8192x16x256.size a) :
    (aSrc.slice (Rect.unit (s := S8192x16x256) off S1x16x256.size inb) (fun _ => rfl)).squeeze S16x256 Facts₀.squeezes_S1x16x256_S16x256 = sBlk b := by
  subst h; rfl

/-- The kernel's source offsets are the named row's. -/
theorem off3_row (tb : S20480.Idx → Elt F .i32) (hv : ∀ s, (tb s : BitVec 32).toNat < 8192) (b : Fin 20480) (v : BitVec 32)
    (h : v = tb (ix b.val b.isLt)) : k0_off3 v = ![(row tb b).val, 0, 0] := by
  subst h
  show ![(tb (ix b.val b.isLt) : BitVec 32).toNat, 0, 0] = ![(tb (ix b.val b.isLt) : BitVec 32).toNat % 8192, 0, 0]
  rw [Nat.mod_eq_of_lt (hv _)]

/-- ONE ROW COPY ISSUED into the batch. -/
theorem dma_step [∀ e, Nonempty (Elt F e)] (c : Dev nD) (n : ℕ) (hn : n < 80) (f0 : S8192x16x256.Idx → Elt F .bf16) (tb : S20480.Idx → Elt F .i32)
    (g : S20480x16x256.Idx → Elt F .bf16) (k : ℕ) (hk : k < 256) (src dst : Memref sig .tc .hbm S16x256 .bf16)
    (hs : src = sBlk (row tb (slot n hn ⟨k, hk⟩))) (hd : dst = oBlk (slot n hn ⟨k, hk⟩))
    {hsrc : src.view.WordExact} {hdst : dst.view.WordExact} {hsem : DmaTarget.Typed (nD := nD) (τ := τ) (p := .tc) .hbm (.dma cc0_scratch0.sem) (.here dst)}
    {kk : PUnit → Prog (TpuEff nD τ sig (Elt F) Λ₀ .tc) PUnit} {Q : PUnit → sProp 𝕄} :
    iprop(srcAt c f0 k (row tb (slot n hn ⟨k, hk⟩)) ∗ blkAt c g (slot n hn ⟨k, hk⟩) ∗ batch c n hn f0 tb k 0)
      ⊢ iprop((batch c n hn f0 tb (k + 1) 0 -∗ wp frame (wpE defs₀ Variants.none (c : Thread nD τ) none) Set.univ (kk ⟨⟩) Q)
          -∗ wp frame (wpE defs₀ Variants.none (c : Thread nD τ) none) Set.univ
              (.op (.enqueueDma src (.here dst) (.dma cc0_scratch0.sem) hsrc hdst hsem) kk) Q) := by
  subst hs hd
  refine Transfers.wp_dmaBatch (countersEmb (U := Pipeline.UD sig nD τ)) Variants.none (c : Thread nD τ) none () 256 rfl (Finset.Subset.refl _) hk (Nat.zero_le _) ?_
  have e : ((oBlk (slot n hn ⟨k, hk⟩)).view.loc (c : Thread nD τ) ↦[(oBlk (slot n hn ⟨k, hk⟩)).view.set]{fullShare}
      ((oBlk (slot n hn ⟨k, hk⟩)).view.write (Elt F) g ((sBlk (row tb (slot n hn ⟨k, hk⟩))).view.read (Elt F) f0) Finset.univ) : sProp 𝕄)
      = blkAt c (gat f0 tb) (slot n hn ⟨k, hk⟩) := pointsTo_congr (copied f0 tb g (slot n hn ⟨k, hk⟩))
  iintro ⟨H, HS⟩
  isplitl [H]
  · iapply (Entails.of_eq e); iexact H
  iexact HS

/-! ## The two loops -/

section Loops

variable (c : Dev nD) (i : grid0.Coords)

theorem ihn : (i 0).val < 80 := (i 0).isLt

/-- One trip of the issue loop. -/
theorem issue_step [∀ e, Nonempty (Elt F e)] (f0 : S8192x16x256.Idx → Elt F .bf16) (tb : S20480.Idx → Elt F .i32) (g : S20480x16x256.Idx → Elt F .bf16)
    (hv : ∀ s, (tb s : BitVec 32).toNat < 8192) (k : Fin k0_t1_loop.trips) (acc : PUnit) :
    issueAt c (i 0).val (ihn i) f0 tb g k.val acc ⊢ wp frame (wpE defs₀ Variants.none (c : Thread nD τ) none) Set.univ
      (k0_t1_body (F := F) i aTab (Memref.isWhole_whole _) aSrc (Memref.isWhole_whole _) aDst (Memref.isWhole_whole _) cc0_scratch0 k acc)
      (issueAt c (i 0).val (ihn i) f0 tb g (k.val + 1)) := by
  have hk : k.val < 256 := k.isLt
  unfold issueAt
  rw [Ring.bigSep_rangeSet_head (lo := k.val) (by omega) (by omega), Ring.bigSep_rangeSet_head (lo := k.val) (by omega) (by omega),
    Ring.bigSep_rangeSet_last (lo := 0) (hi := k.val + 1) (by omega) (by omega)]
  simp only [Nat.add_sub_cancel]
  iintro ⟨Ht, HB, ⟨HT, HTs⟩, HR, ⟨HO, HOs⟩⟩
  unfold k0_t1_body
  sl_exec (disch := exact chk1_of_lt _ (hv _))
  ihave HT' := (tok_split c f0 k.val (row tb (slot (i 0).val (ihn i) ⟨k.val, hk⟩))).1 $$ HT
  icases HT' with ⟨HS, HSr⟩
  ihave Hstep := (dma_step c (i 0).val (ihn i) f0 tb g k.val hk _ _
    (sBlk_of _ _ (off3_row tb hv (slot (i 0).val (ihn i) ⟨k.val, hk⟩) _ (word_eq tb _ (slot (i 0).val (ihn i) ⟨k.val, hk⟩) (k0_off1_eq i k) _ _)) _)
    (oBlk_of _ (slot (i 0).val (ihn i) ⟨k.val, hk⟩) (k0_off2_eq i k) _)) $$ [HS HO HB]
  · isplitl [HS]; · iexact HS
    isplitl [HO] <;> iassumption
  iapply Hstep
  iintro HB
  sl_step
  isplitl [Ht]; · iexact Ht
  isplitl [HB]; · iexact HB
  isplitl [HTs]; · iexact HTs
  isplitl [HSr HR]
  · isplitl [HSr] <;> iassumption
  iexact HOs

/-- One trip of the waiting loop. -/
theorem drain_step [∀ e, Nonempty (Elt F e)] (f0 : S8192x16x256.Idx → Elt F .bf16) (tb : S20480.Idx → Elt F .i32)
    (hv : ∀ s, (tb s : BitVec 32).toNat < 8192) (k : Fin k0_t2_loop.trips) (acc : PUnit) :
    drainAt c (i 0).val (ihn i) f0 tb k.val acc ⊢ wp frame (wpE defs₀ Variants.none (c : Thread nD τ) none) Set.univ
      (k0_t2_body (F := F) i aTab (Memref.isWhole_whole _) aSrc (Memref.isWhole_whole _) aDst (Memref.isWhole_whole _) cc0_scratch0 k acc)
      (drainAt c (i 0).val (ihn i) f0 tb (k.val + 1)) := by
  have hk : k.val < 256 := k.isLt
  unfold drainAt
  simp only [if_pos hk]
  rcases Nat.lt_or_ge (k.val + 1) 256 with h1 | h1
  · simp only [if_pos h1]
    iintro ⟨-, ⟨%W, HO⟩, Ht, HB⟩
    unfold k0_t2_body
    sl_exec (disch := exact chk2_of_lt _ (hv _))
    sl_step
    isplitr; · ipureintro; omega
    isplitl [HO]; · iexists _; iexact HO
    isplitl [Ht]; · iexact Ht
    rw [show (k.val + 1) * 256 = k.val * 256 + 256 by omega]
    iexact HB
  · simp only [if_neg (Nat.not_lt.mpr h1)]
    iintro ⟨-, ⟨%W, HO⟩, Ht, HB⟩
    unfold k0_t2_body
    sl_exec (disch := exact chk2_of_lt _ (hv _))
    sl_step
    isplitr; · ipureintro; omega
    isplitl [HO]; · iexists _; iexact HO
    isplitl [Ht]; · iexact Ht
    isplitl [HB]; · iexact HB
    iexact HB_all

set_option warn.classDefReducibility false in
/-- The issue loop's invariant, for the run to find. -/
@[sl_loop] def issueInv [∀ e, Nonempty (Elt F e)] (f0 : S8192x16x256.Idx → Elt F .bf16) (tb : S20480.Idx → Elt F .i32) (g : S20480x16x256.Idx → Elt F .bf16)
    (hv : ∀ s, (tb s : BitVec 32).toNat < 8192) :
    LoopInv (M := 𝕄) frame (wpE defs₀ Variants.none (c : Thread nD τ) none) Set.univ k0_t1_loop.lb k0_t1_loop.ub k0_t1_loop.st Facts₀.k0_t1_ok ⟨⟩
      (k0_t1_body (F := F) i aTab (Memref.isWhole_whole _) aSrc (Memref.isWhole_whole _) aDst (Memref.isWhole_whole _) cc0_scratch0) where
  inv := issueAt c (i 0).val (ihn i) f0 tb g
  step := issue_step c i f0 tb g hv

end Loops

/-! ## The body -/

section Body

variable (c : Dev nD) (i : grid0.Coords) (n : ℕ) (hn : n < 80)

/-- The rows a grid point writes, out of all of them. -/
theorem run_eq (Φ : Fin 20480 → sProp 𝕄) :
    bigSep (Ring.rangeSet 20480 (256 * n) (256 * n + 256)) Φ = bigSep Finset.univ (fun t : Fin 256 => Φ (slot n hn t)) := by
  rw [Ring.bigSep_rangeSet_eq_range (NB := 20480) (lo := 256 * n) (hi := 256 * n + 256) (by omega)
      (fun k => Φ ⟨(256 * n + k) % 20480, Nat.mod_lt _ (by decide)⟩) (fun k h => by congr 1; exact Fin.ext (Nat.mod_eq_of_lt h)), Nat.add_sub_cancel_left]
  exact (Ring.bigSep_fin_eq_range 256 _ (fun k => Φ ⟨(256 * n + k) % 20480, Nat.mod_lt _ (by decide)⟩)
    (fun t h => by show Φ _ = Φ _; congr 1; exact Fin.ext (Nat.mod_eq_of_lt (by show 256 * n + t < 20480; omega)))).symm

/-- The result held whole is its rows held. -/
theorem dst_blocks (f : S20480x16x256.Idx → Elt F .bf16) :
    (aDst.view.loc (c : Thread nD τ) ↦{fullShare} f : sProp 𝕄) = bigSep Finset.univ (fun b => blkAt c f b) := by
  refine (Ring.pointsTo_blocks (ℓ := aDst.view.loc (c : Thread nD τ)) (q := fullShare) bset bset_disjoint bset_cover f).trans
    (BI.bigSep_congr fun b _ => ?_)
  show (aDst.view.loc (c : Thread nD τ) ↦[bset b]{fullShare} f : sProp 𝕄) = blkAt c f b
  unfold blkAt; rw [oset_eq]; rfl

/-- The result after grid point `n`: its rows gathered, the others as they were. -/
def upd (f0 : S8192x16x256.Idx → Elt F .bf16) (tb : S20480.Idx → Elt F .i32) (g : S20480x16x256.Idx → Elt F .bf16) : S20480x16x256.Idx → Elt F .bf16 :=
  fun y => if 256 * n ≤ (y 0).val ∧ (y 0).val < 256 * n + 256 then gat f0 tb y else g y

/-- The rows of a grid point apart from the rest. -/
theorem dst_take (f : S20480x16x256.Idx → Elt F .bf16) :
    (aDst.view.loc (c : Thread nD τ) ↦{fullShare} f : sProp 𝕄)
      = iprop(bigSep Finset.univ (fun t : Fin 256 => blkAt c f (slot n hn t)) ∗ (bigSep (Ring.rangeSet 20480 0 (256 * n)) (fun b => blkAt c f b)
          ∗ bigSep (Ring.rangeSet 20480 (256 * n + 256) 20480) (fun b => blkAt c f b))) := by
  rw [dst_blocks, ← Ring.rangeSet_univ, Ring.bigSep_rangeSet_take (lo := 256 * n) (hi := 256 * n + 256) (Nat.zero_le _) (Nat.le_add_right _ _) (by omega),
    run_eq n hn (fun b => blkAt c f b)]

theorem blk_congr (f g : S20480x16x256.Idx → Elt F .bf16) (b : Fin 20480) (h : ∀ y : S20480x16x256.Idx, (y 0).val = b.val → f y = g y) :
    (blkAt c f b : sProp 𝕄) = blkAt c g b :=
  pointsTo_congr fun y hy => h y (mem_oset b y hy)

/-- The rows gathered and the others as they were are the result after the point. -/
theorem dst_back (f0 : S8192x16x256.Idx → Elt F .bf16) (tb : S20480.Idx → Elt F .i32) (g : S20480x16x256.Idx → Elt F .bf16) :
    iprop(bigSep Finset.univ (fun t : Fin 256 => blkAt c (gat f0 tb) (slot n hn t)) ∗ (bigSep (Ring.rangeSet 20480 0 (256 * n)) (fun b => blkAt c g b)
          ∗ bigSep (Ring.rangeSet 20480 (256 * n + 256) 20480) (fun b => blkAt c g b)))
      = (aDst.view.loc (c : Thread nD τ) ↦{fullShare} upd n f0 tb g : sProp 𝕄) := by
  rw [dst_take c n hn (upd n f0 tb g)]
  have e1 : ∀ t : Fin 256, (blkAt c (gat f0 tb) (slot n hn t) : sProp 𝕄) = blkAt c (upd n f0 tb g) (slot n hn t) := fun t =>
    blk_congr c _ _ _ fun y hy => by
      have ht := t.isLt
      have hy' : (y 0).val = 256 * n + t.val := hy
      unfold upd; rw [if_pos (by omega)]
  have e2 : bigSep (Ring.rangeSet 20480 0 (256 * n)) (fun b => (blkAt c g b : sProp 𝕄)) = bigSep (Ring.rangeSet 20480 0 (256 * n)) (fun b => blkAt c (upd n f0 tb g) b) :=
    BI.bigSep_congr fun b hb => blk_congr c _ _ _ fun y hy => by
      rw [Ring.mem_rangeSet] at hb
      unfold upd; rw [if_neg (by omega)]
  have e3 : bigSep (Ring.rangeSet 20480 (256 * n + 256) 20480) (fun b => (blkAt c g b : sProp 𝕄)) = bigSep (Ring.rangeSet 20480 (256 * n + 256) 20480) (fun b => blkAt c (upd n f0 tb g) b) :=
    BI.bigSep_congr fun b hb => blk_congr c _ _ _ fun y hy => by
      rw [Ring.mem_rangeSet] at hb
      unfold upd; rw [if_neg (by omega)]
  rw [e2, e3, BI.bigSep_congr fun t _ => e1 t]

/-- Every token by number is every token of the batch. -/
theorem toks_eq (f0 : S8192x16x256.Idx → Elt F .bf16) :
    (bigSep (Finset.range 256) (fun t => tokAt c f0 t) : sProp 𝕄) = bigSep Finset.univ (fun t : Fin 256 => tokAt c f0 t.val) :=
  (Ring.bigSep_fin_eq_range 256 (fun t : Fin 256 => tokAt c f0 t.val) (fun t => tokAt c f0 t) (fun _ _ => rfl)).symm

/-- THE BODY AT A GRID POINT: it fills the point's 256 rows of the result with the rows the table names. -/
theorem body_run [∀ e, Nonempty (Elt F e)] (f0 : S8192x16x256.Idx → Elt F .bf16) (tb : S20480.Idx → Elt F .i32) (g : S20480x16x256.Idx → Elt F .bf16)
    (hv : ∀ s, (tb s : BitVec 32).toNat < 8192) (W : Waits sig Unit) :
    iprop(tabPt c tb ∗ (aSrc.view.loc (c : Thread nD τ) ↦{fullShare} f0) ∗ (aDst.view.loc (c : Thread nD τ) ↦{fullShare} g)
        ∗ semVal ((c : Thread nD τ), SemLoc.dma cc0_scratch0.sem) 0 ∗ owes (c : Thread nD τ) 0 W)
      ⊢ wp frame (wpE defs₀ Variants.none (c : Thread nD τ) none) Set.univ
        (cc0_moe_gather (F := F) i aTab (Memref.isWhole_whole _) aSrc (Memref.isWhole_whole _) aDst (Memref.isWhole_whole _) cc0_scratch0)
        (fun _ => iprop(tabPt c tb ∗ (aSrc.view.loc (c : Thread nD τ) ↦{fullShare} f0) ∗ (aDst.view.loc (c : Thread nD τ) ↦{fullShare} upd (i 0).val f0 tb g)
          ∗ semVal ((c : Thread nD τ), SemLoc.dma cc0_scratch0.sem) 0 ∗ ∃ W, owes (c : Thread nD τ) 0 W)) := by
  rw [cc0_moe_gather_eq_skeleton, dst_take c (i 0).val (ihn i) g, ← dst_back c (i 0).val (ihn i) f0 tb g]
  iintro ⟨Ht, HS, ⟨HD, Hrest⟩, Hc, HO⟩
  ihave HS' := (Transfers.pointsTo_toks_range fullShare 256).1 $$ HS
  icases HS' with ⟨HSrest, HT⟩
  ihave HT' := (Entails.of_eq (toks_eq c f0)) $$ HT
  imod (Transfers.batch_alloc' (Lvl := ℕ) (countersEmb (U := Pipeline.UD sig nD τ)) (c : Thread nD τ) () 256 (dlv c (i 0).val (ihn i) f0 tb)
    (sm := .dma cc0_scratch0.sem) (E := Set.univ)) $$ Hc with HB
  ihave HI := (show iprop(tabPt c tb ∗ batch c (i 0).val (ihn i) f0 tb 0 0 ∗ bigSep Finset.univ (fun t : Fin 256 => tokAt c f0 t.val)
      ∗ bigSep Finset.univ (fun t : Fin 256 => blkAt c g (slot (i 0).val (ihn i) t))) ⊢ issueAt c (i 0).val (ihn i) f0 tb g 0 ⟨⟩ from by
    unfold issueAt
    rw [Ring.rangeSet_univ, Ring.bigSep_rangeSet_empty (le_refl 0)]
    iintro ⟨Ht, HB, HT, HD⟩
    isplitl [Ht]; · iexact Ht
    isplitl [HB]; · iexact HB
    isplitl [HT]; · iexact HT
    isplitr; · iempintro
    iexact HD) $$ [Ht HB HT' HD]
  · isplitl [Ht]; · iexact Ht
    isplitl [HB]; · iexact HB
    isplitl [HT'] <;> iassumption
  sl_unfold [cc0_moe_gather_skel]
  sl_for (issueAt c (i 0).val (ihn i) f0 tb g) $$ [HI]
  · intro k acc; exact issue_step c i f0 tb g hv k acc
  · iexact HI
  iintro %acc HL
  ihave HL' := (show issueAt c (i 0).val (ihn i) f0 tb g (Scf.trips k0_t1_loop.lb k0_t1_loop.ub k0_t1_loop.st) acc
      ⊢ iprop(tabPt c tb ∗ batch c (i 0).val (ihn i) f0 tb 256 0
        ∗ bigSep Finset.univ (fun t : Fin 256 => srcRest c f0 t.val (row tb (slot (i 0).val (ihn i) t)))) from by
    rw [show Scf.trips k0_t1_loop.lb k0_t1_loop.ub k0_t1_loop.st = 256 from trips1]
    unfold issueAt
    rw [Ring.rangeSet_univ]
    iintro ⟨Ht, HB, -, HR, -⟩
    isplitl [Ht]; · iexact Ht
    isplitl [HB]; · iexact HB
    iexact HR) $$ HL
  icases HL' with ⟨Ht, HB, HR⟩
  sl_unfold [body_run.sl.prog.cont_1]
  sl_for (drainAt c (i 0).val (ihn i) f0 tb) $$ [HB HO Ht]
  · intro k acc; exact drain_step c i f0 tb hv k acc
  · unfold drainAt
    rw [if_pos (by decide : 0 < 256)]
    isplitr; · ipureintro; omega
    isplitl [HO]; · iexists _; iexact HO
    isplitl [Ht]; · iexact Ht
    rw [show 0 * 256 = 0 from rfl]
    iexact HB
  iintro %acc2 HL
  ihave HL' := (show drainAt c (i 0).val (ihn i) f0 tb (Scf.trips k0_t2_loop.lb k0_t2_loop.ub k0_t2_loop.st) acc2
      ⊢ iprop((∃ W, owes (c : Thread nD τ) 0 W) ∗ tabPt c tb ∗ semVal ((c : Thread nD τ), SemLoc.dma cc0_scratch0.sem) 0
        ∗ bigSep Finset.univ (fun t : Fin 256 => blkAt c (gat f0 tb) (slot (i 0).val (ihn i) t))
        ∗ bigSep Finset.univ (fun t : Fin 256 => srcAt c f0 t.val (row tb (slot (i 0).val (ihn i) t)))) from by
    rw [show Scf.trips k0_t2_loop.lb k0_t2_loop.ub k0_t2_loop.st = 256 from trips2]
    unfold drainAt
    rw [if_neg (Nat.lt_irrefl _)]
    iintro ⟨-, HO, Ht, Hc, Hall⟩
    isplitl [HO]; · iexact HO
    isplitl [Ht]; · iexact Ht
    isplitl [Hc]; · iexact Hc
    iapply (Entails.of_eq (bigSep_sep' Finset.univ (fun t : Fin 256 => (blkAt c (gat f0 tb) (slot (i 0).val (ihn i) t) : sProp 𝕄))
      (fun t : Fin 256 => srcAt c f0 t.val (row tb (slot (i 0).val (ihn i) t)))))
    iexact Hall) $$ HL
  icases HL' with ⟨HO, Ht, Hc, HD, HS⟩
  sl_unfold [body_run.sl.prog.cont_2]
  sl_step
  isplitl [Ht]; · iexact Ht
  isplitl [HS HR HSrest]
  · iapply (Transfers.pointsTo_toks_range fullShare 256).2
    isplitl [HSrest]; · iexact HSrest
    iapply (Entails.of_eq (toks_eq c f0).symm)
    iapply (show iprop(bigSep Finset.univ (fun t : Fin 256 => srcAt c f0 t.val (row tb (slot (i 0).val (ihn i) t)))
        ∗ bigSep Finset.univ (fun t : Fin 256 => srcRest c f0 t.val (row tb (slot (i 0).val (ihn i) t))))
        ⊢ (bigSep Finset.univ (fun t : Fin 256 => tokAt c f0 t.val) : sProp 𝕄) from
      (Entails.of_eq (bigSep_sep' Finset.univ (fun t : Fin 256 => (srcAt c f0 t.val (row tb (slot (i 0).val (ihn i) t)) : sProp 𝕄))
        (fun t : Fin 256 => srcRest c f0 t.val (row tb (slot (i 0).val (ihn i) t)))).symm).trans
        (BI.bigSep_mono fun t _ => (tok_split c f0 t.val (row tb (slot (i 0).val (ihn i) t))).2))
    isplitl [HS] <;> iassumption
  isplitl [HD Hrest]
  · isplitl [HD] <;> iassumption
  isplitl [Hc] <;> iassumption

end Body

end Cert.KernelIdeal.Hand

end
-- ==== Proof.GatherRun.lean ====
/- The gather kernel's run: every grid point's body, the launch, and what the result holds at the end. -/
module

public import proofs.«01_k».proof.Proof.GatherBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The buffers as the launch finds them: the token array reshaped by the host, the others as the memory holds them. -/
abbrev V (c : Dev nD) (b : Ref sig .tc) : Buf (Elt F) ((c : Thread nD τ).loc b) := StableHlo.after hostOps0 (fun b => m (c, b)) b

/-- The token array, the table and the result's first contents. -/
abbrev tokens (c : Dev nD) : S8192x16x256.Idx → Elt F .bf16 := V m c main_v0
abbrev table (c : Dev nD) : S20480.Idx → Elt F .i32 := V m c main_arg1
abbrev before (c : Dev nD) : S20480x16x256.Idx → Elt F .bf16 := V m c main_v1

theorem table_eq (c : Dev nD) : table m c = m ((c : Thread nD τ).loc main_arg1) := by
  rfl

/-- The result before grid point `t`: the rows of the points before it gathered. -/
def outAt (c : Dev nD) (t : ℕ) : S20480x16x256.Idx → Elt F .bf16 :=
  fun y => if (y 0).val < 256 * t then gat (tokens m c) (table m c) y else before m c y

theorem outAt_zero (c : Dev nD) : outAt m c 0 = before m c := by
  funext y; unfold outAt; rw [if_neg (by omega)]
theorem outAt_last (c : Dev nD) : outAt m c 80 = gat (tokens m c) (table m c) := by
  funext y; have : (y 0).val < 20480 := (y 0).isLt
  unfold outAt; rw [if_pos (by omega)]
theorem outAt_succ (c : Dev nD) (t : ℕ) : upd t (tokens m c) (table m c) (outAt m c t) = outAt m c (t + 1) := by
  funext y; unfold upd outAt
  by_cases h : (y 0).val < 256 * t
  · rw [if_neg (by omega), if_pos h, if_pos (by omega)]
  · by_cases h' : (y 0).val < 256 * t + 256
    · rw [if_pos (by omega), if_pos (by omega)]
    · rw [if_neg (by omega), if_neg h, if_neg (by omega)]

/-- The kernel's own semaphore, the buffers it reads and writes by its own copies. -/
abbrev osem0 : Fin 1 → SemLoc sig := ![SemLoc.dma cc0_scratch0.sem]
def H0 : Finset (Ref sig .tc) := {main_v0}
def R0 : Finset (Ref sig .tc) := {main_v1}
theorem ownSemFacts0 : Pipeline.OwnSemFacts spec0 osem0 := by decide
theorem H0_sub : H0 ⊆ Pipeline.restRefsP sig pre0 spec0 := by decide
theorem R0_sub : R0 ⊆ Pipeline.restRefsP sig pre0 spec0 \ H0 := by decide

/-- The table's contents, as the launch takes them. -/
def adm : (p : Fin 1) → (pcfgs (F := F) p).Adm := fun _ => ⟨fun k => V m 0 (pre0.ref k), trivial⟩

/-- The invariant between grid points. -/
def Inv (c : Dev nD) (t : ℕ) : sProp 𝕄 :=
  iprop((∃ r, prngReg c r) ∗ semVal ((c : Thread nD τ), SemLoc.dma cc0_scratch0.sem) 0
    ∗ (aSrc.view.loc (c : Thread nD τ) ↦{fullShare} tokens m c) ∗ (aDst.view.loc (c : Thread nD τ) ↦{fullShare} outAt m c t) ∗ tabPt c (table m c))

/-- The proof data of the one region. -/
def dats (p : Fin 1) (c : Dev nD) : Dat τ (Elt F) Unit ℕ (Pipeline.UD sig nD τ) ℕ (Pipeline.pin (pcfgs (F := F)) (adm m) p) c where
  A w := V m c (Pipeline.arrRef spec0 w)
  after w t := absurd w.isLt (Nat.not_lt_zero _)
  Φ t := Inv m c t.val
  q _ := fullShare
  owed _ := 0

theorem coord0 : ∀ t : Fin grid0.N, (grid0.coords t 0).val = t.val := by decide

/-- The result at the end. -/
def G (c : Dev nD) (b : Ref sig .tc) : Buf (Elt F) ((c : Thread nD τ).loc b) :=
  Function.update (V m c) main_v1 (gat (tokens m c) (table m c)) b

theorem body_obligation (hv : ∀ (c : Dev nD) s, (table m c s : BitVec 32).toNat < 8192) (c : Dev nD) :
    BodyObligation (dats m 0 c) (defs₀ (F := F)) Variants.none () Set.univ := fun t => by
  have hrow : defs₀ (F := F) .tc (cfg0 (adm m 0)).body ((cfg0 (adm m 0)).bodyArgs t ((cfg0 (adm m 0)).slots t))
      = cc0_moe_gather (F := F) (grid0.coords t) aTab (Memref.isWhole_whole _) aSrc (Memref.isWhole_whole _) aDst (Memref.isWhole_whole _) cc0_scratch0 := by
    unfold defs₀; rw [Defs.onTc_tc]
  rw [hrow]
  unfold Dat.owesAt Pipeline.owesWithin
  rw [show (dats m 0 c).owed t.castSucc = 0 from rfl, show (dats m 0 c).owed t.succ = 0 from rfl,
    show (dats m 0 c).Φ t.castSucc = Inv m c t.val from rfl, show (dats m 0 c).Φ t.succ = Inv m c (t.val + 1) from rfl]
  have e0 : ∀ Φ : Fin 0 → sProp 𝕄, (BI.emp : sProp 𝕄) ⊢ bigSep Finset.univ Φ := fun Φ => by
    rw [Finset.univ_eq_empty, BI.bigSep_empty]
  have ht : (grid0.coords t 0).val = t.val := coord0 t
  unfold Inv
  rw [← outAt_succ m c t.val, ← ht]
  iintro ⟨⟨Hg, Hc, HS, HD, Ht⟩, ⟨%W, -, HW⟩, -⟩
  ihave Hrun := (body_run c (grid0.coords t) (tokens m c) (table m c) (outAt m c (grid0.coords t 0).val) (hv c) W) $$ [Hc HS HD Ht HW]
  · isplitl [Ht]; · iexact Ht
    isplitl [HS]; · iexact HS
    isplitl [HD]; · iexact HD
    isplitl [Hc] <;> iassumption
  iapply (wp_wand _ _ _) $$ Hrun
  iintro %u ⟨Ht, HS, HD, Hc, ⟨%W', HW'⟩⟩
  isplitl [Hg Hc HS HD Ht]
  · isplitl [Hg]; · iexact Hg
    isplitl [Hc]; · iexact Hc
    isplitl [HS]; · iexact HS
    isplitl [HD] <;> iassumption
  isplitl [HW']
  · iexists W'; isplitr; · ipureintro; exact fun _ _ => Or.inl trivial
    iexact HW'
  iapply (e0 _)
  iempintro

theorem hmain : Pipeline.HMainP (Ix := Unit) (Name := ℕ) (U := Pipeline.UD sig nD τ) (Lvl := ℕ) (pcfgs (F := F)) 0 defs₀ Variants.none m (main (F := F)) (V m) :=
  Pipeline.hmainP_prefix pcfgs 0 defs₀ Variants.none m main hostOps0 hostOps0_sub rfl (fun c => main_chain c)

theorem PhiDRG0_eq (c : Dev nD) (W : (c : Dev nD) → (b : Ref sig .tc) → Buf (Elt F) ((c : Thread nD τ).loc b)) :
    (Pipeline.ΦDRG osem0 spec0 H0 R0 (V m) W c : sProp 𝕄)
      = iprop(BI.emp ∗ (∃ r, prngReg c r) ∗ semVal ((c : Thread nD τ), SemLoc.dma cc0_scratch0.sem) 0
        ∗ (aSrc.view.loc (c : Thread nD τ) ↦{fullShare} tokens m c) ∗ (aDst.view.loc (c : Thread nD τ) ↦{fullShare} W c main_v1)) := by
  rw [Pipeline.ΦDRG_eq, scopedRest0_eq]
  unfold Pipeline.ownSems0 Pipeline.routed H0 R0
  rw [Finset.univ_unique, BI.bigSep_singleton, BI.bigSep_singleton, BI.bigSep_singleton]
  rfl

theorem hin (c : Dev nD) :
    iprop(Pipeline.ΦDRG osem0 spec0 H0 R0 (V m) (V m) c ∗ Pipeline.ΦT pre0 (adm m 0).1 c) ⊢ ((dats m 0 c).Φ 0 : sProp 𝕄) := by
  rw [PhiDRG0_eq m c (V m), show (dats m 0 c).Φ 0 = Inv m c 0 from rfl]
  unfold Pipeline.ΦT Pipeline.prefHeld Inv
  rw [outAt_zero, show (Finset.univ : Finset (Fin pre0.K)) = {0} from rfl, BI.bigSep_singleton]
  iintro ⟨⟨-, Hg, Hc, HS, HD⟩, Ht⟩
  isplitl [Hg]; · iexact Hg
  isplitl [Hc]; · iexact Hc
  isplitl [HS]; · iexact HS
  isplitl [HD]; · iexact HD
  obtain rfl : c = 0 := Subsingleton.elim _ _
  iexact Ht

theorem hout (c : Dev nD) :
    (dats m 0 c).Φ (Fin.last (cfg0 (adm m 0)).N) ⊢ (Pipeline.ΦDRG osem0 spec0 H0 R0 (V m) (G m) c : sProp 𝕄) := by
  rw [show Pipeline.ΦDRG osem0 spec0 H0 R0 (V m) (G m) c = _ from PhiDRG0_eq m c (G m),
    show (dats m 0 c).Φ (Fin.last (cfg0 (adm m 0)).N) = Inv m c 80 from by show Inv m c grid0.N = _; rw [N_0]]
  unfold Inv
  rw [outAt_last, show G m c main_v1 = gat (tokens m c) (table m c) from Function.update_self ..]
  iintro ⟨Hg, Hc, HS, HD, Ht⟩
  isplitr; · iempintro
  isplitl [Hg]; · iexact Hg
  isplitl [Hc]; · iexact Hc
  isplitl [HS] <;> iassumption

set_option backward.isDefEq.respectTransparency.types false in
/-- THE LAUNCH. -/
theorem run_main (hv : ∀ (c : Dev nD) s, (table m c s : BitVec 32).toNat < 8192) :
    θ_run defs (onTc (τ := τ) (main (F := F))) (s₀ m ρ) (fun r => Pipeline.FramePostRG (Pipeline.pin (pcfgs (F := F)) (adm m)) (dats m) 0 R0 (V m) (G m) r ∧ r.2.sem = fun _ => 0) :=
  Pipeline.θ_run_frameP_dmaRG (Q' := _) (pcfgs (F := F)) (adm m) (dats m) (0 : Fin 1) launch0 osem0 defs₀ Variants.none ownSemFacts0 H0 R0 H0_sub R0_sub m ρ main
    (hbody := fun c => (body_obligation m hv c).loose) (hshare := fun c => (dats m 0 c).share_full fun _ => rfl)
    (howed := fun _ _ => rfl) (V := V m) (hmain := hmain m) (hA := fun c w => absurd w.isLt (Nat.not_lt_zero _))
    (hpf := fun c k => by obtain rfl : c = 0 := Subsingleton.elim _ _; rfl) (G := G m)
    (hin := hin m) (hout := hout m)

/-- THE RUN: under a table whose words name rows, the kernel ends with its arguments unchanged, every semaphore at zero,
    and the result the gathered array. -/
theorem run (hv : ∀ (c : Dev nD) s, (table m c s : BitVec 32).toNat < 8192) :
    θ_run defs (onTc (τ := τ) (main (F := F))) ⟨m, fun _ => 0, ρ⟩ (fun r => (∀ c : Dev nD,
      r.2.mem ((c.tc : Thread nD τ).loc main_v1) = gat (tokens m c) (table m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1.written c (b := main_v1) (by decide)).trans (Function.update_self ..),
      ((h.1.toR c).2 main_arg0 (Finset.mem_sdiff.mpr ⟨Pipeline.mem_restRefs_of main_arg0 (by decide) (fun w => absurd w.isLt (Nat.not_lt_zero _)), by decide⟩)).trans rfl,
      ((h.1.toR c).2 main_arg1 (Finset.mem_sdiff.mpr ⟨Pipeline.mem_restRefs_of main_arg1 (by decide) (fun w => absurd w.isLt (Nat.not_lt_zero _)), by decide⟩)).trans rfl⟩, h.2⟩)
    (run_main m ρ hv)

end Cert.KernelIdeal.Hand

end
-- ==== Proof.GatherRef.lean ====
/- What the reference and the precondition say: the reference's result is the gathered array wherever every word of
   the table names a row, and the precondition says that every word does. -/
module

public import proofs.«01_k».proof.Proof.GatherRun
public import proofs.«01_k».proof.Proof.Gen.Reference
public import proofs.«01_k».proof.Proof.Gen.Pre_in_range
public import Idealize.ShloMosaic.Lib.ReduceAll
public import Idealize.ShloMosaic.Lib.Routing.Ops

@[expose] public section

set_option maxRecDepth 16384

noncomputable section

namespace Cert.GatherRef

open Idealize.ShloMosaic Idealize.ShloMosaic.TcCoe
open Cert.KernelIdeal.Hand (gat row ix srcIx)

variable {F : FTy → Type} [FloatOps F]

/-- A word that is at least 0 and below 8192 read signed is below 8192 read unsigned. -/
theorem toNat_lt (x : BitVec 32) (h0 : (0#32).toInt ≤ x.toInt) (h1 : x.toInt < (8192#32).toInt) : x.toNat < 8192 := by
  rw [show (0#32).toInt = 0 from rfl] at h0
  rw [show (8192#32).toInt = 8192 from rfl] at h1
  rw [BitVec.toInt] at h0 h1
  have := x.isLt
  split at h0 <;> split at h1 <;> omega

/-- The precondition says that every word of the table is the number of a row. -/
theorem words_lt (a0 : (⟨2, ![8192, 4096]⟩ : Shape).Idx → Elt F .bf16) (tb : (⟨1, ![20480]⟩ : Shape).Idx → BitVec 32)
    (e : Pre_in_range.fn (F := F) a0 tb = fun _ => 1#1) (s : (⟨1, ![20480]⟩ : Shape).Idx) : (tb s).toNat < 8192 := by
  haveI : Subsingleton Pre_in_range.S_.Idx := ⟨fun a b => funext fun k => k.elim0⟩
  have e' := congrFun e (fun k => k.elim0)
  unfold Pre_in_range.fn at e'
  dsimp only at e'
  have h := Host.reduce_andi_all _ _ _ _ _ e' s
  obtain ⟨h0, h1⟩ := IntOp.andi_eq_one.1 h
  exact toNat_lt _ (IntOp.cmpi_sge.1 h0) (IntOp.cmpi_slt.1 h1)

/-- The host's reshape of the token array, read at an index. -/
theorem tokens_apply (m : (ℓ : Loc KernelIdeal.nD KernelIdeal.τ KernelIdeal.sig) → Buf (Elt F) ℓ) (c : Dev KernelIdeal.nD) :
    KernelIdeal.Hand.tokens m c = shapeCast KernelIdeal.S8192x16x256 (m ((c.tc : Thread KernelIdeal.nD KernelIdeal.τ).loc KernelIdeal.main_arg0)) KernelIdeal.Facts₀.shapeCasts_S8192x4096_S8192x16x256 := by
  rfl

/-- THE REFERENCE'S RESULT is the gathered array: where a word of the table is the number of a row, the reference's
    adjustment of negative words leaves it, and row `b` of its result is that row of the token array. -/
theorem ref_eq (a0 : (⟨2, ![8192, 4096]⟩ : Shape).Idx → Elt F .bf16) (tb : (⟨1, ![20480]⟩ : Shape).Idx → BitVec 32)
    (hv : ∀ s, (tb s).toNat < 8192) :
    shapeCast Reference.S20480x16x256 (Host.gather Reference.gather_S8192x4096_S20480x1_S20480x4096_1_0_n_n_0_1_14096 a0
        (broadcastInDim Reference.S20480x1 ![0] Reference.Facts₀.bcast_S20480_S20480x1_0
          (select (cmpi .slt tb (broadcastInDim Reference.S20480 ![] Reference.Facts₀.bcast_S_S20480 (constantI Reference.S_ 32 0#32)))
            (addi tb (broadcastInDim Reference.S20480 ![] Reference.Facts₀.bcast_S_S20480 (constantI Reference.S_ 32 8192#32))) tb)))
        Reference.Facts₀.shapeCasts_S20480x4096_S20480x16x256
      = gat (F := F) (shapeCast KernelIdeal.S8192x16x256 a0 KernelIdeal.Facts₀.shapeCasts_S8192x4096_S8192x16x256) tb := by
  funext y
  have hy0 : (y 0).val < 20480 := (y 0).isLt
  have hy1 : (y 1).val < 16 := (y 1).isLt
  have hy2 : (y 2).val < 256 := (y 2).isLt
  have hr := hv (ix (y 0).val hy0)
  unfold gat
  rw [shapeCast_apply _ _ y (ValueIdx.ix2 (⟨(y 0).val, hy0⟩ : Fin 20480) (⟨256 * (y 1).val + (y 2).val, by omega⟩ : Fin 4096))
      (by rw [Shape.rowMajor_val_two, Shape.rowMajor_val_three]; show (y 0).val * 4096 + (256 * (y 1).val + (y 2).val) = ((y 0).val * 16 + (y 1).val) * 256 + (y 2).val; omega),
    shapeCast_apply _ _ (srcIx _ y) (ValueIdx.ix2 (row (F := F) tb (y 0)) (⟨256 * (y 1).val + (y 2).val, by omega⟩ : Fin 4096))
      (by rw [Shape.rowMajor_val_two, Shape.rowMajor_val_three]; show (row (F := F) tb (y 0)).val * 4096 + (256 * (y 1).val + (y 2).val) = ((row (F := F) tb (y 0)).val * 16 + (y 1).val) * 256 + (y 2).val; omega)]
  refine Routing.gather_row _ rfl rfl rfl rfl rfl a0 _ _ _ _ ?_ (by omega)
  rw [Routing.bcCol]
  have hx : tb (ix (y 0).val hy0) = BitVec.ofNat 32 (row (F := F) tb (y 0)).val := by
    apply BitVec.eq_of_toNat_eq
    show _ = (BitVec.ofNat 32 ((tb (ix (y 0).val hy0)).toNat % 8192)).toNat
    rw [BitVec.toNat_ofNat]; omega
  have hs : ¬ IntOp.cmpi .slt (tb (ix (y 0).val hy0)) 0#32 = 1#1 := by
    rw [IntOp.cmpi_slt, BitVec.toInt_eq_toNat_of_lt (by omega)]
    rw [show (0#32).toInt = 0 from rfl]; omega
  have hi : (ValueIdx.ix1 (⟨(y 0).val, hy0⟩ : Fin 20480) : (⟨1, ![20480]⟩ : Shape).Idx) = ix (y 0).val hy0 := by
    funext a; obtain rfl : a = 0 := Subsingleton.elim _ _; rfl
  rw [hi, ← hx]
  exact if_neg hs

end Cert.GatherRef

end
-- ==== Proof.GatherClaims.lean ====
/- The claims of the gather: the frames of the kernel and of its reference, and that their results are equal, at the
   machine's floats and at the ideal ones. -/
module

public import proofs.«01_k».proof.Defs
public import proofs.«01_k».proof.Proof.GatherRef
public import proofs.«01_k».proof.Proof.Gen.Kernel
public import proofs.«01_k».proof.Proof.Gen.ReferenceIdeal
public import proofs.«01_k».proof.Proof.Gen.Reference.Run
public import proofs.«01_k».proof.Proof.Gen.ReferenceIdeal.Run

@[expose] public section

set_option maxRecDepth 16384

noncomputable section

namespace Cert.GatherClaims

open Idealize.ShloMosaic Idealize.ShloMosaic.TcCoe Idealize.SL.Sem
open Cert.KernelIdeal.Hand (gat tokens table run)

theorem frame_KernelIdeal : quiescent_KernelIdeal := fun m ρ hp =>
  (θ_run Cert.KernelIdeal.defs _ _).mono (fun _ h => ⟨fun c => (h.1 c).2, h.2⟩)
    (run (F := Ideal) m ρ (fun c => GatherRef.words_lt _ _ (hp c)))

theorem frame_Kernel : quiescent_Kernel := fun m ρ hp =>
  (θ_run Cert.KernelIdeal.defs _ _).mono (fun _ h => ⟨fun c => (h.1 c).2, h.2⟩)
    (run (F := Bits) m ρ (fun c => GatherRef.words_lt _ _ (hp c)))

theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_Reference : quiescent_Reference := fun m ρ _ =>
  (θ_run Cert.Reference.defs _ _).mono (fun r h => ⟨fun c => (h c).2, sem_eq_zero_of_no_sems (by decide) r.2⟩)
    (Cert.Reference.Value.run (F := Bits) m ρ)

/-- At the ideal floats the kernel and the reference end with equal results. -/
theorem value_ideal : algebraic_KernelIdeal_ReferenceIdeal := fun m ρ m' ρ' hp ha =>
  have hv := fun c => GatherRef.words_lt _ _ (hp c)
  ⟨fun c => gat (F := Ideal) (tokens m c) (table m c),
    (θ_run Cert.KernelIdeal.defs _ _).mono (fun _ h => h.1) (run (F := Ideal) m ρ hv),
    (θ_run Cert.ReferenceIdeal.defs _ _).mono
      (fun _ h c => ⟨(h c).1.trans (by
        rw [(ha c).1, (ha c).2]
        exact GatherRef.ref_eq (F := Ideal) _ _ (hv c)), (h c).2⟩)
      (Cert.ReferenceIdeal.Value.run (F := Ideal) m' ρ')⟩

/-- At the machine's floats the kernel and the reference end with equal results. -/
theorem value_bits : bitexact_Kernel_Reference := fun m ρ m' ρ' hp ha =>
  have hv := fun c => GatherRef.words_lt _ _ (hp c)
  ⟨fun c => gat (F := Bits) (tokens m c) (table m c),
    (θ_run Cert.KernelIdeal.defs _ _).mono (fun _ h => h.1) (run (F := Bits) m ρ hv),
    (θ_run Cert.Reference.defs _ _).mono
      (fun _ h c => ⟨(h c).1.trans (by
        rw [(ha c).1, (ha c).2]
        exact GatherRef.ref_eq (F := Bits) _ _ (hv c)), (h c).2⟩)
      (Cert.Reference.Value.run (F := Bits) m' ρ')⟩

end Cert.GatherClaims

end
-- ==== Proof.MatBlock.lean ====
/- What the matrix products of this file share: a product of two matrices at an index as a sum over the contracted
   coordinate, in the kernel and on the host. -/
module

public import Idealize.ShloMosaic.Lib.MatmulPlain
public import Idealize.ShloMosaic.Lib.StackMember
public import Idealize.ShloMosaic.Lib.KernelVsHost
public import Idealize.ShloMosaic.Lib.Pipeline.Value
public import Idealize.ShloMosaic.Lib.Pipeline.Covers

@[expose] public section

set_option maxRecDepth 16384

noncomputable section

namespace Cert.MatBlock

open Idealize.ShloMosaic Idealize.ShloMosaic.ValueIdx
open scoped BigOperators

theorem hz : (![0, 0] : Fin 2 → Nat) = fun _ => 0 := funext fun a => by fin_cases a <;> rfl

/-- An index of a matrix is the pair of its coordinates. -/
theorem ix2_eta {M N : Nat} (y : (⟨2, ![M, N]⟩ : Shape).Idx) : y = ix2 (y 0) (y 1) := by
  funext a
  match a with
  | ⟨0, _⟩ => rfl
  | ⟨1, _⟩ => rfl

/-- The product at an index: the sum over the contracted coordinate. -/
def mm {M K N : Nat} (A : (⟨2, ![M, K]⟩ : Shape).Idx → EReal) (B : (⟨2, ![K, N]⟩ : Shape).Idx → EReal) (a : Fin M) (b : Fin N) : EReal :=
  ∑ k : Fin K, A (ix2 a k) * B (ix2 k b)

theorem kernel_mm {M K N : Nat} {φ₁ φ₂ : FTy} (prec : Option ContractPrecision)
    (lhs : FVec Ideal ⟨2, ![M, K]⟩ φ₁) (rhs : FVec Ideal ⟨2, ![K, N]⟩ φ₂) (y : (⟨2, ![M, N]⟩ : Shape).Idx) :
    matmul (F := Ideal) (DotDims.plain M K N) prec lhs rhs (constant ⟨2, ![M, N]⟩ .f32 0x00000000#32) y = mm lhs rhs (y 0) (y 1) := by
  have e := ix2_eta y
  conv_lhs => rw [e]
  refine (Ideal.matmul_plain_apply prec lhs rhs _ (y 0) (y 1)).trans ?_
  show Ideal.ofBits .f32 0x00000000#32 + _ = _
  rw [Ideal.ofBits_zero_f32, zero_add]
  rfl

theorem host_mm {M K N : Nat} {φ₁ φ₂ : FTy} (prec : Option ContractPrecision)
    (lhs : FVec Ideal ⟨2, ![M, K]⟩ φ₁) (rhs : FVec Ideal ⟨2, ![K, N]⟩ φ₂) (y : (⟨2, ![M, N]⟩ : Shape).Idx) :
    Host.dotGeneral (F := Ideal) (DotDims.plain M K N) prec lhs rhs y = mm lhs rhs (y 0) (y 1) := by
  have e := ix2_eta y
  conv_lhs => rw [e]
  exact StackMember.dotGeneral_plain_apply prec lhs rhs (y 0) (y 1)

end Cert.MatBlock

end
-- ==== Proof.FfnUp.lean ====
/- The shared feed-forward's first two products and their gate: the call's result and the reference's are the same function of the tokens and of the
   two weights, at the ideal floats, and the frames of both. -/
module

public import proofs.«01_k».proof.Defs
public import proofs.«01_k».proof.Proof.MatBlock
public import Idealize.ShloMosaic.Lib.IdealHost
public import proofs.«01_k».proof.Proof.Gen.Kernel2.Frame
public import proofs.«01_k».proof.Proof.Gen.Kernel2Ideal.Value
public import proofs.«01_k».proof.Proof.Gen.Reference2Ideal.Run

@[expose] public section

set_option maxRecDepth 16384

noncomputable section

namespace Cert.FfnUp

open Cert.Kernel2Ideal Cert.Kernel2Ideal.Gen Idealize.ShloMosaic Idealize.ShloMosaic.TcCoe Idealize.SL.Sem
open Idealize.ShloMosaic.ValueIdx Cert.MatBlock
open Idealize.ShloMosaic.Pipeline (Dat Window)

variable (m : (ℓ : Loc nD τ sig) → Buf (Elt Ideal) ℓ) (ρ : Dev nD → PrngReg)

/-- The gate's activation: `x` times its logistic. -/
def silu (x : EReal) : EReal := x * Ideal.logistic x

/-- The result array as a function of the three arrays the launch reads. -/
def G (A : S8448x4096.Idx → EReal) (B C : S4096x11008.Idx → EReal) : S8448x11008.Idx → EReal := fun i =>
  silu (mm A B (i 0) (i 1)) * mm A C (i 0) (i 1)

theorem pay_apply (x0 : Vec Ideal S768x4096 .bf16) (x1 x2 : Vec Ideal S4096x256 .bf16) (y : S768x256.Idx) :
    k0_pay1 (F := Ideal) x0 x1 x2 y
      = silu (mm (M := 768) (K := 4096) (N := 256) x0 x1 (y 0) (y 1)) * mm (M := 768) (K := 4096) (N := 256) x0 x2 (y 0) (y 1) := by
  unfold k0_pay1
  rw [shapeCast_self, shapeCast_self]
  have h1 := kernel_mm (φ₁ := .bf16) (φ₂ := .bf16) none x0 x1 y
  have h2 := kernel_mm (φ₁ := .bf16) (φ₂ := .bf16) none x0 x2 y
  exact congrArg₂ (fun a b : EReal => silu a * b) h1 h2

theorem emb3_val (t : Fin cfg0.N) (y : S768x256.Idx) (a : Fin 2) :
    ((((cfg0.win 3).blk t).view.emb y) a : Nat) = win0_3.index t a * S768x256.size a + y a :=
  Window.rect_emb_val win0_3 t y a rfl

theorem iblk0_apply (c : Dev nD) (t : Fin cfg0.N) (y : S768x256.Idx) (k : Fin 4096) :
    iblk m c 0 t (ix2 (y 0) k) = V m c main_arg0 (ix2 (((cfg0.win 3).blk t).view.emb y 0) k) := by
  show V m c main_arg0 (((cfg0.win 0).blk t).view.emb (ix2 (y 0) k)) = _
  congr 1
  funext a; apply Fin.ext
  refine (Window.rect_emb_val win0_0 t _ a rfl).trans ?_
  match a with
  | ⟨0, _⟩ => exact (emb3_val t y 0).symm
  | ⟨1, _⟩ => show 0 * 4096 + k.val = k.val; omega

theorem iblk1_apply (c : Dev nD) (t : Fin cfg0.N) (y : S768x256.Idx) (k : Fin 4096) :
    iblk m c 1 t (ix2 k (y 1)) = V m c main_v0 (ix2 k (((cfg0.win 3).blk t).view.emb y 1)) := by
  show V m c main_v0 (((cfg0.win 1).blk t).view.emb (ix2 k (y 1))) = _
  congr 1
  funext a; apply Fin.ext
  refine (Window.rect_emb_val win0_1 t _ a rfl).trans ?_
  match a with
  | ⟨0, _⟩ => show 0 * 4096 + k.val = k.val; omega
  | ⟨1, _⟩ => exact (emb3_val t y 1).symm

theorem iblk2_apply (c : Dev nD) (t : Fin cfg0.N) (y : S768x256.Idx) (k : Fin 4096) :
    iblk m c 2 t (ix2 k (y 1)) = V m c main_v1 (ix2 k (((cfg0.win 3).blk t).view.emb y 1)) := by
  show V m c main_v1 (((cfg0.win 2).blk t).view.emb (ix2 k (y 1))) = _
  congr 1
  funext a; apply Fin.ext
  refine (Window.rect_emb_val win0_2 t _ a rfl).trans ?_
  match a with
  | ⟨0, _⟩ => show 0 * 4096 + k.val = k.val; omega
  | ⟨1, _⟩ => exact (emb3_val t y 1).symm

theorem flushed_eq (c : Dev nD) (t : Fin cfg0.N) :
    (dats m 0 c).flushed 3 t = ((cfg0.win 3).blk t).view.read (Elt Ideal) (G (V m c main_arg0) (V m c main_v0) (V m c main_v1)) := by
  rw [Value.flushed3]
  unfold out0_3
  rw [View.canon_unit_zero hz, View.ld_unit_zero hz, View.ld_unit_zero hz, View.ld_unit_zero hz]
  funext y
  refine (pay_apply _ _ _ y).trans ?_
  refine congrArg₂ (fun a b : EReal => silu a * b)
    (Finset.sum_congr rfl fun k _ => congrArg₂ (fun a b : EReal => a * b) (iblk0_apply m c t y k) (iblk1_apply m c t y k))
    (Finset.sum_congr rfl fun k _ => congrArg₂ (fun a b : EReal => a * b) (iblk0_apply m c t y k) (iblk2_apply m c t y k))

/-- Every index of the result is in some point's block. -/
theorem cover (i : S8448x11008.Idx) :
    ∃ t : Fin cfg0.N, (cfg0.win 3).flush t = true ∧ i ∈ ((cfg0.win 3).blk t).view.set := by
  have h0 : (i 0 : Nat) < 8448 := (i 0).isLt
  have h1 : (i 1 : Nat) < 11008 := (i 1).isLt
  obtain ⟨t, ht⟩ := Pipeline.Grid.coords_surjective grid0 (fun a => match a with
    | ⟨0, _⟩ => (⟨(i 0).val / 768, by show _ < 11; omega⟩ : Fin 11)
    | ⟨1, _⟩ => (⟨(i 1).val / 256, by show _ < 43; omega⟩ : Fin 43))
  refine ⟨t, flush0_3 t, ?_⟩
  show i ∈ ((View.whole main_v2).slice (win0_3.rect t)).set
  rw [View.set_slice_whole, Rect.mem_set_unit]
  have e : win0_3.index t = ![(i 0).val / 768, (i 1).val / 256] := by
    show cc0_transform_3 (grid0.coords t) = _
    rw [ht]
    show ![(BitVec.ofNat 32 ((i 0).val / 768)).toNat, (BitVec.ofNat 32 ((i 1).val / 256)).toNat] = _
    rw [BitVec.toNat_ofNat, BitVec.toNat_ofNat, Nat.mod_eq_of_lt (by omega), Nat.mod_eq_of_lt (by omega)]
  intro a
  match a with
  | ⟨0, _⟩ =>
    show win0_3.index t 0 * 768 ≤ (i 0 : Nat) ∧ (i 0 : Nat) < win0_3.index t 0 * 768 + 768
    rw [e]; show (i 0).val / 768 * 768 ≤ _ ∧ _ < (i 0).val / 768 * 768 + 768; omega
  | ⟨1, _⟩ =>
    show win0_3.index t 1 * 256 ≤ (i 1 : Nat) ∧ (i 1 : Nat) < win0_3.index t 1 * 256 + 256
    rw [e]; show (i 1).val / 256 * 256 ≤ _ ∧ _ < (i 1).val / 256 * 256 + 256; omega

theorem V_v0 (c : Dev nD) : V m c main_v0 = m ((c : Thread nD τ).loc main_arg1) := by
  have h : V m c main_v0 = truncf (F := Ideal) (s := S4096x11008) .bf16 (m ((c : Thread nD τ).loc main_arg1)) bitsLt_bf16_f32 := by
    show StableHlo.after hostOps0 _ _ = _
    after_results
  rw [h]; rfl

theorem V_v1 (c : Dev nD) : V m c main_v1 = m ((c : Thread nD τ).loc main_arg2) := by
  have h : V m c main_v1 = truncf (F := Ideal) (s := S4096x11008) .bf16 (m ((c : Thread nD τ).loc main_arg2)) bitsLt_bf16_f32 := by
    show StableHlo.after hostOps0 _ _ = _
    after_results
  rw [h]; rfl

theorem final (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 _ (fun t _ => flushed_eq m c t) cover).trans (by rw [V_main_arg0, V_v0, V_v1])

/-! ## The claims -/

theorem frame_K : quiescent_Kernel2 := fun m ρ _ => Cert.Kernel2.Gen.frame m ρ
theorem frame_KI : quiescent_Kernel2Ideal := fun m ρ _ => Cert.Kernel2Ideal.Gen.frame m ρ
theorem frame_RI : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Reference2Ideal.Gen (bcast_S_S8448x11008) in
/-- The reference's term at an index. -/
theorem ref_apply (A : FVec Ideal S8448x4096 .bf16) (B C : FVec Ideal S4096x11008 .f32) :
    truncf (F := Ideal) (s := Cert.Reference2Ideal.S8448x11008) .bf16 (mulf (mulf
        (Host.dotGeneral Cert.Reference2Ideal.dot_S8448x4096_S4096x11008_S8448x11008_1_0_0_1_n_n none (extf .f32 A Cert.Reference2Ideal.Gen.bitsLt_bf16_f32) B)
        (Host.divf (broadcastInDim Cert.Reference2Ideal.S8448x11008 ![] bcast_S_S8448x11008 (constant Cert.Reference2Ideal.S_ .f32 0x3F800000#32))
          (addf (broadcastInDim Cert.Reference2Ideal.S8448x11008 ![] bcast_S_S8448x11008 (constant Cert.Reference2Ideal.S_ .f32 0x3F800000#32))
            (Host.exp (Host.negf (Host.dotGeneral Cert.Reference2Ideal.dot_S8448x4096_S4096x11008_S8448x11008_1_0_0_1_n_n none (extf .f32 A Cert.Reference2Ideal.Gen.bitsLt_bf16_f32) B))))))
        (Host.dotGeneral Cert.Reference2Ideal.dot_S8448x4096_S4096x11008_S8448x11008_1_0_0_1_n_n none (extf .f32 A Cert.Reference2Ideal.Gen.bitsLt_bf16_f32) C))
      Cert.Reference2Ideal.Gen.bitsLt_bf16_f32 = G A B C := by
  funext i
  have h1 := host_mm (φ₁ := .f32) (φ₂ := .f32) none A B i
  have h2 := host_mm (φ₁ := .f32) (φ₂ := .f32) none A C i
  refine (congrArg₂ (fun a b : EReal => a * Ideal.div (Ideal.ofBits .f32 0x3F800000#32) (Ideal.ofBits .f32 0x3F800000#32 + Ideal.exp (-a)) * b) h1 h2).trans ?_
  rw [Ideal.ofBits_one_f32]
  rfl

theorem value : algebraic_Kernel2Ideal_Reference2Ideal := fun m g m' g' _ hm =>
  ⟨fun c => G (m ((c.tc : Thread nD τ).loc main_arg0)) (m ((c.tc : Thread nD τ).loc main_arg1)) (m ((c.tc : Thread nD τ).loc main_arg2)),
    (θ_run Cert.Kernel2Ideal.defs _ _).mono (fun r h c => ⟨(h c).1.trans (final m c), (h c).2⟩)
      (Cert.Kernel2Ideal.Value.run_blocks (F := Ideal) m g),
    (θ_run Cert.Reference2Ideal.defs _ _).mono (fun r h c => ⟨(h c).1.trans (by rw [(hm c).1, (hm c).2.1, (hm c).2.2]; exact ref_apply _ _ _), (h c).2⟩)
      (Cert.Reference2Ideal.Value.run (F := Ideal) m' g')⟩

end Cert.FfnUp

end
-- ==== Proof.Resid.lean ====
/- What the two products that end in a gated residual share: the kernel's block, whose gate is the image's row of the
   modulation below row 8192 and the text's from there on, and the reference's two pieces put end to end. -/
module

public import proofs.«01_k».proof.Proof.MatBlock
public import Idealize.ShloMosaic.Lib.WordCmp
public import Idealize.ShloMosaic.Lib.Pipeline.ValueKit.Tiles

@[expose] public section

set_option maxRecDepth 16384

noncomputable section

namespace Cert.Resid

open Idealize.ShloMosaic Idealize.ShloMosaic.ValueIdx Cert.MatBlock
open scoped BigOperators

/-- A bit that is not one is zero. -/
theorem eq_zero_of_ne_one {c : BitVec 1} (h : c ≠ 1#1) : c = 0#1 := by
  revert c
  decide

/-- The block of rows `768·b … 768·b + 767` of a gated residual, at an index. -/
theorem kernel_apply {N : Nat} (hN : N ≠ 1) (b : Nat) (hb : b < 11)
    (hi : (⟨2, ![768, 1]⟩ : Shape).Iotas .tc 32 [0]) (h1 : (⟨2, ![768, 1]⟩ : Shape).Broadcasts ⟨2, ![768, N]⟩)
    (h2 : (⟨2, ![1, N]⟩ : Shape).Broadcasts ⟨2, ![768, N]⟩)
    (g₁ g₀ : FVec Ideal ⟨2, ![1, N]⟩ .f32) (x p : FVec Ideal ⟨2, ![768, N]⟩ .f32) (y : (⟨2, ![768, N]⟩ : Shape).Idx) :
    addf (F := Ideal) x (mulf (select
        (broadcastTo ⟨2, ![768, N]⟩ (cmpi .sge (addi (broadcast ⟨2, ![768, 1]⟩ (Scalar.muli (BitVec.ofNat 32 b) 768#32))
          (iota .tc ⟨2, ![768, 1]⟩ 32 [0] hi)) (broadcast ⟨2, ![768, 1]⟩ 8192#32)) h1)
        (broadcastTo ⟨2, ![768, N]⟩ g₁ h2) (broadcastTo ⟨2, ![768, N]⟩ g₀ h2)) p) y
      = (x y + (if 8192 ≤ b * 768 + (y 0).val then g₁ (ix2 0 (y 1)) else g₀ (ix2 0 (y 1))) * p y : EReal) := by
  have hy : (y 0).val < 768 := (y 0).isLt
  have e1 := broadcastTo_apply (t := ⟨2, ![768, N]⟩) (cmpi .sge (addi (broadcast ⟨2, ![768, 1]⟩ (Scalar.muli (BitVec.ofNat 32 b) 768#32))
          (iota .tc ⟨2, ![768, 1]⟩ 32 [0] hi)) (broadcast ⟨2, ![768, 1]⟩ 8192#32)) h1 y (ix2 (y 0) 0) (by
    intro a
    match a with
    | ⟨0, _⟩ => rfl
    | ⟨1, _⟩ => rfl)
  have ec : cmpi .sge (addi (broadcast ⟨2, ![768, 1]⟩ (Scalar.muli (BitVec.ofNat 32 b) 768#32))
          (iota .tc ⟨2, ![768, 1]⟩ 32 [0] hi)) (broadcast ⟨2, ![768, 1]⟩ 8192#32) (ix2 (y 0) 0)
        = BitVec.ofBool (decide (8192 ≤ b * 768 + (y 0).val)) := by
    have e : IntOp.addi (IntOp.muli (BitVec.ofNat 32 b) 768#32) (BitVec.ofNat 32 (0 * 768 + (y 0).val))
        = BitVec.ofNat 32 (b * 768 + (y 0).val) := by
      show BitVec.ofNat 32 b * BitVec.ofNat 32 768 + BitVec.ofNat 32 (0 * 768 + (y 0).val) = _
      rw [Nat.zero_mul, Nat.zero_add]
      apply BitVec.eq_of_toNat_eq
      rw [BitVec.toNat_add, BitVec.toNat_mul, BitVec.toNat_ofNat, BitVec.toNat_ofNat, BitVec.toNat_ofNat, BitVec.toNat_ofNat]
      omega
    show IntOp.cmpi .sge (IntOp.addi (IntOp.muli (BitVec.ofNat 32 b) 768#32) (BitVec.ofNat 32 (0 * 768 + (y 0).val))) 8192#32 = _
    rw [e]
    show IntOp.cmpi .sge _ (BitVec.ofNat 32 8192) = _
    by_cases h : 8192 ≤ b * 768 + (y 0).val
    · rw [decide_eq_true h]
      exact (WordCmp.cmpi_sge_ofNat_eq_one_iff (by omega) (by decide)).mpr h
    · rw [decide_eq_false h]
      exact eq_zero_of_ne_one (fun e => h ((WordCmp.cmpi_sge_ofNat_eq_one_iff (by omega) (by decide)).mp e))
  have e2 := fun g : FVec Ideal ⟨2, ![1, N]⟩ .f32 => broadcastTo_apply (t := ⟨2, ![768, N]⟩) g h2 y (ix2 0 (y 1)) (by
    intro a
    match a with
    | ⟨0, _⟩ => rfl
    | ⟨1, _⟩ => exact (if_neg hN).symm)
  show x y + Scalar.select (broadcastTo ⟨2, ![768, N]⟩ _ h1 y) (broadcastTo ⟨2, ![768, N]⟩ g₁ h2 y) (broadcastTo ⟨2, ![768, N]⟩ g₀ h2 y) * p y = _
  rw [e1, ec, e2, e2]
  unfold Scalar.select
  by_cases h : 8192 ≤ b * 768 + (y 0).val
  · rw [if_pos h, if_pos (by rw [decide_eq_true h]; rfl)]
  · rw [if_neg h, if_neg (by rw [decide_eq_false h]; decide)]

/-- The gated residual at an index: the gate is row 1 of the modulation from row 8192 on, row 0 before, columns from `o`. -/
def resid (o : Nat) (ho : o + 4096 ≤ 24576) (x p : (⟨2, ![8448, 4096]⟩ : Shape).Idx → EReal) (md : (⟨2, ![8, 24576]⟩ : Shape).Idx → EReal) :
    (⟨2, ![8448, 4096]⟩ : Shape).Idx → EReal := fun i =>
  x i + (if 8192 ≤ (i 0).val then md (ix2 1 ⟨o + (i 1).val, by have : (i 1).val < 4096 := (i 1).isLt; omega⟩)
    else md (ix2 0 ⟨o + (i 1).val, by have : (i 1).val < 4096 := (i 1).isLt; omega⟩)) * p i

/-- One row of the modulation's columns from `o`, repeated down `R` rows, at an index. -/
theorem gate_apply (R o r : Nat) (hr : r < 8) (ho : o + 4096 ≤ 24576)
    (h1 : (⟨2, ![8, 24576]⟩ : Shape).Slices ![r, 0] ⟨2, ![1, 24576]⟩) (h2 : (⟨2, ![1, 24576]⟩ : Shape).ShapeCasts ⟨1, ![24576]⟩)
    (h3 : (⟨1, ![24576]⟩ : Shape).Slices ![o] ⟨1, ![4096]⟩)
    (h4 : (⟨1, ![4096]⟩ : Shape).BroadcastsInDim ⟨2, ![1, 4096]⟩ (![1] : Fin 1 → Fin 2))
    (h5 : (⟨2, ![1, 4096]⟩ : Shape).BroadcastsInDim ⟨2, ![R, 4096]⟩ (![0, 1] : Fin 2 → Fin 2))
    (md : (⟨2, ![8, 24576]⟩ : Shape).Idx → EReal) (j : (⟨2, ![R, 4096]⟩ : Shape).Idx) :
    broadcastInDim ⟨2, ![R, 4096]⟩ ![0, 1] h5 (broadcastInDim ⟨2, ![1, 4096]⟩ ![1] h4 (extractStridedSlice ⟨1, ![4096]⟩ ![o]
        (shapeCast ⟨1, ![24576]⟩ (extractStridedSlice ⟨2, ![1, 24576]⟩ ![r, 0] md h1) h2) h3)) j
      = md (ix2 ⟨r, hr⟩ ⟨o + (j 1).val, by have : (j 1).val < 4096 := (j 1).isLt; omega⟩) := by
  have hj : (j 1).val < 4096 := (j 1).isLt
  refine (broadcastInDim_apply _ h5 _ j (ix2 0 (j 1)) ?_).trans ?_
  · intro a
    match a with
    | ⟨0, _⟩ => rfl
    | ⟨1, _⟩ => rfl
  refine (broadcastInDim_apply _ h4 _ _ (ix1 (j 1)) ?_).trans ?_
  · intro a
    match a with
    | ⟨0, _⟩ => rfl
  refine (extractStridedSlice_apply (s := ⟨1, ![24576]⟩) (t := ⟨1, ![4096]⟩) ![o] _ h3 _ (ix1 ⟨o + (j 1).val, by omega⟩) ?_).trans ?_
  · intro a
    match a with
    | ⟨0, _⟩ => rfl
  refine (shapeCast_apply _ h2 _ (ix2 0 ⟨o + (j 1).val, by omega⟩) ?_).trans ?_
  · rw [Shape.rowMajor_val_two, Shape.rowMajor_val_one]
    show 0 * 24576 + (o + (j 1).val) = o + (j 1).val
    omega
  refine extractStridedSlice_apply (s := ⟨2, ![8, 24576]⟩) (t := ⟨2, ![1, 24576]⟩) ![r, 0] md h1 _ _ ?_
  intro a
  match a with
  | ⟨0, _⟩ => rfl
  | ⟨1, _⟩ => exact (Nat.zero_add _).symm

/-- The reference's two pieces put end to end. -/
theorem host_apply (o : Nat) (ho : o + 4096 ≤ 24576)
    (s0 : (⟨2, ![8448, 4096]⟩ : Shape).Slices ![0, 0] ⟨2, ![8192, 4096]⟩) (s1 : (⟨2, ![8448, 4096]⟩ : Shape).Slices ![8192, 0] ⟨2, ![256, 4096]⟩)
    (h10 : (⟨2, ![8, 24576]⟩ : Shape).Slices ![0, 0] ⟨2, ![1, 24576]⟩) (h11 : (⟨2, ![8, 24576]⟩ : Shape).Slices ![1, 0] ⟨2, ![1, 24576]⟩)
    (h2 : (⟨2, ![1, 24576]⟩ : Shape).ShapeCasts ⟨1, ![24576]⟩) (h3 : (⟨1, ![24576]⟩ : Shape).Slices ![o] ⟨1, ![4096]⟩)
    (h4 : (⟨1, ![4096]⟩ : Shape).BroadcastsInDim ⟨2, ![1, 4096]⟩ (![1] : Fin 1 → Fin 2))
    (h50 : (⟨2, ![1, 4096]⟩ : Shape).BroadcastsInDim ⟨2, ![8192, 4096]⟩ (![0, 1] : Fin 2 → Fin 2))
    (h51 : (⟨2, ![1, 4096]⟩ : Shape).BroadcastsInDim ⟨2, ![256, 4096]⟩ (![0, 1] : Fin 2 → Fin 2))
    (hc : Shape.Concatenates [⟨2, ![8192, 4096]⟩, ⟨2, ![256, 4096]⟩] ⟨2, ![8448, 4096]⟩ 0)
    (x p : FVec Ideal ⟨2, ![8448, 4096]⟩ .f32) (md : FVec Ideal ⟨2, ![8, 24576]⟩ .f32) :
    concatenate ⟨2, ![8448, 4096]⟩ 0
      [⟨⟨2, ![8192, 4096]⟩, addf (F := Ideal) (φ := .f32) (extractStridedSlice ⟨2, ![8192, 4096]⟩ ![0, 0] x s0)
        (mulf (broadcastInDim ⟨2, ![8192, 4096]⟩ ![0, 1] h50 (broadcastInDim ⟨2, ![1, 4096]⟩ ![1] h4 (extractStridedSlice ⟨1, ![4096]⟩ ![o]
          (shapeCast ⟨1, ![24576]⟩ (extractStridedSlice ⟨2, ![1, 24576]⟩ ![0, 0] md h10) h2) h3)))
          (extractStridedSlice ⟨2, ![8192, 4096]⟩ ![0, 0] p s0))⟩,
       ⟨⟨2, ![256, 4096]⟩, addf (F := Ideal) (φ := .f32) (extractStridedSlice ⟨2, ![256, 4096]⟩ ![8192, 0] x s1)
        (mulf (broadcastInDim ⟨2, ![256, 4096]⟩ ![0, 1] h51 (broadcastInDim ⟨2, ![1, 4096]⟩ ![1] h4 (extractStridedSlice ⟨1, ![4096]⟩ ![o]
          (shapeCast ⟨1, ![24576]⟩ (extractStridedSlice ⟨2, ![1, 24576]⟩ ![1, 0] md h11) h2) h3)))
          (extractStridedSlice ⟨2, ![256, 4096]⟩ ![8192, 0] p s1))⟩] hc
      = resid o ho x p md := by
  funext i
  have hi0 : (i 0).val < 8448 := (i 0).isLt
  by_cases h : 8192 ≤ (i 0).val
  · refine (concatenate_pair_apply_right (t := ⟨2, ![8448, 4096]⟩) 0 _ _ hc i rfl rfl (ix2 ⟨(i 0).val - 8192, by omega⟩ (i 1)) ?_ ?_).trans ?_
    · intro b hb
      match b with
      | ⟨0, _⟩ => exact absurd rfl hb
      | ⟨1, _⟩ => rfl
    · show (i 0).val - 8192 + 8192 = (i 0).val; omega
    unfold resid
    rw [if_pos h]
    have ex := fun z : FVec Ideal ⟨2, ![8448, 4096]⟩ .f32 => extractStridedSlice_apply (s := ⟨2, ![8448, 4096]⟩) (t := ⟨2, ![256, 4096]⟩) ![8192, 0] z s1 (ix2 ⟨(i 0).val - 8192, by omega⟩ (i 1)) i (by
      intro a
      match a with
      | ⟨0, _⟩ => show (i 0).val = 8192 + ((i 0).val - 8192); omega
      | ⟨1, _⟩ => exact (Nat.zero_add _).symm)
    have eg := gate_apply 256 o 1 (by decide) ho h11 h2 h3 h4 h51 md (ix2 ⟨(i 0).val - 8192, by omega⟩ (i 1))
    show extractStridedSlice _ _ x s1 _ + broadcastInDim _ _ _ _ _ * extractStridedSlice _ _ p s1 _ = _
    rw [ex x, ex p, eg]
    rfl
  · refine (concatenate_pair_apply_left (t := ⟨2, ![8448, 4096]⟩) 0 _ _ hc i rfl (ix2 ⟨(i 0).val, by omega⟩ (i 1)) ?_).trans ?_
    · intro b
      match b with
      | ⟨0, _⟩ => rfl
      | ⟨1, _⟩ => rfl
    unfold resid
    rw [if_neg h]
    have ex := fun z : FVec Ideal ⟨2, ![8448, 4096]⟩ .f32 => extractStridedSlice_apply (s := ⟨2, ![8448, 4096]⟩) (t := ⟨2, ![8192, 4096]⟩) ![0, 0] z s0 (ix2 ⟨(i 0).val, by omega⟩ (i 1)) i (by
      intro a
      match a with
      | ⟨0, _⟩ => exact (Nat.zero_add _).symm
      | ⟨1, _⟩ => exact (Nat.zero_add _).symm)
    have eg := gate_apply 8192 o 0 (by decide) ho h10 h2 h3 h4 h50 md (ix2 ⟨(i 0).val, by omega⟩ (i 1))
    show extractStridedSlice _ _ x s0 _ + broadcastInDim _ _ _ _ _ * extractStridedSlice _ _ p s0 _ = _
    rw [ex x, ex p, eg]
    rfl

end Cert.Resid

end
-- ==== Proof.FfnDown.lean ====
/- The shared feed-forward's last product, gated and added to the residual: the call's result and the reference's are the same function of the
   hidden values, the weight, the residual and the modulation, at the ideal floats, and the frames of both. -/
module

public import proofs.«01_k».proof.Defs
public import proofs.«01_k».proof.Proof.Resid
public import proofs.«01_k».proof.Proof.Gen.Kernel3.Frame
public import proofs.«01_k».proof.Proof.Gen.Kernel3Ideal.Value
public import proofs.«01_k».proof.Proof.Gen.Reference3Ideal.Run

@[expose] public section

set_option maxRecDepth 16384

noncomputable section

namespace Cert.FfnDown

open Cert.Kernel3Ideal Cert.Kernel3Ideal.Gen Idealize.ShloMosaic Idealize.ShloMosaic.TcCoe Idealize.SL.Sem
open Idealize.ShloMosaic.ValueIdx Cert.MatBlock Cert.Resid
open Idealize.ShloMosaic.Pipeline (Dat Window)

variable (m : (ℓ : Loc nD τ sig) → Buf (Elt Ideal) ℓ) (ρ : Dev nD → PrngReg)

/-- The result array as a function of the four arrays the launch reads. -/
def G (A : S8448x11008.Idx → EReal) (B : S11008x4096.Idx → EReal) (X : S8448x4096.Idx → EReal) (D : S8x24576.Idx → EReal) : S8448x4096.Idx → EReal :=
  resid 20480 (by decide) X (fun i => mm A B (i 0) (i 1)) D

theorem pay_apply (i : grid0.Coords) (x0 : Vec Ideal S768x11008 .bf16) (x1 : Vec Ideal S11008x256 .bf16) (g₁ g₀ : Vec Ideal S1x256 .f32) (x2 : Vec Ideal S768x256 .f32) (y : S768x256.Idx) :
    k0_pay1 (F := Ideal) i x0 x1 g₁ g₀ x2 y
      = (x2 y + (if 8192 ≤ (i 0).val * 768 + (y 0).val then g₁ (ix2 0 (y 1)) else g₀ (ix2 0 (y 1)))
          * mm (M := 768) (K := 11008) (N := 256) x0 x1 (y 0) (y 1) : EReal) := by
  unfold k0_pay1
  rw [shapeCast_self, shapeCast_self, shapeCast_self, shapeCast_self]
  have h1 := kernel_mm (φ₁ := .bf16) (φ₂ := .bf16) none x0 x1 y
  refine (kernel_apply (N := 256) (by decide) (i 0).val (i 0).isLt _ _ _ g₁ g₀ x2 _ y).trans ?_
  rw [← h1]
  rfl

theorem emb4_val (t : Fin cfg0.N) (y : S768x256.Idx) (a : Fin 2) :
    ((((cfg0.win 4).blk t).view.emb y) a : Nat) = win0_4.index t a * S768x256.size a + y a :=
  Window.rect_emb_val win0_4 t y a rfl

theorem index0 (t : Fin cfg0.N) : win0_4.index t 0 = (grid0.coords t 0).val := by
  have h : (grid0.coords t 0).val < 11 := (grid0.coords t 0).isLt
  show (BitVec.ofNat 32 (grid0.coords t 0).val).toNat = _
  rw [BitVec.toNat_ofNat, Nat.mod_eq_of_lt (by omega)]

theorem index1 (t : Fin cfg0.N) : win0_4.index t 1 = (grid0.coords t 1).val := by
  have h : (grid0.coords t 1).val < 16 := (grid0.coords t 1).isLt
  show (BitVec.ofNat 32 (grid0.coords t 1).val).toNat = _
  rw [BitVec.toNat_ofNat, Nat.mod_eq_of_lt (by omega)]

theorem index3 (t : Fin cfg0.N) : win0_3.index t 1 = 80 + (grid0.coords t 1).val := by
  have h : (grid0.coords t 1).val < 16 := (grid0.coords t 1).isLt
  show (BitVec.ofNat 32 80 + BitVec.ofNat 32 (grid0.coords t 1).val).toNat = _
  rw [BitVec.toNat_add, BitVec.toNat_ofNat, BitVec.toNat_ofNat]
  omega

theorem iblk0_apply (c : Dev nD) (t : Fin cfg0.N) (y : S768x256.Idx) (k : Fin 11008) :
    iblk m c 0 t (ix2 (y 0) k) = V m c main_arg0 (ix2 (((cfg0.win 4).blk t).view.emb y 0) k) := by
  show V m c main_arg0 (((cfg0.win 0).blk t).view.emb (ix2 (y 0) k)) = _
  congr 1
  funext a; apply Fin.ext
  refine (Window.rect_emb_val win0_0 t _ a rfl).trans ?_
  match a with
  | ⟨0, _⟩ => exact (emb4_val t y 0).symm
  | ⟨1, _⟩ => show 0 * 11008 + k.val = k.val; omega

theorem iblk1_apply (c : Dev nD) (t : Fin cfg0.N) (y : S768x256.Idx) (k : Fin 11008) :
    iblk m c 1 t (ix2 k (y 1)) = V m c main_v0 (ix2 k (((cfg0.win 4).blk t).view.emb y 1)) := by
  show V m c main_v0 (((cfg0.win 1).blk t).view.emb (ix2 k (y 1))) = _
  congr 1
  funext a; apply Fin.ext
  refine (Window.rect_emb_val win0_1 t _ a rfl).trans ?_
  match a with
  | ⟨0, _⟩ => show 0 * 11008 + k.val = k.val; omega
  | ⟨1, _⟩ => exact (emb4_val t y 1).symm

theorem iblk2_apply (c : Dev nD) (t : Fin cfg0.N) (y : S768x256.Idx) :
    iblk m c 2 t y = V m c main_arg2 (((cfg0.win 4).blk t).view.emb y) := by
  show V m c main_arg2 (((cfg0.win 2).blk t).view.emb y) = _
  refine congrArg (V m c main_arg2) ?_
  funext a; apply Fin.ext
  exact (Window.rect_emb_val win0_2 t _ a rfl).trans (emb4_val t y a).symm

/-- The modulation's block at row `r`, at the columns of the gate. -/
theorem iblk3_apply (c : Dev nD) (t : Fin cfg0.N) (y : S768x256.Idx) (r : Fin 8) (l : Fin 24576)
    (hl : l.val = 20480 + (((cfg0.win 4).blk t).view.emb y 1 : Nat)) :
    iblk m c 3 t (ix2 r (y 1)) = V m c main_arg3 (ix2 r l) := by
  show V m c main_arg3 (((cfg0.win 3).blk t).view.emb (ix2 r (y 1))) = _
  congr 1
  funext a; apply Fin.ext
  refine (Window.rect_emb_val win0_3 t _ a rfl).trans ?_
  match a with
  | ⟨0, _⟩ => show 0 * 8 + r.val = r.val; omega
  | ⟨1, _⟩ =>
    show win0_3.index t 1 * 256 + (y 1).val = l.val
    rw [index3, hl, emb4_val, index1]
    show _ = 20480 + ((grid0.coords t 1).val * 256 + (y 1).val)
    omega

theorem ld_gate (r : Nat) (hr : r < 8) (h : ∀ a, (![r, 0] : Fin 2 → Nat) a + S1x256.size a ≤ S8x256.size a) (x : Vec Ideal S8x256 .f32) (j : Fin 256) :
    View.ld x (Rect.unit (s := S8x256) ![r, 0] S1x256.size h) (ix2 0 j) = x (ix2 ⟨r, hr⟩ j) := by
  refine View.ld_unit_apply_of x _ _ h _ _ ?_
  intro a
  match a with
  | ⟨0, _⟩ => rfl
  | ⟨1, _⟩ => exact (Nat.zero_add _).symm

theorem flushed_eq (c : Dev nD) (t : Fin cfg0.N) :
    (dats m 0 c).flushed 4 t = ((cfg0.win 4).blk t).view.read (Elt Ideal) (G (V m c main_arg0) (V m c main_v0) (V m c main_arg2) (V m c main_arg3)) := by
  rw [Value.flushed4]
  unfold out0_4
  rw [View.canon_unit_zero hz, View.ld_unit_zero hz, View.ld_unit_zero hz, View.ld_unit_zero hz]
  funext y
  refine (pay_apply _ _ _ _ _ _ y).trans ?_
  have hp : mm (M := 768) (K := 11008) (N := 256) (iblk m c 0 t) (iblk m c 1 t) (y 0) (y 1)
      = mm (V m c main_arg0) (V m c main_v0) (((cfg0.win 4).blk t).view.emb y 0) (((cfg0.win 4).blk t).view.emb y 1) :=
    Finset.sum_congr rfl fun k _ => congrArg₂ (fun a b : EReal => a * b) (iblk0_apply m c t y k) (iblk1_apply m c t y k)
  have hrow : (((cfg0.win 4).blk t).view.emb y 0 : Nat) = (grid0.coords t 0).val * 768 + (y 0).val := by
    rw [emb4_val, index0]; rfl
  have hlt : (((cfg0.win 4).blk t).view.emb y 1 : Nat) < 4096 := (((cfg0.win 4).blk t).view.emb y 1).isLt
  rw [hp, iblk2_apply]
  show _ = G (V m c main_arg0) (V m c main_v0) (V m c main_arg2) (V m c main_arg3) (((cfg0.win 4).blk t).view.emb y)
  unfold G resid
  rw [hrow]
  unfold r0_2 r0_3
  refine congrArg₂ (fun a b : EReal => a + b) rfl (congrArg₂ (fun a b : EReal => a * b) (if_congr Iff.rfl ?_ ?_) rfl)
  · exact (ld_gate 1 (by decide) _ (iblk m c 3 t) (y 1)).trans (iblk3_apply m c t y ⟨1, by decide⟩ ⟨20480 + (((cfg0.win 4).blk t).view.emb y 1 : Nat), by omega⟩ rfl)
  · exact (ld_gate 0 (by decide) _ (iblk m c 3 t) (y 1)).trans (iblk3_apply m c t y ⟨0, by decide⟩ ⟨20480 + (((cfg0.win 4).blk t).view.emb y 1 : Nat), by omega⟩ rfl)

/-- Every index of the result is in some point's block. -/
theorem cover (i : S8448x4096.Idx) :
    ∃ t : Fin cfg0.N, (cfg0.win 4).flush t = true ∧ i ∈ ((cfg0.win 4).blk t).view.set := by
  have h0 : (i 0 : Nat) < 8448 := (i 0).isLt
  have h1 : (i 1 : Nat) < 4096 := (i 1).isLt
  obtain ⟨t, ht⟩ := Pipeline.Grid.coords_surjective grid0 (fun a => match a with
    | ⟨0, _⟩ => (⟨(i 0).val / 768, by show _ < 11; omega⟩ : Fin 11)
    | ⟨1, _⟩ => (⟨(i 1).val / 256, by show _ < 16; omega⟩ : Fin 16))
  refine ⟨t, flush0_4 t, ?_⟩
  show i ∈ ((View.whole main_v1).slice (win0_4.rect t)).set
  rw [View.set_slice_whole, Rect.mem_set_unit]
  have e : win0_4.index t = ![(i 0).val / 768, (i 1).val / 256] := by
    show cc0_transform_4 (grid0.coords t) = _
    rw [ht]
    show ![(BitVec.ofNat 32 ((i 0).val / 768)).toNat, (BitVec.ofNat 32 ((i 1).val / 256)).toNat] = _
    rw [BitVec.toNat_ofNat, BitVec.toNat_ofNat, Nat.mod_eq_of_lt (by omega), Nat.mod_eq_of_lt (by omega)]
  intro a
  match a with
  | ⟨0, _⟩ =>
    show win0_4.index t 0 * 768 ≤ (i 0 : Nat) ∧ (i 0 : Nat) < win0_4.index t 0 * 768 + 768
    rw [e]; show (i 0).val / 768 * 768 ≤ _ ∧ _ < (i 0).val / 768 * 768 + 768; omega
  | ⟨1, _⟩ =>
    show win0_4.index t 1 * 256 ≤ (i 1 : Nat) ∧ (i 1 : Nat) < win0_4.index t 1 * 256 + 256
    rw [e]; show (i 1).val / 256 * 256 ≤ _ ∧ _ < (i 1).val / 256 * 256 + 256; omega

theorem V_v0 (c : Dev nD) : V m c main_v0 = m ((c : Thread nD τ).loc main_arg1) := by
  have h : V m c main_v0 = truncf (F := Ideal) (s := S11008x4096) .bf16 (m ((c : Thread nD τ).loc main_arg1)) bitsLt_bf16_f32 := by
    show StableHlo.after hostOps0 _ _ = _
    after_results
  rw [h]; rfl

theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) :=
  ((dats m 0 c).arrAt_eq_of_cover 4 _ (fun t _ => flushed_eq m c t) cover).trans (by rw [V_main_arg0, V_v0, V_main_arg2, V_main_arg3])

/-! ## The claims -/

theorem frame_K : quiescent_Kernel3 := fun m ρ _ => Cert.Kernel3.Gen.frame m ρ
theorem frame_KI : quiescent_Kernel3Ideal := fun m ρ _ => Cert.Kernel3Ideal.Gen.frame m ρ
theorem frame_RI : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's product. -/
theorem ref_mm (A : FVec Ideal S8448x11008 .bf16) (B : FVec Ideal S11008x4096 .f32) :
    Host.dotGeneral Cert.Reference3Ideal.dot_S8448x11008_S11008x4096_S8448x4096_1_0_0_1_n_n none (extf .f32 A Cert.Reference3Ideal.Gen.bitsLt_bf16_f32) B
      = (fun i => mm A B (i 0) (i 1) : S8448x4096.Idx → EReal) := by
  funext i
  exact host_mm (φ₁ := .f32) (φ₂ := .f32) none A B i

theorem value : algebraic_Kernel3Ideal_Reference3Ideal := fun m g m' g' _ hm =>
  ⟨fun c => G (m ((c.tc : Thread nD τ).loc main_arg0)) (m ((c.tc : Thread nD τ).loc main_arg1)) (m ((c.tc : Thread nD τ).loc main_arg2)) (m ((c.tc : Thread nD τ).loc main_arg3)),
    (θ_run Cert.Kernel3Ideal.defs _ _).mono (fun r h c => ⟨(h c).1.trans (final m c), (h c).2⟩)
      (Cert.Kernel3Ideal.Value.run_blocks (F := Ideal) m g),
    (θ_run Cert.Reference3Ideal.defs _ _).mono (fun r h c => ⟨(h c).1.trans (by
        rw [(hm c).1, (hm c).2.1, (hm c).2.2.1, (hm c).2.2.2, ref_mm]
        exact host_apply 20480 (by decide) _ _ _ _ _ _ _ _ _ _ _ _ _), (h c).2⟩)
      (Cert.Reference3Ideal.Value.run (F := Ideal) m' g')⟩

end Cert.FfnDown

end
-- ==== Proof.InProj.lean ====
/- The projection into the mixers: the call's result and the reference's are the same function of the tokens and of the
   weight, at the ideal floats, and the frames of both. -/
module

public import proofs.«01_k».proof.Defs
public import proofs.«01_k».proof.Proof.MatBlock
public import proofs.«01_k».proof.Proof.Gen.Kernel4.Frame
public import proofs.«01_k».proof.Proof.Gen.Kernel4Ideal.Value
public import proofs.«01_k».proof.Proof.Gen.Reference4Ideal.Run

@[expose] public section

set_option maxRecDepth 16384

noncomputable section

namespace Cert.InProj

open Cert.Kernel4Ideal Cert.Kernel4Ideal.Gen Idealize.ShloMosaic Idealize.ShloMosaic.TcCoe Idealize.SL.Sem
open Idealize.ShloMosaic.ValueIdx Cert.MatBlock
open Idealize.ShloMosaic.Pipeline (Dat Window)

variable (m : (ℓ : Loc nD τ sig) → Buf (Elt Ideal) ℓ) (ρ : Dev nD → PrngReg)

/-- The result array as a function of the two arrays the launch reads. -/
def G (A : S8448x4096.Idx → EReal) (B : S4096x11776.Idx → EReal) : S8448x11776.Idx → EReal := fun i => mm A B (i 0) (i 1)

theorem pay_apply (x0 : Vec Ideal S768x4096 .bf16) (x1 : Vec Ideal S4096x512 .bf16) (y : S768x512.Idx) :
    k0_pay1 (F := Ideal) x0 x1 y = mm (M := 768) (K := 4096) (N := 512) x0 x1 (y 0) (y 1) := by
  unfold k0_pay1
  rw [shapeCast_self]
  exact kernel_mm (φ₁ := .bf16) (φ₂ := .bf16) none x0 x1 y

theorem emb2_val (t : Fin cfg0.N) (y : S768x512.Idx) (a : Fin 2) :
    ((((cfg0.win 2).blk t).view.emb y) a : Nat) = win0_2.index t a * S768x512.size a + y a :=
  Window.rect_emb_val win0_2 t y a rfl

theorem iblk0_apply (c : Dev nD) (t : Fin cfg0.N) (y : S768x512.Idx) (k : Fin 4096) :
    iblk m c 0 t (ix2 (y 0) k) = V m c main_arg0 (ix2 (((cfg0.win 2).blk t).view.emb y 0) k) := by
  show V m c main_arg0 (((cfg0.win 0).blk t).view.emb (ix2 (y 0) k)) = _
  congr 1
  funext a; apply Fin.ext
  refine (Window.rect_emb_val win0_0 t _ a rfl).trans ?_
  match a with
  | ⟨0, _⟩ => exact (emb2_val t y 0).symm
  | ⟨1, _⟩ => show 0 * 4096 + k.val = k.val; omega

theorem iblk1_apply (c : Dev nD) (t : Fin cfg0.N) (y : S768x512.Idx) (k : Fin 4096) :
    iblk m c 1 t (ix2 k (y 1)) = V m c main_v1 (ix2 k (((cfg0.win 2).blk t).view.emb y 1)) := by
  show V m c main_v1 (((cfg0.win 1).blk t).view.emb (ix2 k (y 1))) = _
  congr 1
  funext a; apply Fin.ext
  refine (Window.rect_emb_val win0_1 t _ a rfl).trans ?_
  match a with
  | ⟨0, _⟩ => show 0 * 4096 + k.val = k.val; omega
  | ⟨1, _⟩ => exact (emb2_val t y 1).symm

theorem flushed_eq (c : Dev nD) (t : Fin cfg0.N) :
    (dats m 0 c).flushed 2 t = ((cfg0.win 2).blk t).view.read (Elt Ideal) (G (V m c main_arg0) (V m c main_v1)) := by
  rw [Value.flushed2]
  unfold out0_2
  rw [View.canon_unit_zero hz, View.ld_unit_zero hz, View.ld_unit_zero hz]
  funext y
  refine (pay_apply _ _ y).trans ?_
  exact Finset.sum_congr rfl fun k _ => congrArg₂ (fun a b : EReal => a * b) (iblk0_apply m c t y k) (iblk1_apply m c t y k)

/-- Every index of the result is in some point's block. -/
theorem cover (i : S8448x11776.Idx) :
    ∃ t : Fin cfg0.N, (cfg0.win 2).flush t = true ∧ i ∈ ((cfg0.win 2).blk t).view.set := by
  have h0 : (i 0 : Nat) < 8448 := (i 0).isLt
  have h1 : (i 1 : Nat) < 11776 := (i 1).isLt
  obtain ⟨t, ht⟩ := Pipeline.Grid.coords_surjective grid0 (fun a => match a with
    | ⟨0, _⟩ => (⟨(i 0).val / 768, by show _ < 11; omega⟩ : Fin 11)
    | ⟨1, _⟩ => (⟨(i 1).val / 512, by show _ < 23; omega⟩ : Fin 23))
  refine ⟨t, flush0_2 t, ?_⟩
  show i ∈ ((View.whole main_v2).slice (win0_2.rect t)).set
  rw [View.set_slice_whole, Rect.mem_set_unit]
  have e : win0_2.index t = ![(i 0).val / 768, (i 1).val / 512] := by
    show cc0_transform_2 (grid0.coords t) = _
    rw [ht]
    show ![(BitVec.ofNat 32 ((i 0).val / 768)).toNat, (BitVec.ofNat 32 ((i 1).val / 512)).toNat] = _
    rw [BitVec.toNat_ofNat, BitVec.toNat_ofNat, Nat.mod_eq_of_lt (by omega), Nat.mod_eq_of_lt (by omega)]
  intro a
  match a with
  | ⟨0, _⟩ =>
    show win0_2.index t 0 * 768 ≤ (i 0 : Nat) ∧ (i 0 : Nat) < win0_2.index t 0 * 768 + 768
    rw [e]; show (i 0).val / 768 * 768 ≤ _ ∧ _ < (i 0).val / 768 * 768 + 768; omega
  | ⟨1, _⟩ =>
    show win0_2.index t 1 * 512 ≤ (i 1 : Nat) ∧ (i 1 : Nat) < win0_2.index t 1 * 512 + 512
    rw [e]; show (i 1).val / 512 * 512 ≤ _ ∧ _ < (i 1).val / 512 * 512 + 512; omega

/-- The weight as the launch reads it: its first 11776 columns. -/
def cols (W : S4096x11824.Idx → EReal) : S4096x11776.Idx → EReal := fun j => W (ix2 (j 0) ⟨(j 1).val, Nat.lt_of_lt_of_le (j 1).isLt (by decide)⟩)

theorem V_v1 (c : Dev nD) : V m c main_v1 = cols (m ((c : Thread nD τ).loc main_arg1)) := by
  have h : V m c main_v1 = truncf (F := Ideal) .bf16 (extractStridedSlice S4096x11776 ![0, 0] (m ((c : Thread nD τ).loc main_arg1)) slices_S4096x11824_S4096x11776_0_0) bitsLt_bf16_f32 := by
    show StableHlo.after hostOps0 _ _ = _
    after_results
  rw [h]
  funext j
  exact extractStridedSlice_apply (s := S4096x11824) (t := S4096x11776) _ (m ((c : Thread nD τ).loc main_arg1)) slices_S4096x11824_S4096x11776_0_0 j (ix2 (j 0) ⟨(j 1).val, Nat.lt_of_lt_of_le (j 1).isLt (show 11776 ≤ 11824 by decide)⟩) fun a => by
    match a with
    | ⟨0, _⟩ => exact (Nat.zero_add _).symm
    | ⟨1, _⟩ => exact (Nat.zero_add _).symm

theorem final (c : Dev nD) : (dats m 0 c).arrAt 2 cfg0.N = G (m ((c : Thread nD τ).loc main_arg0)) (cols (m ((c : Thread nD τ).loc main_arg1))) :=
  ((dats m 0 c).arrAt_eq_of_cover 2 _ (fun t _ => flushed_eq m c t) cover).trans (by rw [V_main_arg0, V_v1])

/-! ## The claims -/

theorem frame_K : quiescent_Kernel4 := fun m ρ _ => Cert.Kernel4.Gen.frame m ρ
theorem frame_KI : quiescent_Kernel4Ideal := fun m ρ _ => Cert.Kernel4Ideal.Gen.frame m ρ
theorem frame_RI : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's term at an index. -/
theorem ref_apply (A : FVec Ideal S8448x4096 .bf16) (W : FVec Ideal S4096x11824 .f32) :
    truncf (F := Ideal) .bf16 (extractStridedSlice Cert.Reference4Ideal.S8448x11776 ![0, 0]
        (Host.dotGeneral Cert.Reference4Ideal.dot_S8448x4096_S4096x11824_S8448x11824_1_0_0_1_n_n none
          (extf .f32 A Cert.Reference4Ideal.Gen.bitsLt_bf16_f32) W)
        Cert.Reference4Ideal.Gen.slices_S8448x11824_S8448x11776_0_0) Cert.Reference4Ideal.Gen.bitsLt_bf16_f32 = G A (cols W) := by
  funext i
  refine (extractStridedSlice_apply (s := Cert.Reference4Ideal.S8448x11824) (t := Cert.Reference4Ideal.S8448x11776) ![0, 0]
    (Host.dotGeneral (F := Ideal) Cert.Reference4Ideal.dot_S8448x4096_S4096x11824_S8448x11824_1_0_0_1_n_n none
      (extf .f32 A Cert.Reference4Ideal.Gen.bitsLt_bf16_f32) W) Cert.Reference4Ideal.Gen.slices_S8448x11824_S8448x11776_0_0 i
    (ix2 (i 0) ⟨(i 1).val, Nat.lt_of_lt_of_le (i 1).isLt (show 11776 ≤ 11824 by decide)⟩) fun a => by
      match a with
      | ⟨0, _⟩ => exact (Nat.zero_add _).symm
      | ⟨1, _⟩ => exact (Nat.zero_add _).symm).trans ?_
  exact host_mm (φ₁ := .f32) (φ₂ := .f32) none A W _

theorem value : algebraic_Kernel4Ideal_Reference4Ideal := fun m g m' g' _ hm =>
  ⟨fun c => G (m ((c.tc : Thread nD τ).loc main_arg0)) (cols (m ((c.tc : Thread nD τ).loc main_arg1))),
    (θ_run Cert.Kernel4Ideal.defs _ _).mono (fun r h c => ⟨(h c).1.trans (final m c), (h c).2⟩)
      (Cert.Kernel4Ideal.Value.run_blocks (F := Ideal) m g),
    (θ_run Cert.Reference4Ideal.defs _ _).mono (fun r h c => ⟨(h c).1.trans (by rw [(hm c).1, (hm c).2]; exact ref_apply _ _), (h c).2⟩)
      (Cert.Reference4Ideal.Value.run (F := Ideal) m' g')⟩

end Cert.InProj

end
-- ==== Proof.OutProj.lean ====
/- The product of the three mixers' results with the output weight, gated and added to the residual: the call's three partial products add up to
   the reference's product of the three put side by side, at the ideal floats, and the frames of both. -/
module

public import proofs.«01_k».proof.Defs
public import proofs.«01_k».proof.Proof.Resid
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

namespace Cert.OutProj

open Cert.Kernel5Ideal Cert.Kernel5Ideal.Gen Idealize.ShloMosaic Idealize.ShloMosaic.TcCoe Idealize.SL.Sem
open Idealize.ShloMosaic.ValueIdx Cert.MatBlock Cert.Resid
open Idealize.ShloMosaic.Pipeline (Dat Window)

variable (m : (ℓ : Loc nD τ sig) → Buf (Elt Ideal) ℓ) (ρ : Dev nD → PrngReg)

/-- The sum of the three partial products. -/
def P (A₀ : S8448x1024.Idx → EReal) (A₁ A₂ : S8448x1536.Idx → EReal) (B₀ : S1024x4096.Idx → EReal) (B₁ B₂ : S1536x4096.Idx → EReal) : S8448x4096.Idx → EReal := fun i =>
  mm A₀ B₀ (i 0) (i 1) + mm A₁ B₁ (i 0) (i 1) + mm A₂ B₂ (i 0) (i 1)

/-- The result array as a function of the arrays the launch reads. -/
def G (A₀ : S8448x1024.Idx → EReal) (A₁ A₂ : S8448x1536.Idx → EReal) (B₀ : S1024x4096.Idx → EReal) (B₁ B₂ : S1536x4096.Idx → EReal)
    (X : S8448x4096.Idx → EReal) (D : S8x24576.Idx → EReal) : S8448x4096.Idx → EReal :=
  resid 8192 (by decide) X (P A₀ A₁ A₂ B₀ B₁ B₂) D

theorem pay_apply (i : grid0.Coords) (x0 : Vec Ideal S768x1024 .bf16) (x3 : Vec Ideal S1024x512 .bf16) (x1 : Vec Ideal S768x1536 .bf16) (x4 : Vec Ideal S1536x512 .bf16)
    (x2 : Vec Ideal S768x1536 .bf16) (x5 : Vec Ideal S1536x512 .bf16) (g₁ g₀ : Vec Ideal S1x512 .f32) (x6 : Vec Ideal S768x512 .f32) (y : S768x512.Idx) :
    k0_pay1 (F := Ideal) i x0 x3 x1 x4 x2 x5 g₁ g₀ x6 y
      = (x6 y + (if 8192 ≤ (i 0).val * 768 + (y 0).val then g₁ (ix2 0 (y 1)) else g₀ (ix2 0 (y 1)))
          * (mm (M := 768) (K := 1024) (N := 512) x0 x3 (y 0) (y 1) + mm (M := 768) (K := 1536) (N := 512) x1 x4 (y 0) (y 1)
              + mm (M := 768) (K := 1536) (N := 512) x2 x5 (y 0) (y 1)) : EReal) := by
  unfold k0_pay1
  rw [shapeCast_self, shapeCast_self, shapeCast_self, shapeCast_self, shapeCast_self, shapeCast_self]
  have h0 := kernel_mm (φ₁ := .bf16) (φ₂ := .bf16) none x0 x3 y
  have h1 := kernel_mm (φ₁ := .bf16) (φ₂ := .bf16) none x1 x4 y
  have h2 := kernel_mm (φ₁ := .bf16) (φ₂ := .bf16) none x2 x5 y
  refine (kernel_apply (N := 512) (by decide) (i 0).val (i 0).isLt _ _ _ g₁ g₀ x6 _ y).trans ?_
  rw [← h0, ← h1, ← h2]
  rfl

theorem emb8_val (t : Fin cfg0.N) (y : S768x512.Idx) (a : Fin 2) :
    ((((cfg0.win 8).blk t).view.emb y) a : Nat) = win0_8.index t a * S768x512.size a + y a :=
  Window.rect_emb_val win0_8 t y a rfl

theorem index0 (t : Fin cfg0.N) : win0_8.index t 0 = (grid0.coords t 0).val := by
  have h : (grid0.coords t 0).val < 11 := (grid0.coords t 0).isLt
  show (BitVec.ofNat 32 (grid0.coords t 0).val).toNat = _
  rw [BitVec.toNat_ofNat, Nat.mod_eq_of_lt (by omega)]

theorem index1 (t : Fin cfg0.N) : win0_8.index t 1 = (grid0.coords t 1).val := by
  have h : (grid0.coords t 1).val < 8 := (grid0.coords t 1).isLt
  show (BitVec.ofNat 32 (grid0.coords t 1).val).toNat = _
  rw [BitVec.toNat_ofNat, Nat.mod_eq_of_lt (by omega)]

theorem index7 (t : Fin cfg0.N) : win0_7.index t 1 = 16 + (grid0.coords t 1).val := by
  have h : (grid0.coords t 1).val < 8 := (grid0.coords t 1).isLt
  show (BitVec.ofNat 32 16 + BitVec.ofNat 32 (grid0.coords t 1).val).toNat = _
  rw [BitVec.toNat_add, BitVec.toNat_ofNat, BitVec.toNat_ofNat]
  omega

theorem iblk0_apply (c : Dev nD) (t : Fin cfg0.N) (y : S768x512.Idx) (k : Fin 1024) :
    iblk m c 0 t (ix2 (y 0) k) = V m c main_arg0 (ix2 (((cfg0.win 8).blk t).view.emb y 0) k) := by
  show V m c main_arg0 (((cfg0.win 0).blk t).view.emb (ix2 (y 0) k)) = _
  congr 1
  funext a; apply Fin.ext
  refine (Window.rect_emb_val win0_0 t _ a rfl).trans ?_
  match a with
  | ⟨0, _⟩ => exact (emb8_val t y 0).symm
  | ⟨1, _⟩ => show 0 * 1024 + k.val = k.val; omega

theorem iblk1_apply (c : Dev nD) (t : Fin cfg0.N) (y : S768x512.Idx) (k : Fin 1536) :
    iblk m c 1 t (ix2 (y 0) k) = V m c main_arg1 (ix2 (((cfg0.win 8).blk t).view.emb y 0) k) := by
  show V m c main_arg1 (((cfg0.win 1).blk t).view.emb (ix2 (y 0) k)) = _
  congr 1
  funext a; apply Fin.ext
  refine (Window.rect_emb_val win0_1 t _ a rfl).trans ?_
  match a with
  | ⟨0, _⟩ => exact (emb8_val t y 0).symm
  | ⟨1, _⟩ => show 0 * 1536 + k.val = k.val; omega

theorem iblk2_apply (c : Dev nD) (t : Fin cfg0.N) (y : S768x512.Idx) (k : Fin 1536) :
    iblk m c 2 t (ix2 (y 0) k) = V m c main_arg2 (ix2 (((cfg0.win 8).blk t).view.emb y 0) k) := by
  show V m c main_arg2 (((cfg0.win 2).blk t).view.emb (ix2 (y 0) k)) = _
  congr 1
  funext a; apply Fin.ext
  refine (Window.rect_emb_val win0_2 t _ a rfl).trans ?_
  match a with
  | ⟨0, _⟩ => exact (emb8_val t y 0).symm
  | ⟨1, _⟩ => show 0 * 1536 + k.val = k.val; omega

theorem iblk3_apply (c : Dev nD) (t : Fin cfg0.N) (y : S768x512.Idx) (k : Fin 1024) :
    iblk m c 3 t (ix2 k (y 1)) = V m c main_v1 (ix2 k (((cfg0.win 8).blk t).view.emb y 1)) := by
  show V m c main_v1 (((cfg0.win 3).blk t).view.emb (ix2 k (y 1))) = _
  congr 1
  funext a; apply Fin.ext
  refine (Window.rect_emb_val win0_3 t _ a rfl).trans ?_
  match a with
  | ⟨0, _⟩ => show 0 * 1024 + k.val = k.val; omega
  | ⟨1, _⟩ => exact (emb8_val t y 1).symm

theorem iblk4_apply (c : Dev nD) (t : Fin cfg0.N) (y : S768x512.Idx) (k : Fin 1536) :
    iblk m c 4 t (ix2 k (y 1)) = V m c main_v3 (ix2 k (((cfg0.win 8).blk t).view.emb y 1)) := by
  show V m c main_v3 (((cfg0.win 4).blk t).view.emb (ix2 k (y 1))) = _
  congr 1
  funext a; apply Fin.ext
  refine (Window.rect_emb_val win0_4 t _ a rfl).trans ?_
  match a with
  | ⟨0, _⟩ => show 0 * 1536 + k.val = k.val; omega
  | ⟨1, _⟩ => exact (emb8_val t y 1).symm

theorem iblk5_apply (c : Dev nD) (t : Fin cfg0.N) (y : S768x512.Idx) (k : Fin 1536) :
    iblk m c 5 t (ix2 k (y 1)) = V m c main_v5 (ix2 k (((cfg0.win 8).blk t).view.emb y 1)) := by
  show V m c main_v5 (((cfg0.win 5).blk t).view.emb (ix2 k (y 1))) = _
  congr 1
  funext a; apply Fin.ext
  refine (Window.rect_emb_val win0_5 t _ a rfl).trans ?_
  match a with
  | ⟨0, _⟩ => show 0 * 1536 + k.val = k.val; omega
  | ⟨1, _⟩ => exact (emb8_val t y 1).symm

theorem iblk6_apply (c : Dev nD) (t : Fin cfg0.N) (y : S768x512.Idx) :
    iblk m c 6 t y = V m c main_arg4 (((cfg0.win 8).blk t).view.emb y) := by
  show V m c main_arg4 (((cfg0.win 6).blk t).view.emb y) = _
  refine congrArg (V m c main_arg4) ?_
  funext a; apply Fin.ext
  exact (Window.rect_emb_val win0_6 t _ a rfl).trans (emb8_val t y a).symm

/-- The modulation's block at row `r`, at the columns of the gate. -/
theorem iblk7_apply (c : Dev nD) (t : Fin cfg0.N) (y : S768x512.Idx) (r : Fin 8) (l : Fin 24576)
    (hl : l.val = 8192 + (((cfg0.win 8).blk t).view.emb y 1 : Nat)) :
    iblk m c 7 t (ix2 r (y 1)) = V m c main_arg5 (ix2 r l) := by
  show V m c main_arg5 (((cfg0.win 7).blk t).view.emb (ix2 r (y 1))) = _
  congr 1
  funext a; apply Fin.ext
  refine (Window.rect_emb_val win0_7 t _ a rfl).trans ?_
  match a with
  | ⟨0, _⟩ => show 0 * 8 + r.val = r.val; omega
  | ⟨1, _⟩ =>
    show win0_7.index t 1 * 512 + (y 1).val = l.val
    rw [index7, hl, emb8_val, index1]
    show _ = 8192 + ((grid0.coords t 1).val * 512 + (y 1).val)
    omega

theorem ld_gate (r : Nat) (hr : r < 8) (h : ∀ a, (![r, 0] : Fin 2 → Nat) a + S1x512.size a ≤ S8x512.size a) (x : Vec Ideal S8x512 .f32) (j : Fin 512) :
    View.ld x (Rect.unit (s := S8x512) ![r, 0] S1x512.size h) (ix2 0 j) = x (ix2 ⟨r, hr⟩ j) := by
  refine View.ld_unit_apply_of x _ _ h _ _ ?_
  intro a
  match a with
  | ⟨0, _⟩ => rfl
  | ⟨1, _⟩ => exact (Nat.zero_add _).symm

theorem flushed_eq (c : Dev nD) (t : Fin cfg0.N) :
    (dats m 0 c).flushed 8 t = ((cfg0.win 8).blk t).view.read (Elt Ideal) (G (V m c main_arg0) (V m c main_arg1) (V m c main_arg2) (V m c main_v1) (V m c main_v3) (V m c main_v5) (V m c main_arg4) (V m c main_arg5)) := by
  rw [Value.flushed8]
  unfold out0_8
  rw [View.canon_unit_zero hz, View.ld_unit_zero hz, View.ld_unit_zero hz, View.ld_unit_zero hz, View.ld_unit_zero hz, View.ld_unit_zero hz, View.ld_unit_zero hz, View.ld_unit_zero hz]
  funext y
  refine (pay_apply _ _ _ _ _ _ _ _ _ _ y).trans ?_
  have hp0 : mm (M := 768) (K := 1024) (N := 512) (iblk m c 0 t) (iblk m c 3 t) (y 0) (y 1)
      = mm (V m c main_arg0) (V m c main_v1) (((cfg0.win 8).blk t).view.emb y 0) (((cfg0.win 8).blk t).view.emb y 1) :=
    Finset.sum_congr rfl fun k _ => congrArg₂ (fun a b : EReal => a * b) (iblk0_apply m c t y k) (iblk3_apply m c t y k)
  have hp1 : mm (M := 768) (K := 1536) (N := 512) (iblk m c 1 t) (iblk m c 4 t) (y 0) (y 1)
      = mm (V m c main_arg1) (V m c main_v3) (((cfg0.win 8).blk t).view.emb y 0) (((cfg0.win 8).blk t).view.emb y 1) :=
    Finset.sum_congr rfl fun k _ => congrArg₂ (fun a b : EReal => a * b) (iblk1_apply m c t y k) (iblk4_apply m c t y k)
  have hp2 : mm (M := 768) (K := 1536) (N := 512) (iblk m c 2 t) (iblk m c 5 t) (y 0) (y 1)
      = mm (V m c main_arg2) (V m c main_v5) (((cfg0.win 8).blk t).view.emb y 0) (((cfg0.win 8).blk t).view.emb y 1) :=
    Finset.sum_congr rfl fun k _ => congrArg₂ (fun a b : EReal => a * b) (iblk2_apply m c t y k) (iblk5_apply m c t y k)
  have hrow : (((cfg0.win 8).blk t).view.emb y 0 : Nat) = (grid0.coords t 0).val * 768 + (y 0).val := by
    rw [emb8_val, index0]; rfl
  have hlt : (((cfg0.win 8).blk t).view.emb y 1 : Nat) < 4096 := (((cfg0.win 8).blk t).view.emb y 1).isLt
  rw [hp0, hp1, hp2, iblk6_apply]
  show _ = G (V m c main_arg0) (V m c main_arg1) (V m c main_arg2) (V m c main_v1) (V m c main_v3) (V m c main_v5) (V m c main_arg4) (V m c main_arg5) (((cfg0.win 8).blk t).view.emb y)
  unfold G P resid
  rw [hrow]
  unfold r0_4 r0_5
  refine congrArg₂ (fun a b : EReal => a + b) rfl (congrArg₂ (fun a b : EReal => a * b) (if_congr Iff.rfl ?_ ?_) rfl)
  · exact (ld_gate 1 (by decide) _ (iblk m c 7 t) (y 1)).trans (iblk7_apply m c t y ⟨1, by decide⟩ ⟨8192 + (((cfg0.win 8).blk t).view.emb y 1 : Nat), by omega⟩ rfl)
  · exact (ld_gate 0 (by decide) _ (iblk m c 7 t) (y 1)).trans (iblk7_apply m c t y ⟨0, by decide⟩ ⟨8192 + (((cfg0.win 8).blk t).view.emb y 1 : Nat), by omega⟩ rfl)

/-- Every index of the result is in some point's block. -/
theorem cover (i : S8448x4096.Idx) :
    ∃ t : Fin cfg0.N, (cfg0.win 8).flush t = true ∧ i ∈ ((cfg0.win 8).blk t).view.set := by
  have h0 : (i 0 : Nat) < 8448 := (i 0).isLt
  have h1 : (i 1 : Nat) < 4096 := (i 1).isLt
  obtain ⟨t, ht⟩ := Pipeline.Grid.coords_surjective grid0 (fun a => match a with
    | ⟨0, _⟩ => (⟨(i 0).val / 768, by show _ < 11; omega⟩ : Fin 11)
    | ⟨1, _⟩ => (⟨(i 1).val / 512, by show _ < 8; omega⟩ : Fin 8))
  refine ⟨t, flush0_8 t, ?_⟩
  show i ∈ ((View.whole main_v6).slice (win0_8.rect t)).set
  rw [View.set_slice_whole, Rect.mem_set_unit]
  have e : win0_8.index t = ![(i 0).val / 768, (i 1).val / 512] := by
    show cc0_transform_8 (grid0.coords t) = _
    rw [ht]
    show ![(BitVec.ofNat 32 ((i 0).val / 768)).toNat, (BitVec.ofNat 32 ((i 1).val / 512)).toNat] = _
    rw [BitVec.toNat_ofNat, BitVec.toNat_ofNat, Nat.mod_eq_of_lt (by omega), Nat.mod_eq_of_lt (by omega)]
  intro a
  match a with
  | ⟨0, _⟩ =>
    show win0_8.index t 0 * 768 ≤ (i 0 : Nat) ∧ (i 0 : Nat) < win0_8.index t 0 * 768 + 768
    rw [e]; show (i 0).val / 768 * 768 ≤ _ ∧ _ < (i 0).val / 768 * 768 + 768; omega
  | ⟨1, _⟩ =>
    show win0_8.index t 1 * 512 ≤ (i 1 : Nat) ∧ (i 1 : Nat) < win0_8.index t 1 * 512 + 512
    rw [e]; show (i 1).val / 512 * 512 ≤ _ ∧ _ < (i 1).val / 512 * 512 + 512; omega

theorem V_v1 (c : Dev nD) : V m c main_v1 = extractStridedSlice S1024x4096 ![0, 0] (m ((c : Thread nD τ).loc main_arg3)) slices_S4096x4096_S1024x4096_0_0 := by
  have h : V m c main_v1 = truncf (F := Ideal) (s := S1024x4096) .bf16 (extractStridedSlice S1024x4096 ![0, 0] (m ((c : Thread nD τ).loc main_arg3)) slices_S4096x4096_S1024x4096_0_0) bitsLt_bf16_f32 := by
    show StableHlo.after hostOps0 _ _ = _
    after_results
  rw [h]; rfl

theorem V_v3 (c : Dev nD) : V m c main_v3 = extractStridedSlice S1536x4096 ![1024, 0] (m ((c : Thread nD τ).loc main_arg3)) slices_S4096x4096_S1536x4096_1024_0 := by
  have h : V m c main_v3 = truncf (F := Ideal) (s := S1536x4096) .bf16 (extractStridedSlice S1536x4096 ![1024, 0] (m ((c : Thread nD τ).loc main_arg3)) slices_S4096x4096_S1536x4096_1024_0) bitsLt_bf16_f32 := by
    show StableHlo.after hostOps0 _ _ = _
    after_results
  rw [h]; rfl

theorem V_v5 (c : Dev nD) : V m c main_v5 = extractStridedSlice S1536x4096 ![2560, 0] (m ((c : Thread nD τ).loc main_arg3)) slices_S4096x4096_S1536x4096_2560_0 := by
  have h : V m c main_v5 = truncf (F := Ideal) (s := S1536x4096) .bf16 (extractStridedSlice S1536x4096 ![2560, 0] (m ((c : Thread nD τ).loc main_arg3)) slices_S4096x4096_S1536x4096_2560_0) bitsLt_bf16_f32 := by
    show StableHlo.after hostOps0 _ _ = _
    after_results
  rw [h]; rfl

/-- The result array as a function of the six arguments. -/
def H (A₀ : S8448x1024.Idx → EReal) (A₁ A₂ : S8448x1536.Idx → EReal) (B : S4096x4096.Idx → EReal)
    (X : S8448x4096.Idx → EReal) (D : S8x24576.Idx → EReal) : S8448x4096.Idx → EReal :=
  G A₀ A₁ A₂ (extractStridedSlice S1024x4096 ![0, 0] B slices_S4096x4096_S1024x4096_0_0)
    (extractStridedSlice S1536x4096 ![1024, 0] B slices_S4096x4096_S1536x4096_1024_0)
    (extractStridedSlice S1536x4096 ![2560, 0] B slices_S4096x4096_S1536x4096_2560_0) X D

theorem final (c : Dev nD) : (dats m 0 c).arrAt 8 cfg0.N
    = H (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) :=
  ((dats m 0 c).arrAt_eq_of_cover 8 _ (fun t _ => flushed_eq m c t) cover).trans (by
    rw [V_main_arg0, V_main_arg1, V_main_arg2, V_v1, V_v3, V_v5, V_main_arg4, V_main_arg5]; rfl)

/-! ## The claims -/

theorem frame_K : quiescent_Kernel5 := fun m ρ _ => Cert.Kernel5.Gen.frame m ρ
theorem frame_KI : quiescent_Kernel5Ideal := fun m ρ _ => Cert.Kernel5Ideal.Gen.frame m ρ
theorem frame_RI : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's product: a sum over 4096 is the sums over its first 1024, next 1536 and last 1536. -/
theorem ref_mm (A₀ : FVec Ideal S8448x1024 .bf16) (A₁ A₂ : FVec Ideal S8448x1536 .bf16) (B : FVec Ideal S4096x4096 .f32)
    (h₀ h₁ h₂) (hc : Shape.Concatenates [S8448x1024, S8448x1536, S8448x1536] S8448x4096 1) :
    Host.dotGeneral (φ₁ := .f32) (φ₂ := .f32) Cert.Reference5Ideal.dot_S8448x4096_S4096x4096_S8448x4096_1_0_0_1_n_n none
      ((concatenate S8448x4096 1 [⟨S8448x1024, ((extf (F := Ideal) .f32 A₀ h₀) : (⟨S8448x1024, .f32⟩ : BufTy).Contents (Elt Ideal))⟩,
          ⟨S8448x1536, ((extf (F := Ideal) .f32 A₁ h₁) : (⟨S8448x1536, .f32⟩ : BufTy).Contents (Elt Ideal))⟩,
          ⟨S8448x1536, ((extf (F := Ideal) .f32 A₂ h₂) : (⟨S8448x1536, .f32⟩ : BufTy).Contents (Elt Ideal))⟩] hc : (⟨S8448x4096, .f32⟩ : BufTy).Contents (Elt Ideal))) B
      = P A₀ A₁ A₂ (extractStridedSlice S1024x4096 ![0, 0] B slices_S4096x4096_S1024x4096_0_0)
        (extractStridedSlice S1536x4096 ![1024, 0] B slices_S4096x4096_S1536x4096_1024_0)
        (extractStridedSlice S1536x4096 ![2560, 0] B slices_S4096x4096_S1536x4096_2560_0) := by
  funext i
  refine (host_mm (φ₁ := .f32) (φ₂ := .f32) none _ B i).trans ?_
  unfold P mm
  have split : ∀ f : Fin (1024 + 1536 + 1536) → EReal, (∑ k, f k)
      = (∑ k : Fin 1024, f (Fin.castAdd 1536 (Fin.castAdd 1536 k))) + (∑ k : Fin 1536, f (Fin.castAdd 1536 (Fin.natAdd 1024 k)))
        + ∑ k : Fin 1536, f (Fin.natAdd (1024 + 1536) k) := fun f => by rw [Fin.sum_univ_add, Fin.sum_univ_add]
  refine (split _).trans ?_
  refine congrArg₂ (fun a b : EReal => a + b) (congrArg₂ (fun a b : EReal => a + b) ?_ ?_) ?_
  · refine Finset.sum_congr rfl fun k _ => congrArg₂ (fun a b : EReal => a * b) ?_ ?_
    · refine concatenate_apply_piece (t := S8448x4096) (1 : Fin 2) [⟨S8448x1024, A₀⟩, ⟨S8448x1536, A₁⟩, ⟨S8448x1536, A₂⟩] hc _ 0 (by simp) S8448x1024 A₀ rfl rfl 0 rfl (ix2 (i 0) k) ?_ ?_
      · intro b hb
        match b with
        | ⟨0, _⟩ => rfl
        | ⟨1, _⟩ => exact absurd rfl hb
      · exact Nat.zero_add _
    · refine (extractStridedSlice_apply (s := S4096x4096) (t := S1024x4096) ![0, 0] B slices_S4096x4096_S1024x4096_0_0 (ix2 k (i 1)) _ ?_).symm
      intro b
      match b with
      | ⟨0, _⟩ => exact (Nat.zero_add _).symm
      | ⟨1, _⟩ => exact (Nat.zero_add _).symm
  · refine Finset.sum_congr rfl fun k _ => congrArg₂ (fun a b : EReal => a * b) ?_ ?_
    · refine concatenate_apply_piece (t := S8448x4096) (1 : Fin 2) [⟨S8448x1024, A₀⟩, ⟨S8448x1536, A₁⟩, ⟨S8448x1536, A₂⟩] hc _ 1 (by simp) S8448x1536 A₁ rfl rfl 1024 rfl (ix2 (i 0) k) ?_ ?_
      · intro b hb
        match b with
        | ⟨0, _⟩ => rfl
        | ⟨1, _⟩ => exact absurd rfl hb
      · show 1024 + k.val = 1024 + k.val; rfl
    · refine (extractStridedSlice_apply (s := S4096x4096) (t := S1536x4096) ![1024, 0] B slices_S4096x4096_S1536x4096_1024_0 (ix2 k (i 1)) _ ?_).symm
      intro b
      match b with
      | ⟨0, _⟩ => rfl
      | ⟨1, _⟩ => exact (Nat.zero_add _).symm
  · refine Finset.sum_congr rfl fun k _ => congrArg₂ (fun a b : EReal => a * b) ?_ ?_
    · refine concatenate_apply_piece (t := S8448x4096) (1 : Fin 2) [⟨S8448x1024, A₀⟩, ⟨S8448x1536, A₁⟩, ⟨S8448x1536, A₂⟩] hc _ 2 (by simp) S8448x1536 A₂ rfl rfl 2560 rfl (ix2 (i 0) k) ?_ ?_
      · intro b hb
        match b with
        | ⟨0, _⟩ => rfl
        | ⟨1, _⟩ => exact absurd rfl hb
      · show 2560 + k.val = 1024 + 1536 + k.val; rfl
    · refine (extractStridedSlice_apply (s := S4096x4096) (t := S1536x4096) ![2560, 0] B slices_S4096x4096_S1536x4096_2560_0 (ix2 k (i 1)) _ ?_).symm
      intro b
      match b with
      | ⟨0, _⟩ => rfl
      | ⟨1, _⟩ => exact (Nat.zero_add _).symm

theorem value : algebraic_Kernel5Ideal_Reference5Ideal := fun m g m' g' _ hm =>
  ⟨fun c => H (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)),
    (θ_run Cert.Kernel5Ideal.defs _ _).mono (fun r h c => ⟨(h c).1.trans (final m c), (h c).2⟩)
      (Cert.Kernel5Ideal.Value.run_blocks (F := Ideal) m g),
    (θ_run Cert.Reference5Ideal.defs _ _).mono (fun r h c => ⟨(h c).1.trans (by
        rw [(hm c).1, (hm c).2.1, (hm c).2.2.1, (hm c).2.2.2.1, (hm c).2.2.2.2.1, (hm c).2.2.2.2.2]
        refine (host_apply 8192 (by decide) _ _ _ _ _ _ _ _ _ _ _ _ _).trans ?_
        exact congrArg (fun p => resid 8192 (by decide) (m ((c.tc : Thread nD τ).loc main_arg4)) p (m ((c.tc : Thread nD τ).loc main_arg5))) (ref_mm _ _ _ _ _ _ _ _)), (h c).2⟩)
      (Cert.Reference5Ideal.Value.run (F := Ideal) m' g')⟩

end Cert.OutProj

end
-- ==== Proof.Softmax.lean ====
/- A softmax average taken chunk by chunk, over the extended reals: the running maximum, the running sum of weights and
   the running weighted sum of values, each rescaled when the maximum moves, are those of all the scores seen so far. -/
module

public import Idealize.ShloMosaic.PureOps.Ideal

@[expose] public section

noncomputable section

namespace Cert.Softmax

open Idealize.ShloMosaic Finset
open scoped BigOperators

/-- The largest of the first `n` scores. -/
def mx (s : ℕ → EReal) (n : ℕ) : EReal := (range n).sup s

/-- The sum of the first `n` weights. -/
def den (s : ℕ → EReal) (n : ℕ) : EReal := ∑ i ∈ range n, Ideal.exp (s i - mx s n)

/-- The weighted sum of the first `n` values. -/
def num (s v : ℕ → EReal) (n : ℕ) : EReal := ∑ i ∈ range n, Ideal.exp (s i - mx s n) * v i

theorem exp_nonneg (x : EReal) : 0 ≤ Ideal.exp x := by
  induction x with
  | bot => simp
  | top => simp
  | coe r => rw [Ideal.exp_coe]; exact_mod_cast (Real.exp_pos r).le

theorem exp_ne_top {x y : EReal} (h : x ≤ y) : Ideal.exp (x - y) ≠ ⊤ := by
  induction y with
  | bot => obtain rfl : x = ⊥ := le_bot_iff.mp h; simp
  | top => simp
  | coe r =>
    induction x with
    | bot => simp
    | top => simp at h
    | coe q => rw [← EReal.coe_sub, Ideal.exp_coe]; exact EReal.coe_ne_top _

/-- Rescaling a weight to a larger maximum. -/
theorem exp_rescale {s m m' : EReal} (h : s ≤ m) (h' : m ≤ m') :
    Ideal.exp (m - m') * Ideal.exp (s - m) = Ideal.exp (s - m') := by
  induction m' with
  | bot =>
    obtain rfl : m = ⊥ := le_bot_iff.mp h'
    obtain rfl : s = ⊥ := le_bot_iff.mp h
    simp
  | top => simp
  | coe r' =>
    induction m with
    | bot => obtain rfl : s = ⊥ := le_bot_iff.mp h; simp
    | top => simp at h'
    | coe r =>
      induction s with
      | bot => simp
      | top => simp at h
      | coe q =>
        rw [← EReal.coe_sub, ← EReal.coe_sub, ← EReal.coe_sub, Ideal.exp_coe, Ideal.exp_coe, Ideal.exp_coe,
          ← EReal.coe_mul, ← Real.exp_add]
        congr 2; ring

theorem mul_sum {ι : Type*} (c : EReal) (h0 : 0 ≤ c) (hT : c ≠ ⊤) (S : Finset ι) (f : ι → EReal) :
    c * ∑ i ∈ S, f i = ∑ i ∈ S, c * f i := by
  classical
  induction S using Finset.induction_on with
  | empty => simp
  | insert a S ha ih => rw [sum_insert ha, sum_insert ha, EReal.left_distrib_of_nonneg_of_ne_top h0 hT, ih]

theorem mx_zero (s : ℕ → EReal) : mx s 0 = ⊥ := by simp [mx]
theorem den_zero (s : ℕ → EReal) : den s 0 = 0 := by simp [den]
theorem num_zero (s v : ℕ → EReal) : num s v 0 = 0 := by simp [num]

theorem le_mx (s : ℕ → EReal) {i n : ℕ} (h : i < n) : s i ≤ mx s n := le_sup (f := s) (mem_range.mpr h)

theorem mx_add (s : ℕ → EReal) (n c : ℕ) : mx s (n + c) = max (mx s n) (univ.sup fun j : Fin c => s (n + j)) := by
  refine le_antisymm (Finset.sup_le fun i hi => ?_) (max_le (Finset.sup_le fun i hi => ?_) (Finset.sup_le fun j _ => ?_))
  · rcases lt_or_ge i n with h | h
    · exact le_max_of_le_left (le_mx s h)
    · have hi := mem_range.mp hi
      refine le_max_of_le_right ?_
      have := le_sup (f := fun j : Fin c => s (n + j)) (mem_univ ⟨i - n, by omega⟩)
      simpa [Nat.add_sub_cancel' h] using this
  · exact le_mx s (by have := mem_range.mp hi; omega)
  · exact le_mx s (by have := j.isLt; omega)

theorem mx_mono (s : ℕ → EReal) (n c : ℕ) : mx s n ≤ mx s (n + c) := by rw [mx_add]; exact le_max_left _ _

theorem den_add (s : ℕ → EReal) (n c : ℕ) :
    den s (n + c) = Ideal.exp (mx s n - mx s (n + c)) * den s n + ∑ j : Fin c, Ideal.exp (s (n + j) - mx s (n + c)) := by
  unfold den
  rw [sum_range_add, mul_sum _ (exp_nonneg _) (exp_ne_top (mx_mono s n c)), Finset.sum_range (n := c)]
  congr 1
  exact sum_congr rfl fun i hi => (exp_rescale (le_mx s (mem_range.mp hi)) (mx_mono s n c)).symm

theorem num_add (s v : ℕ → EReal) (n c : ℕ) :
    num s v (n + c) = Ideal.exp (mx s n - mx s (n + c)) * num s v n
      + ∑ j : Fin c, Ideal.exp (s (n + j) - mx s (n + c)) * v (n + j) := by
  unfold num
  rw [sum_range_add, mul_sum _ (exp_nonneg _) (exp_ne_top (mx_mono s n c)), Finset.sum_range (n := c)]
  congr 1
  refine sum_congr rfl fun i hi => ?_
  rw [← mul_assoc, exp_rescale (le_mx s (mem_range.mp hi)) (mx_mono s n c)]

theorem mx_fin (s : ℕ → EReal) (n : ℕ) : mx s n = Finset.univ.sup fun j : Fin n => s j := by
  have h := mx_add s 0 n
  rw [mx_zero, max_eq_right bot_le, Nat.zero_add] at h
  rw [h]
  exact congrArg _ (funext fun j => by rw [Nat.zero_add])

theorem den_fin (s : ℕ → EReal) (n : ℕ) : den s n = ∑ j : Fin n, Ideal.exp (s j - mx s n) := Finset.sum_range _

theorem mx_mem (s : ℕ → EReal) {n : ℕ} (hn : 0 < n) : ∃ i < n, mx s n = s i := by
  obtain ⟨i, hi, e⟩ := exists_mem_eq_sup (range n) ⟨0, mem_range.mpr hn⟩ s
  exact ⟨i, mem_range.mp hi, e⟩

/-- Of finite scores the sum of the weights is a positive real. -/
theorem den_real (s : ℕ → EReal) {n : ℕ} (hn : 0 < n) (hs : ∀ i < n, ∃ r : ℝ, s i = r) :
    ∃ r : ℝ, 0 < r ∧ den s n = r := by
  obtain ⟨i₀, h₀, e₀⟩ := mx_mem s hn
  choose! f hf using hs
  have hm : mx s n = (f i₀ : EReal) := e₀.trans (hf i₀ h₀)
  refine ⟨∑ i ∈ range n, Real.exp (f i - f i₀), sum_pos (fun i _ => Real.exp_pos _) ⟨0, mem_range.mpr hn⟩, ?_⟩
  have hsum : ∀ S : Finset ℕ, ((∑ i ∈ S, Real.exp (f i - f i₀) : ℝ) : EReal) = ∑ i ∈ S, ((Real.exp (f i - f i₀) : ℝ) : EReal) := by
    intro S
    induction S using Finset.induction_on with
    | empty => simp
    | insert a S ha ih => rw [sum_insert ha, sum_insert ha, EReal.coe_add, ih]
  rw [hsum]
  unfold den
  refine sum_congr rfl fun i hi => ?_
  rw [hm, hf i (mem_range.mp hi), ← EReal.coe_sub, Ideal.exp_coe]

/-- The weighted sum divided once is the sum of the values under the divided weights. -/
theorem div_num (s v : ℕ → EReal) {n : ℕ} (hn : 0 < n) (hs : ∀ i < n, ∃ r : ℝ, s i = r) :
    Ideal.div (num s v n) (den s n) = ∑ i : Fin n, v i * Ideal.div (Ideal.exp (s i - mx s n)) (den s n) := by
  obtain ⟨r, hr, e⟩ := den_real s hn hs
  have h0 : den s n ≠ 0 := by rw [e]; exact_mod_cast hr.ne'
  have hinv : (den s n)⁻¹ = ((r⁻¹ : ℝ) : EReal) := by rw [e, EReal.coe_inv]
  rw [← Finset.sum_range (fun i => v i * Ideal.div (Ideal.exp (s i - mx s n)) (den s n))]
  unfold Ideal.div
  rw [if_neg h0]
  simp only [if_neg h0]
  rw [mul_comm, hinv, num, mul_sum _ (by exact_mod_cast (inv_pos.mpr hr).le) (EReal.coe_ne_top _)]
  refine sum_congr rfl fun i _ => ?_
  rw [mul_comm (v i), mul_comm (Ideal.exp _) ((r⁻¹ : ℝ) : EReal), mul_assoc]

/-- A product with a nonnegative real scales a sum of products. -/
theorem scale_dot {K : ℕ} (c : EReal) (h0 : 0 ≤ c) (hT : c ≠ ⊤) (a b : Fin K → EReal) :
    (∑ d, (a d * c) * b d) = (∑ d, b d * a d) * c := by
  rw [mul_comm _ c, mul_sum c h0 hT]
  exact sum_congr rfl fun d _ => by rw [mul_comm (a d) c, mul_assoc, mul_comm (a d)]

/-- A sum of products of reals, scaled, is a real. -/
theorem real_dot {K : ℕ} (c : ℝ) (a b : Fin K → EReal) (ha : ∀ d, ∃ r : ℝ, a d = r) (hb : ∀ d, ∃ r : ℝ, b d = r) :
    ∃ r : ℝ, (∑ d, b d * a d) * (c : EReal) = r := by
  choose f hf using ha
  choose g hg using hb
  refine ⟨(∑ d, g d * f d) * c, ?_⟩
  rw [EReal.coe_mul]
  congr 1
  have hsum : ∀ S : Finset (Fin K), ((∑ d ∈ S, g d * f d : ℝ) : EReal) = ∑ d ∈ S, b d * a d := by
    intro S
    induction S using Finset.induction_on with
    | empty => simp
    | insert x S hx ih => rw [sum_insert hx, sum_insert hx, EReal.coe_add, ih, EReal.coe_mul, hf, hg]
  exact (hsum univ).symm

end Cert.Softmax

end
-- ==== Proof.AttnPay.lean ====
/- What the attention kernel's body computes at an index: one chunk of keys and values folded into the running
   maximum, sum of weights and weighted sum of values of a query row. -/
module

public import proofs.«01_k».proof.Proof.Softmax
public import proofs.«01_k».proof.Proof.Gen.Kernel8Ideal.Skeleton
public import Idealize.ShloMosaic.Lib.Pointwise

@[expose] public section

set_option maxRecDepth 16384

noncomputable section

namespace Cert.AttnPay

open Cert.Kernel8Ideal Cert.Kernel8Ideal.Gen Idealize.ShloMosaic
open scoped BigOperators

attribute [local instance] Cert.Kernel8Ideal.Gen.facts

theorem neg_inf : Ideal.ofBits .f32 0xFF800000#32 = ⊥ := by
  simp [Ideal.ofBits, Ideal.ieee]

theorem fold_eq_sup {n : ℕ} (f : Fin n → EReal) : Finset.univ.fold max ⊥ f = Finset.univ.sup f := rfl

theorem pay1_apply (q : FVec Ideal S768x128 .bf16) (kv : Vec Ideal S512x128 .bf16) (r : Fin 768) (k : Fin 512) :
    k0_pay1 q kv (ix2 r k) = ∑ d : Fin 128, q (ix2 r d) * kv (ix2 k d) := by
  pointwise [k0_pay1]

theorem pay2_apply (q : FVec Ideal S768x128 .bf16) (m : FVec Ideal S768x1 .f32) (kv : Vec Ideal S512x128 .bf16) (r : Fin 768) :
    k0_pay2 q m kv (ix2 r 0) = max (m (ix2 r 0)) (Finset.univ.sup fun k : Fin 512 => ∑ d : Fin 128, q (ix2 r d) * kv (ix2 k d)) := by
  pointwise [k0_pay2, pay1_apply]
  rw [neg_inf, fold_eq_sup]

theorem pay3_apply (q : FVec Ideal S768x128 .bf16) (m : FVec Ideal S768x1 .f32) (kv : Vec Ideal S512x128 .bf16) (r : Fin 768) :
    k0_pay3 q m kv (ix2 r 0) = Ideal.exp (m (ix2 r 0) - k0_pay2 q m kv (ix2 r 0)) := by
  pointwise [k0_pay3]

theorem pay4_apply (q : FVec Ideal S768x128 .bf16) (m : FVec Ideal S768x1 .f32) (kv : Vec Ideal S512x128 .bf16) (r : Fin 768) (k : Fin 512) :
    k0_pay4 q m kv (ix2 r k) = Ideal.exp ((∑ d : Fin 128, q (ix2 r d) * kv (ix2 k d)) - k0_pay2 q m kv (ix2 r 0)) := by
  pointwise [k0_pay4, pay1_apply]

theorem pay5_apply (q : FVec Ideal S768x128 .bf16) (m l : FVec Ideal S768x1 .f32) (kv : Vec Ideal S512x128 .bf16) (r : Fin 768) :
    k0_pay5 q m l kv (ix2 r 0) = Ideal.exp (m (ix2 r 0) - k0_pay2 q m kv (ix2 r 0)) * l (ix2 r 0)
      + ∑ k : Fin 512, Ideal.exp ((∑ d : Fin 128, q (ix2 r d) * kv (ix2 k d)) - k0_pay2 q m kv (ix2 r 0)) := by
  pointwise [k0_pay5, pay3_apply, pay4_apply]

theorem pay6_apply (q : FVec Ideal S768x128 .bf16) (m : FVec Ideal S768x1 .f32) (a : FVec Ideal S768x128 .f32)
    (kv vv : Vec Ideal S512x128 .bf16) (r : Fin 768) (j : Fin 128) :
    k0_pay6 q m a kv vv (ix2 r j) = Ideal.exp (m (ix2 r 0) - k0_pay2 q m kv (ix2 r 0)) * a (ix2 r j)
      + ∑ k : Fin 512, Ideal.exp ((∑ d : Fin 128, q (ix2 r d) * kv (ix2 k d)) - k0_pay2 q m kv (ix2 r 0)) * vv (ix2 k j) := by
  pointwise [k0_pay6, pay3_apply, pay4_apply]

theorem pay20_apply (v2 v4 v6 kv : Vec Ideal S256x128 .bf16) (r : Fin 768) :
    k0_pay20 v2 v4 v6 kv (ix2 r 0) = Finset.univ.sup fun k : Fin 256 => ∑ d : Fin 128, k0_pay17 v2 v4 v6 (ix2 r d) * kv (ix2 k d) := by
  pointwise [k0_pay20, k0_pay19, k0_pay18]
  rw [neg_inf, fold_eq_sup]
  exact max_eq_right bot_le

theorem pay23_apply (v2 v4 v6 kv : Vec Ideal S256x128 .bf16) (r : Fin 768) :
    k0_pay23 v2 v4 v6 kv (ix2 r 0) = ∑ k : Fin 256, Ideal.exp ((∑ d : Fin 128, k0_pay17 v2 v4 v6 (ix2 r d) * kv (ix2 k d)) - k0_pay20 v2 v4 v6 kv (ix2 r 0)) := by
  pointwise [k0_pay23, k0_pay22, k0_pay21, k0_pay19, k0_pay18]
  rw [mul_zero, zero_add]

theorem pay24_apply (v2 v4 v6 kv vv : Vec Ideal S256x128 .bf16) (r : Fin 768) (j : Fin 128) :
    k0_pay24 v2 v4 v6 kv vv (ix2 r j) = ∑ k : Fin 256, Ideal.exp ((∑ d : Fin 128, k0_pay17 v2 v4 v6 (ix2 r d) * kv (ix2 k d)) - k0_pay20 v2 v4 v6 kv (ix2 r 0)) * vv (ix2 k j) := by
  pointwise [k0_pay24, k0_pay22, k0_pay21, k0_pay19, k0_pay18]
  rw [mul_zero, zero_add]

theorem pay17_apply (v2 v4 v6 : Vec Ideal S256x128 .bf16) (r : Fin 768) (d : Fin 128) :
    k0_pay17 v2 v4 v6 (ix2 r d) = if h : r.val < 256 then v2 (ix2 ⟨r.val, h⟩ d)
      else if h : r.val - 256 < 256 then v4 (ix2 ⟨r.val - 256, h⟩ d) else v6 (ix2 ⟨r.val - 256 - 256, by omega⟩ d) := by
  pointwise [k0_pay17]

theorem pay14_apply (l : FVec Ideal S768x1 .f32) (a : FVec Ideal S768x128 .f32) (r : Fin 256) (j : Fin 128) :
    k0_pay14 l a (ix2 r j) = Ideal.div (a (ix2 ⟨r.val, by omega⟩ j)) (l (ix2 ⟨r.val, by omega⟩ 0)) := by
  pointwise [k0_pay14, k0_pay13]

theorem pay15_apply (l : FVec Ideal S768x1 .f32) (a : FVec Ideal S768x128 .f32) (r : Fin 256) (j : Fin 128) :
    k0_pay15 l a (ix2 r j) = Ideal.div (a (ix2 ⟨256 + r.val, by omega⟩ j)) (l (ix2 ⟨256 + r.val, by omega⟩ 0)) := by
  pointwise [k0_pay15, k0_pay13]

theorem pay16_apply (l : FVec Ideal S768x1 .f32) (a : FVec Ideal S768x128 .f32) (r : Fin 256) (j : Fin 128) :
    k0_pay16 l a (ix2 r j) = Ideal.div (a (ix2 ⟨512 + r.val, by omega⟩ j)) (l (ix2 ⟨512 + r.val, by omega⟩ 0)) := by
  pointwise [k0_pay16, k0_pay13]

end Cert.AttnPay

end
-- ==== Proof.AttnRun.lean ====
/- What the attention kernel leaves in an output block: for a row of queries, the softmax average of the values over the
   keys its point reads. -/
module

public import proofs.«01_k».proof.Proof.AttnPay
public import proofs.«01_k».proof.Proof.Gen.Kernel8Ideal.Value
public import Idealize.ShloMosaic.Lib.Pipeline.Value
public import Idealize.ShloMosaic.Lib.Pipeline.Covers
public import Idealize.ShloMosaic.Lib.Pipeline.ValueKit.Tiles

@[expose] public section

set_option maxRecDepth 16384

noncomputable section

namespace Cert.AttnRun

open Cert.Kernel8Ideal Cert.Kernel8Ideal.Gen Idealize.ShloMosaic Idealize.ShloMosaic.TcCoe Cert.Softmax
open scoped BigOperators

attribute [local instance] Cert.Kernel8Ideal.Gen.facts

/-- The array row of the `κ`-th key in the order the kernel takes them: the context first, then the latents. -/
def krow (κ : ℕ) : Fin 8448 := ⟨(κ + 8192) % 8448, Nat.mod_lt _ (by omega)⟩

/-- The score of query row `R` against the `κ`-th key. -/
def score {A : Nat} (q : (⟨2, ![A, 128]⟩ : Shape).Idx → EReal) (x1 : S8448x128.Idx → EReal) (R : Fin A) (κ : ℕ) : EReal :=
  ∑ d : Fin 128, q (ix2 R d) * x1 (ix2 (krow κ) d)

/-- Column `j` of the `κ`-th value. -/
def val (x2 : S8448x128.Idx → EReal) (j : Fin 128) (κ : ℕ) : EReal := x2 (ix2 (krow κ) j)

/-- How many chunks of latent keys a point takes. -/
def chunks (i : grid0.Coords) : ℕ := if (i 1).val < 32 then 16 else 0

theorem trips1 (i : grid0.Coords) : (k0_t1_loop i).trips = chunks i := by
  have H : ∀ b : Fin 33, Scf.trips (0#32) (Scalar.addi (0#32) (Scalar.muli (Scalar.divsi (Scalar.subi (Scalar.select
      (Scalar.cmpi CmpIPredicate.sge (Scalar.muli (BitVec.ofNat 32 b.val) 256#32) 8192#32) 0#32 16#32) 0#32) 1#32) 1#32)) 1#32
      = if b.val < 32 then 16 else 0 := by decide +kernel
  exact H (i 1)

theorem trips2 (i : grid0.Coords) : (k0_t2_loop i).trips = 0 := by
  have H : ∀ b : Fin 33, Scf.trips (Scalar.addi (0#32) (Scalar.muli (Scalar.divsi (Scalar.subi (Scalar.select
      (Scalar.cmpi CmpIPredicate.sge (Scalar.muli (BitVec.ofNat 32 b.val) 256#32) 8192#32) 0#32 16#32) 0#32) 1#32) 1#32))
      (Scalar.addi (0#32) (Scalar.subi (Scalar.select
      (Scalar.cmpi CmpIPredicate.sge (Scalar.muli (BitVec.ofNat 32 b.val) 256#32) 8192#32) 0#32 16#32) 0#32)) 1#32 = 0 := by decide +kernel
  exact H (i 1)

theorem trips2_raw (i : grid0.Coords) : Scf.trips (Scalar.addi (0#32) (Scalar.muli (Scalar.divsi (Scalar.subi (Scalar.select
      (Scalar.cmpi CmpIPredicate.sge (Scalar.muli (BitVec.ofNat 32 (i 1).val) 256#32) 8192#32) 0#32 16#32) 0#32) 1#32) 1#32))
      (Scalar.addi (0#32) (Scalar.subi (Scalar.select
      (Scalar.cmpi CmpIPredicate.sge (Scalar.muli (BitVec.ofNat 32 (i 1).val) 256#32) 8192#32) 0#32 16#32) 0#32)) 1#32 = 0 := trips2 i

theorem off1_eq (i : grid0.Coords) (k : Fin (k0_t1_loop i).trips) : k0_off1 i k = ![512 * k.val, 0] := by
  have H : ∀ b : Fin 16, (Scalar.indexCast (Scalar.muli (Scf.iv 0#32 1#32 b) 512#32)).toNat = 512 * b.val := by decide +kernel
  have hk : k.val < 16 := by
    have := k.isLt
    have h2 := trips1 i
    unfold chunks at h2
    split at h2 <;> omega
  have := H ⟨k.val, hk⟩
  unfold k0_off1
  funext a
  match a with
  | ⟨0, _⟩ => exact this
  | ⟨1, _⟩ => rfl

/-- A chunk of the keys or values: row `a` of chunk `k` is the `256 + 512 k + a`-th. -/
theorem chunk_apply (x : Vec Ideal S8448x128 .bf16) (i : grid0.Coords) (k : Fin (k0_t1_loop i).trips) (a : Fin 512) (d : Fin 128) :
    View.ld x (Rect.unit (s := S8448x128) (k0_off1 i k) S512x128.size (k0_off1_inb i k)) (ix2 a d)
      = x (ix2 (krow (256 + 512 * k.val + a.val)) d) := by
  refine View.ld_unit_apply_of x _ _ _ _ _ ?_
  have hk : k.val < 16 := by
    have := k.isLt
    have h2 := trips1 i
    unfold chunks at h2
    split at h2 <;> omega
  intro b
  match b with
  | ⟨0, _⟩ =>
    show (256 + 512 * k.val + a.val + 8192) % 8448 = k0_off1 i k 0 + a.val
    have e : k0_off1 i k 0 = 512 * k.val := congrFun (off1_eq i k) 0
    have := a.isLt
    omega
  | ⟨1, _⟩ =>
    show d.val = k0_off1 i k 1 + d.val
    have e : k0_off1 i k 1 = 0 := congrFun (off1_eq i k) 1
    omega

/-- The context's rows of the keys or values. -/
theorem ctx_apply (x : Vec Ideal S8448x128 .bf16) (a : Fin 256) (d : Fin 128) :
    View.ld x (Rect.unit (s := S8448x128) ![8192, 0] S256x128.size inb_S8448x128_S256x128_8192_0) (ix2 a d)
      = x (ix2 (krow (0 + a.val)) d) := by
  refine View.ld_unit_apply_of x _ _ _ _ _ ?_
  intro b
  match b with
  | ⟨0, _⟩ =>
    show (0 + a.val + 8192) % 8448 = 8192 + a.val
    have := a.isLt
    omega
  | ⟨1, _⟩ => show d.val = 0 + d.val; omega

section

variable (c : Dev nD) (i : grid0.Coords) (arg2 : Memref sig .tc .vmem S256x384 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x384 .bf16) (harg5 : arg5.IsWhole)

theorem trip (v8 : FVec Ideal S768x128 .bf16) (x1 x2 : Vec Ideal S8448x128 .bf16) (k : Fin (k0_t1_loop i).trips) (acc : FVec Ideal S768x1 .f32 × FVec Ideal S768x1 .f32 × FVec Ideal S768x128 .f32) :
    tripR_k0_t1 (F := Ideal) Variants.none c none i arg2 harg2 arg3 harg3 arg4 harg4 arg5 harg5 v8 (harg3.unread x1) (harg4.unread x2) k acc
     = (k0_pay2 v8 acc.1 (View.ld x1 (Rect.unit (s := S8448x128) (k0_off1 i k) S512x128.size (k0_off1_inb i k))),
      k0_pay5 v8 acc.1 acc.2.1 (View.ld x1 (Rect.unit (s := S8448x128) (k0_off1 i k) S512x128.size (k0_off1_inb i k))),
       k0_pay6 v8 acc.1 acc.2.2 (View.ld x1 (Rect.unit (s := S8448x128) (k0_off1 i k) S512x128.size (k0_off1_inb i k)))
         (View.ld x2 (Rect.unit (s := S8448x128) (k0_off1 i k) S512x128.size (k0_off1_inb i k)))) := by
  unfold tripR_k0_t1 trip_k0_t1
  obtain ⟨m, l, a⟩ := acc
  dsimp only
  simp only [View.readAt_eq_ld, harg3.read_unread, harg4.read_unread]

/-- The running state of a row: over the first `n` keys. -/
def Inv (v8 : FVec Ideal S768x128 .bf16) (x1 x2 : Vec Ideal S8448x128 .bf16) (n : ℕ)
    (acc : FVec Ideal S768x1 .f32 × FVec Ideal S768x1 .f32 × FVec Ideal S768x128 .f32) : Prop :=
  ∀ R : Fin 768, acc.1 (ix2 R 0) = mx (score v8 x1 R) n ∧ acc.2.1 (ix2 R 0) = den (score v8 x1 R) n
    ∧ ∀ j : Fin 128, acc.2.2 (ix2 R j) = num (score v8 x1 R) (val x2 j) n

theorem inv_step (v8 : FVec Ideal S768x128 .bf16) (x1 x2 : Vec Ideal S8448x128 .bf16) (k : Fin (k0_t1_loop i).trips)
    (acc : FVec Ideal S768x1 .f32 × FVec Ideal S768x1 .f32 × FVec Ideal S768x128 .f32)
    (h : Inv v8 x1 x2 (256 + 512 * k.val) acc) :
    Inv v8 x1 x2 (256 + 512 * k.val + 512)
      (tripR_k0_t1 (F := Ideal) Variants.none c none i arg2 harg2 arg3 harg3 arg4 harg4 arg5 harg5 v8 (harg3.unread x1) (harg4.unread x2) k acc) := by
  rw [trip]
  intro R
  obtain ⟨hm, hl, ha⟩ := h R
  have hs : ∀ a : Fin 512, (∑ d : Fin 128, v8 (ix2 R d) * View.ld x1 (Rect.unit (s := S8448x128) (k0_off1 i k) S512x128.size (k0_off1_inb i k)) (ix2 a d))
      = score v8 x1 R (256 + 512 * k.val + a.val) := fun a =>
    Finset.sum_congr rfl fun d _ => congrArg _ (chunk_apply x1 i k a d)
  have hm' : k0_pay2 v8 acc.1 (View.ld x1 (Rect.unit (s := S8448x128) (k0_off1 i k) S512x128.size (k0_off1_inb i k))) (ix2 R 0)
      = mx (score v8 x1 R) (256 + 512 * k.val + 512) := by
    refine (AttnPay.pay2_apply _ _ _ R).trans ?_
    rw [mx_add, hm]
    exact congrArg _ (congrArg _ (funext hs))
  refine ⟨hm', ?_, fun j => ?_⟩
  · refine (AttnPay.pay5_apply _ _ _ _ R).trans ?_
    rw [hm', den_add, hm, hl]
    exact congrArg _ (Finset.sum_congr rfl fun a _ => by rw [← hs a])
  · refine (AttnPay.pay6_apply _ _ _ _ _ R j).trans ?_
    rw [hm', num_add, hm, ha j]
    exact congrArg _ (Finset.sum_congr rfl fun a _ => by
      rw [← hs a]; exact congrArg _ (chunk_apply x2 i k a j))

theorem inv_st (v8 : FVec Ideal S768x128 .bf16) (x1 x2 : Vec Ideal S8448x128 .bf16)
    (acc : FVec Ideal S768x1 .f32 × FVec Ideal S768x1 .f32 × FVec Ideal S768x128 .f32)
    (h : Inv v8 x1 x2 256 acc) : ∀ k : ℕ, k ≤ (k0_t1_loop i).trips → Inv v8 x1 x2 (256 + 512 * k)
      (st_k0_t1 (F := Ideal) Variants.none c none i arg2 harg2 arg3 harg3 arg4 harg4 arg5 harg5 v8 (harg3.unread x1) (harg4.unread x2) acc k)
  | 0, _ => h
  | k + 1, hk => by
    have := inv_step c i arg2 harg2 arg3 harg3 arg4 harg4 arg5 harg5 v8 x1 x2 ⟨k, hk⟩ _ (inv_st v8 x1 x2 acc h k (Nat.le_of_succ_le hk))
    rw [← st_k0_t1_succ (F := Ideal)] at this
    exact this

/-- The three query heads of a block, one under another. -/
def qcat (x0 : Vec Ideal S256x384 .bf16) : FVec Ideal S768x128 .bf16 :=
  k0_pay17 (View.ld x0 (Rect.unit (s := S256x384) ![0, 0] S256x128.size inb_S256x384_S256x128_0_0))
    (View.ld x0 (Rect.unit (s := S256x384) ![0, 128] S256x128.size inb_S256x384_S256x128_0_128))
    (View.ld x0 (Rect.unit (s := S256x384) ![0, 256] S256x128.size inb_S256x384_S256x128_0_256))

theorem inv_init (x0 : Vec Ideal S256x384 .bf16) (x1 x2 : Vec Ideal S8448x128 .bf16) :
    Inv (qcat x0) x1 x2 256 (kernelRun0_A.sl.r_1 c arg2 harg2 arg3 harg3 x0 x1,
      kernelRun0_A.sl.r_2 c arg2 harg2 arg3 harg3 x0 x1, kernelRun0_A.sl.r_3 c arg2 harg2 arg3 harg3 arg4 harg4 x0 x1 x2) := by
  unfold kernelRun0_A.sl.r_1 kernelRun0_A.sl.r_2 kernelRun0_A.sl.r_3
  simp only [View.readAt_eq_ld, harg2.read_unread, harg3.read_unread, harg4.read_unread]
  intro R
  have hs : ∀ a : Fin 256, (∑ d : Fin 128, qcat x0 (ix2 R d) * View.ld x1 (Rect.unit (s := S8448x128) ![8192, 0] S256x128.size inb_S8448x128_S256x128_8192_0) (ix2 a d))
      = score (qcat x0) x1 R (0 + a.val) := fun a =>
    Finset.sum_congr rfl fun d _ => congrArg _ (ctx_apply x1 a d)
  have hm' := (AttnPay.pay20_apply (View.ld x0 (Rect.unit (s := S256x384) ![0, 0] S256x128.size inb_S256x384_S256x128_0_0))
    (View.ld x0 (Rect.unit (s := S256x384) ![0, 128] S256x128.size inb_S256x384_S256x128_0_128))
    (View.ld x0 (Rect.unit (s := S256x384) ![0, 256] S256x128.size inb_S256x384_S256x128_0_256))
    (View.ld x1 (Rect.unit (s := S8448x128) ![8192, 0] S256x128.size inb_S8448x128_S256x128_8192_0)) R).trans
    (b := _) (c := mx (score (qcat x0) x1 R) (0 + 256)) (by
      rw [mx_add, mx_zero, max_eq_right bot_le]
      exact congrArg _ (funext hs))
  refine ⟨hm', ?_, fun j => ?_⟩
  · refine (AttnPay.pay23_apply _ _ _ _ R).trans ?_
    rw [hm']
    refine Eq.trans (b := den (score (qcat x0) x1 R) (0 + 256)) ?_ rfl
    rw [den_add, den_zero, mul_zero]
    refine Eq.trans ?_ (zero_add _).symm
    exact Finset.sum_congr rfl fun a _ => by rw [← hs a]; rfl
  · refine (AttnPay.pay24_apply _ _ _ _ _ R j).trans ?_
    rw [hm']
    refine Eq.trans (b := num (score (qcat x0) x1 R) (val x2 j) (0 + 256)) ?_ rfl
    rw [num_add, num_zero, mul_zero]
    refine Eq.trans ?_ (zero_add _).symm
    exact Finset.sum_congr rfl fun a _ => by
      rw [← hs a]; exact congrArg _ (ctx_apply x2 a j)

/-- Where a column of a query block lies among the rows of the concatenated heads. -/
theorem qcat_apply (x0 : Vec Ideal S256x384 .bf16) (g : Fin 3) (r : Fin 256) (d : Fin 128) :
    qcat x0 (ix2 ⟨256 * g.val + r.val, by omega⟩ d) = x0 (ix2 r ⟨128 * g.val + d.val, by omega⟩) := by
  refine (AttnPay.pay17_apply _ _ _ _ _).trans ?_
  match g with
  | ⟨0, _⟩ =>
    rw [dif_pos (show 256 * 0 + r.val < 256 by omega)]
    refine View.ld_unit_apply_of x0 _ _ _ _ _ ?_
    intro b
    match b with
    | ⟨0, _⟩ => show r.val = 0 + (256 * 0 + r.val); omega
    | ⟨1, _⟩ => show 128 * 0 + d.val = 0 + d.val; omega
  | ⟨1, _⟩ =>
    rw [dif_neg (show ¬(256 * 1 + r.val < 256) by omega), dif_pos (show 256 * 1 + r.val - 256 < 256 by omega)]
    refine View.ld_unit_apply_of x0 _ _ _ _ _ ?_
    intro b
    match b with
    | ⟨0, _⟩ => show r.val = 0 + (256 * 1 + r.val - 256); omega
    | ⟨1, _⟩ => show 128 * 1 + d.val = 128 + d.val; omega
  | ⟨2, _⟩ =>
    rw [dif_neg (show ¬(256 * 2 + r.val < 256) by omega), dif_neg (show ¬(256 * 2 + r.val - 256 < 256) by omega)]
    refine View.ld_unit_apply_of x0 _ _ _ _ _ ?_
    intro b
    match b with
    | ⟨0, _⟩ => show r.val = 0 + (256 * 2 + r.val - 256 - 256); omega
    | ⟨1, _⟩ => show 128 * 2 + d.val = 256 + d.val; omega

/-- What a point leaves in its output block. -/
def blockVal (i : grid0.Coords) (x0 : Vec Ideal S256x384 .bf16) (x1 x2 : Vec Ideal S8448x128 .bf16) (g : Fin 3) (r : Fin 256) (j : Fin 128) : EReal :=
  Ideal.div (num (fun κ => ∑ d : Fin 128, x0 (ix2 r ⟨128 * g.val + d.val, by omega⟩) * x1 (ix2 (krow κ) d)) (val x2 j) (256 + 512 * chunks i))
    (den (fun κ => ∑ d : Fin 128, x0 (ix2 r ⟨128 * g.val + d.val, by omega⟩) * x1 (ix2 (krow κ) d)) (256 + 512 * chunks i))

theorem out_apply (x0 : Vec Ideal S256x384 .bf16) (x1 x2 : Vec Ideal S8448x128 .bf16) (g : Fin 3) (r : Fin 256) (j : Fin 128) :
    out0_A_3 c i arg2 harg2 arg3 harg3 arg4 harg4 arg5 harg5 x0 x1 x2 (ix2 r ⟨128 * g.val + j.val, by omega⟩)
      = blockVal i x0 x1 x2 g r j := by
  have hinv := inv_st c i arg2 harg2 arg3 harg3 arg4 harg4 arg5 harg5 (qcat x0) x1 x2 _
    (inv_init c arg2 harg2 arg3 harg3 arg4 harg4 x0 x1 x2) _ le_rfl
  have hq : kernelRun0_A.sl.r (F := Ideal) c arg2 harg2 x0 = qcat x0 := by
    unfold kernelRun0_A.sl.r
    simp only [View.readAt_eq_ld, harg2.read_unread]
    rfl
  set S := st_k0_t1 (F := Ideal) Variants.none c none i arg2 harg2 arg3 harg3 arg4 harg4 arg5 harg5 (qcat x0) (harg3.unread x1) (harg4.unread x2)
    (kernelRun0_A.sl.r_1 c arg2 harg2 arg3 harg3 x0 x1,
      kernelRun0_A.sl.r_2 c arg2 harg2 arg3 harg3 x0 x1, kernelRun0_A.sl.r_3 c arg2 harg2 arg3 harg3 arg4 harg4 x0 x1 x2) (k0_t1_loop i).trips with hS
  have hout : out0_A_3 c i arg2 harg2 arg3 harg3 arg4 harg4 arg5 harg5 x0 x1 x2 = View.canon (Val := Elt Ideal)
      [⟨Rect.unit (s := S256x384) ![0, 256] S256x128.size inb_S256x384_S256x128_0_256, k0_pay16 S.2.1 S.2.2⟩,
       ⟨Rect.unit (s := S256x384) ![0, 128] S256x128.size inb_S256x384_S256x128_0_128, k0_pay15 S.2.1 S.2.2⟩,
       ⟨Rect.unit (s := S256x384) ![0, 0] S256x128.size inb_S256x384_S256x128_0_0, k0_pay14 S.2.1 S.2.2⟩] := by
    unfold out0_A_3
    rw [View.read_writes_eq_canon _ _ _ (cover0_A_3 c i arg2 harg2 arg3 harg3 arg4 harg4 arg5 harg5 x0 x1 x2)]
    unfold kernelRun0_A
    dsimp only
    rw [hq]
    rw [trips2_raw i, st_k0_t2_zero]
  rw [hout]
  have hval : ∀ (R : Fin 768), R.val = 256 * g.val + r.val → Ideal.div (S.2.2 (ix2 R j)) (S.2.1 (ix2 R 0)) = blockVal i x0 x1 x2 g r j := by
    intro R hR
    rw [show R = ⟨256 * g.val + r.val, by omega⟩ from Fin.ext hR]
    obtain ⟨_, hl, ha⟩ := hinv ⟨256 * g.val + r.val, by omega⟩
    rw [hl, ha j, trips1]
    have e : score (qcat x0) x1 ⟨256 * g.val + r.val, by omega⟩
        = fun κ => ∑ d : Fin 128, x0 (ix2 r ⟨128 * g.val + d.val, by omega⟩) * x1 (ix2 (krow κ) d) := by
      funext κ
      exact Finset.sum_congr rfl fun d _ => by rw [qcat_apply]
    rw [e]
    rfl
  have hidx : ∀ (o : Fin 3) (inb : ∀ a : Fin 2, ![0, 128 * o.val] a + S256x128.size a ≤ S256x384.size a) (x : S256x128.Idx),
      (Rect.unit (s := S256x384) ![0, 128 * o.val] S256x128.size inb).emb x = (ix2 r ⟨128 * g.val + j.val, by omega⟩ : S256x384.Idx) →
      o = g ∧ x = ix2 r j := by
    intro o inb x hx
    have h0 := congrArg Fin.val (congrFun hx 0)
    have h1 := congrArg Fin.val (congrFun hx 1)
    have h0' : 0 + 1 * (x 0).val = r.val := h0
    have h1' : 128 * o.val + 1 * (x 1).val = 128 * g.val + j.val := h1
    have hx1 : (x 1).val < 128 := (x 1).isLt
    have ho : o = g := Fin.ext (by omega)
    refine ⟨ho, ?_⟩
    subst ho
    funext a
    match a with
    | ⟨0, _⟩ => exact Fin.ext (by show (x 0).val = r.val; omega)
    | ⟨1, _⟩ => exact Fin.ext (by show (x 1).val = j.val; omega)
  refine View.canon_eq_of_allAt _ _ _ ?_ ?_
  · exact View.cover_of_tiled_head _ _ _ (by rfl) _
  · intro p hp x hx
    rcases List.mem_cons.mp hp with rfl | hp
    · obtain ⟨hg, rfl⟩ := hidx 2 inb_S256x384_S256x128_0_256 x hx
      subst hg
      exact (AttnPay.pay16_apply _ _ r j).trans (hval _ rfl)
    rcases List.mem_cons.mp hp with rfl | hp
    · obtain ⟨hg, rfl⟩ := hidx 1 inb_S256x384_S256x128_0_128 x hx
      subst hg
      exact (AttnPay.pay15_apply _ _ r j).trans (hval _ rfl)
    rcases List.mem_cons.mp hp with rfl | hp
    · obtain ⟨hg, rfl⟩ := hidx 0 inb_S256x384_S256x128_0_0 x hx
      subst hg
      exact (AttnPay.pay14_apply _ _ r j).trans (hval _ (by show r.val = 256 * 0 + r.val; omega))
    exact absurd hp List.not_mem_nil

end

end Cert.AttnRun

end
-- ==== Proof.AttnRef.lean ====
/- The reference's attention read at an index: scores, softmax along the keys, average of the values. -/
module

public import proofs.«01_k».proof.Proof.AttnRun
public import proofs.«01_k».proof.Proof.Gen.Reference8Ideal.Run
public import Idealize.ShloMosaic.Lib.Pointwise

@[expose] public section

set_option maxRecDepth 16384

noncomputable section

namespace Cert.AttnRef

open Cert.Reference8Ideal Cert.Reference8Ideal.Gen Idealize.ShloMosaic Idealize.ShloMosaic.TcCoe
open Cert.Softmax
open Cert.AttnRun (krow)
open scoped BigOperators

attribute [local instance] Cert.Reference8Ideal.Gen.facts

theorem fold_neg_inf {n : ℕ} (f : Fin n → EReal) : Finset.univ.fold max (Ideal.ofBits .f32 0xFF800000#32) f = Finset.univ.sup f := by
  rw [AttnPay.neg_inf, AttnPay.fold_eq_sup]

/-- The larger of minus infinity and a number is the number. -/
theorem max_cst {t : Shape} (h : S_.BroadcastsInDim t (![] : Fin 0 → Fin t.rank)) (x : FVec Ideal t .f32) (i : t.Idx) :
    maximumf (broadcastInDim t ![] h (constant S_ .f32 0xFF800000#32)) x i = x i := by
  have h1 : maximumf (broadcastInDim t ![] h (constant S_ .f32 0xFF800000#32)) x i = max (Ideal.ofBits .f32 0xFF800000#32) (x i) := rfl
  rw [h1, AttnPay.neg_inf]
  exact max_eq_right bot_le

/-- The scores of a query row against the keys, the context's first. -/
def sc (q : S8448x1536.Idx → EReal) (k : S8448x512.Idx → EReal) (t : Fin 8448) (h : Fin 4) (g : Fin 3) (κ : ℕ) : EReal :=
  (∑ d : Fin 128, k (ix2 (krow κ) ⟨128 * h.val + d.val, by omega⟩) * q (ix2 t ⟨384 * h.val + 128 * g.val + d.val, by omega⟩)) * Ideal.ofBits .f32 0x3DB504F3#32

/-! ## The latent rows, against all keys -/

/-- The scores. -/
def sLat (q : FVec Ideal S8448x1536 .f32) (k : FVec Ideal S8448x512 .f32) : FVec Ideal S4x3x8192x8448 .f32 :=
  mulf (transpose S4x3x8192x8448 [0, 3, 2, 1] (Host.dotGeneral (φ₁ := .f32) (φ₂ := .f32) dot_S8448x4x128_S8192x4x3x128_S4x8448x8192x3_2_3_0_02_1_1 none (concatenate S8448x4x128 0 [⟨S256x4x128, (shapeCast _ (extractStridedSlice S256x512 ![8192, 0] k slices_S8448x512_S256x512_8192_0) shapeCasts_S256x512_S256x4x128)⟩, ⟨S8192x4x128, (shapeCast _ (extractStridedSlice S8192x512 ![0, 0] k slices_S8448x512_S8192x512_0_0) shapeCasts_S8192x512_S8192x4x128)⟩] concatenates_S256x4x128_S8192x4x128_S8448x4x128_d0) (shapeCast _ (extractStridedSlice S8192x1536 ![0, 0] q slices_S8448x1536_S8192x1536_0_0) shapeCasts_S8192x1536_S8192x4x3x128)) transposes_S4x8448x8192x3_S4x3x8192x8448_0_3_2_1) (broadcastInDim S4x3x8192x8448 ![] bcast_S_S4x3x8192x8448 (constant S_ .f32 0x3DB504F3#32))

theorem sLat_apply (q : FVec Ideal S8448x1536 .f32) (k : FVec Ideal S8448x512 .f32) (h : Fin 4) (g : Fin 3) (t : Fin 8192) (κ : Fin 8448) :
    sLat q k (ix4 h g t κ) = sc q k ⟨t.val, by omega⟩ h g κ := by
  pointwise [sLat]
  unfold sc
  refine congrArg (fun a : EReal => a * _) (Finset.sum_congr rfl fun x _ => congrArg₂ (fun a b : EReal => a * b) (Eq.trans (b := k (ix2 (krow κ) ⟨h.val * 128 + x.val, by omega⟩)) ?_ ?_) ?_)
  · by_cases h0 : κ.val < 256
    · rw [dif_pos h0]
      exact congrArg (fun r => k (ix2 r _)) (Fin.ext (by show 8192 + κ.val = (κ.val + 8192) % 8448; omega))
    · rw [dif_neg h0]
      exact congrArg (fun r => k (ix2 r _)) (Fin.ext (by show κ.val - 256 = (κ.val + 8192) % 8448; omega))
  · exact congrArg (fun r => k (ix2 _ r)) (Fin.ext (by dsimp only; omega))
  · exact congrArg (fun r => q (ix2 _ r)) (Fin.ext (by dsimp only; omega))

/-- The largest score of a row, by one reduction. -/
def xLat (s : FVec Ideal S4x3x8192x8448 .f32) : FVec Ideal S4x3x8192 .f32 :=
  Host.reduce FloatOps.maximumf s (constant S_ .f32 0xFF800000#32) reducesTo_S4x3x8192x8448_S4x3x8192_d3 h_S_

theorem xLat_apply (s : FVec Ideal S4x3x8192x8448 .f32) (h : Fin 4) (g : Fin 3) (t : Fin 8192) :
    xLat s (ix3 h g t) = Finset.univ.fold max (Ideal.ofBits .f32 0xFF800000#32) fun κ : Fin 8448 => s (ix4 h g t κ) := by
  pointwise [xLat]

/-- The largest score of a row. -/
def mLat (s : FVec Ideal S4x3x8192x8448 .f32) : FVec Ideal S4x3x8192 .f32 :=
  maximumf (broadcastInDim S4x3x8192 ![] bcast_S_S4x3x8192 (constant S_ .f32 0xFF800000#32)) (xLat s)

theorem mLat_apply (s : FVec Ideal S4x3x8192x8448 .f32) (h : Fin 4) (g : Fin 3) (t : Fin 8192) :
    mLat s (ix3 h g t) = Finset.univ.sup fun κ : Fin 8448 => s (ix4 h g t κ) := by
  refine (max_cst bcast_S_S4x3x8192 (xLat s) (ix3 h g t)).trans ?_
  exact (xLat_apply s h g t).trans (fold_neg_inf _)

/-- A row's number at every key. -/
def bLat (s : FVec Ideal S4x3x8192 .f32) : FVec Ideal S4x3x8192x8448 .f32 :=
  broadcastInDim S4x3x8192x8448 ![0, 1, 2, 3] bcast_S4x3x8192x1_S4x3x8192x8448_0_1_2_3 (broadcastInDim S4x3x8192x1 ![0, 1, 2] bcast_S4x3x8192_S4x3x8192x1_0_1_2 s)

theorem bLat_apply (s : FVec Ideal S4x3x8192 .f32) (h : Fin 4) (g : Fin 3) (t : Fin 8192) (κ : Fin 8448) :
    bLat s (ix4 h g t κ) = s (ix3 h g t) := by
  pointwise [bLat]

/-- The exponentials. -/
def eLat (s : FVec Ideal S4x3x8192x8448 .f32) : FVec Ideal S4x3x8192x8448 .f32 := Host.exp (subf s (bLat (mLat s)))

theorem eLat_apply (s : FVec Ideal S4x3x8192x8448 .f32) (h : Fin 4) (g : Fin 3) (t : Fin 8192) (κ : Fin 8448) :
    eLat s (ix4 h g t κ) = Ideal.exp (s (ix4 h g t κ) - Finset.univ.sup fun κ : Fin 8448 => s (ix4 h g t κ)) := by
  have h1 : eLat s (ix4 h g t κ) = Ideal.exp (s (ix4 h g t κ) - bLat (mLat s) (ix4 h g t κ)) := rfl
  rw [h1, bLat_apply, mLat_apply]

/-- Their sum along a row. -/
def zLat (s : FVec Ideal S4x3x8192x8448 .f32) : FVec Ideal S4x3x8192 .f32 :=
  Host.reduceAdd s (constant S_ .f32 0x00000000#32) reducesTo_S4x3x8192x8448_S4x3x8192_d3 h_S_

theorem zLat_apply (s : FVec Ideal S4x3x8192x8448 .f32) (h : Fin 4) (g : Fin 3) (t : Fin 8192) :
    zLat s (ix3 h g t) = ∑ κ : Fin 8448, s (ix4 h g t κ) := by
  pointwise [zLat]

/-- The softmax weights. -/
def wLat (s : FVec Ideal S4x3x8192x8448 .f32) : FVec Ideal S4x3x8192x8448 .f32 := Host.divf (eLat s) (bLat (zLat (eLat s)))

theorem wLat_apply (q : FVec Ideal S8448x1536 .f32) (k : FVec Ideal S8448x512 .f32) (h : Fin 4) (g : Fin 3) (t : Fin 8192) (κ : Fin 8448) :
    wLat (sLat q k) (ix4 h g t κ) = Ideal.div (Ideal.exp (sc q k ⟨t.val, by omega⟩ h g κ - mx (sc q k ⟨t.val, by omega⟩ h g) 8448)) (den (sc q k ⟨t.val, by omega⟩ h g) 8448) := by
  have h1 : wLat (sLat q k) (ix4 h g t κ) = Ideal.div (eLat (sLat q k) (ix4 h g t κ)) (bLat (zLat (eLat (sLat q k))) (ix4 h g t κ)) := rfl
  have hm : (Finset.univ.sup fun κ : Fin 8448 => sLat q k (ix4 h g t κ)) = mx (sc q k ⟨t.val, by omega⟩ h g) 8448 := by
    rw [mx_fin]
    exact congrArg _ (funext fun κ => sLat_apply q k h g t κ)
  rw [h1, bLat_apply, zLat_apply, eLat_apply, hm, sLat_apply, den_fin]
  refine congrArg _ (Finset.sum_congr rfl fun κ _ => ?_)
  rw [eLat_apply, hm, sLat_apply]

/-- The averages. -/
def oLat (w : FVec Ideal S4x3x8192x8448 .f32) (v : FVec Ideal S8448x512 .f32) : FVec Ideal S8192x1536 .f32 :=
  shapeCast _ (transpose S8192x4x3x128 [3, 0, 2, 1] (Host.dotGeneral (φ₁ := .f32) (φ₂ := .f32) dot_S8448x4x128_S4x3x8192x8448_S4x128x3x8192_0_3_2_12_1_0 none (concatenate S8448x4x128 0 [⟨S256x4x128, (shapeCast _ (extractStridedSlice S256x512 ![8192, 0] v slices_S8448x512_S256x512_8192_0) shapeCasts_S256x512_S256x4x128)⟩, ⟨S8192x4x128, (shapeCast _ (extractStridedSlice S8192x512 ![0, 0] v slices_S8448x512_S8192x512_0_0) shapeCasts_S8192x512_S8192x4x128)⟩] concatenates_S256x4x128_S8192x4x128_S8448x4x128_d0) w) transposes_S4x128x3x8192_S8192x4x3x128_3_0_2_1) shapeCasts_S8192x4x3x128_S8192x1536

theorem oLat_apply (w : FVec Ideal S4x3x8192x8448 .f32) (v : FVec Ideal S8448x512 .f32) (h : Fin 4) (g : Fin 3) (t : Fin 8192) (j : Fin 128) :
    oLat w v (ix2 t ⟨384 * h.val + 128 * g.val + j.val, by omega⟩) = ∑ κ : Fin 8448, v (ix2 (krow κ) ⟨128 * h.val + j.val, by omega⟩) * w (ix4 h g t κ) := by
  pointwise [oLat]
  refine Eq.trans (congrArg₂ (fun a b : EReal => a + b) (Finset.sum_congr rfl fun x _ => ?_) (Finset.sum_congr rfl fun x _ => ?_))
    (Fin.sum_univ_add (a := 256) (b := 8192) fun κ : Fin 8448 => v (ix2 (krow κ) ⟨128 * h.val + j.val, by omega⟩) * w (ix4 h g t κ)).symm
  · refine congrArg₂ (fun a b : EReal => a * b) (congrArg₂ (fun a b => v (ix2 a b)) (Fin.ext ?_) (Fin.ext ?_)) (congrArg₂ (fun a b => w (ix4 a b t _)) (Fin.ext ?_) (Fin.ext ?_))
    · show 8192 + x.val = (x.val + 8192) % 8448; omega
    · show _ = _; first | rfl | (dsimp only; omega)
    · show _ = _; first | rfl | (dsimp only; omega)
    · show _ = _; first | rfl | (dsimp only; omega)
  · refine congrArg₂ (fun a b : EReal => a * b) (congrArg₂ (fun a b => v (ix2 a b)) (Fin.ext ?_) (Fin.ext ?_)) (congrArg₂ (fun a b => w (ix4 a b t _)) (Fin.ext ?_) (Fin.ext ?_))
    · show x.val = (256 + x.val + 8192) % 8448; omega
    · show _ = _; first | rfl | (dsimp only; omega)
    · show _ = _; first | rfl | (dsimp only; omega)
    · show _ = _; first | rfl | (dsimp only; omega)

/-! ## The context rows, against the context keys -/

/-- The scores. -/
def sCtx (q : FVec Ideal S8448x1536 .f32) (k : FVec Ideal S8448x512 .f32) : FVec Ideal S4x3x256x256 .f32 :=
  mulf (transpose S4x3x256x256 [0, 3, 2, 1] (Host.dotGeneral (φ₁ := .f32) (φ₂ := .f32) dot_S256x4x128_S256x4x3x128_S4x256x256x3_2_3_0_02_1_1 none (shapeCast _ (extractStridedSlice S256x512 ![8192, 0] k slices_S8448x512_S256x512_8192_0) shapeCasts_S256x512_S256x4x128) (shapeCast _ (extractStridedSlice S256x1536 ![8192, 0] q slices_S8448x1536_S256x1536_8192_0) shapeCasts_S256x1536_S256x4x3x128)) transposes_S4x256x256x3_S4x3x256x256_0_3_2_1) (broadcastInDim S4x3x256x256 ![] bcast_S_S4x3x256x256 (constant S_ .f32 0x3DB504F3#32))

theorem sCtx_apply (q : FVec Ideal S8448x1536 .f32) (k : FVec Ideal S8448x512 .f32) (h : Fin 4) (g : Fin 3) (t : Fin 256) (κ : Fin 256) :
    sCtx q k (ix4 h g t κ) = sc q k ⟨8192 + t.val, by omega⟩ h g κ := by
  pointwise [sCtx]
  unfold sc
  refine congrArg (fun a : EReal => a * _) (Finset.sum_congr rfl fun x _ => congrArg₂ (fun a b : EReal => a * b) (Eq.trans (b := k (ix2 (krow κ) ⟨h.val * 128 + x.val, by omega⟩)) ?_ ?_) ?_)
  · exact congrArg (fun r => k (ix2 r _)) (Fin.ext (by show 8192 + κ.val = (κ.val + 8192) % 8448; omega))
  · exact congrArg (fun r => k (ix2 _ r)) (Fin.ext (by dsimp only; omega))
  · exact congrArg (fun r => q (ix2 _ r)) (Fin.ext (by dsimp only; omega))

/-- The largest score of a row, by one reduction. -/
def xCtx (s : FVec Ideal S4x3x256x256 .f32) : FVec Ideal S4x3x256 .f32 :=
  Host.reduce FloatOps.maximumf s (constant S_ .f32 0xFF800000#32) reducesTo_S4x3x256x256_S4x3x256_d3 h_S_

theorem xCtx_apply (s : FVec Ideal S4x3x256x256 .f32) (h : Fin 4) (g : Fin 3) (t : Fin 256) :
    xCtx s (ix3 h g t) = Finset.univ.fold max (Ideal.ofBits .f32 0xFF800000#32) fun κ : Fin 256 => s (ix4 h g t κ) := by
  pointwise [xCtx]

/-- The largest score of a row. -/
def mCtx (s : FVec Ideal S4x3x256x256 .f32) : FVec Ideal S4x3x256 .f32 :=
  maximumf (broadcastInDim S4x3x256 ![] bcast_S_S4x3x256 (constant S_ .f32 0xFF800000#32)) (xCtx s)

theorem mCtx_apply (s : FVec Ideal S4x3x256x256 .f32) (h : Fin 4) (g : Fin 3) (t : Fin 256) :
    mCtx s (ix3 h g t) = Finset.univ.sup fun κ : Fin 256 => s (ix4 h g t κ) := by
  refine (max_cst bcast_S_S4x3x256 (xCtx s) (ix3 h g t)).trans ?_
  exact (xCtx_apply s h g t).trans (fold_neg_inf _)

/-- A row's number at every key. -/
def bCtx (s : FVec Ideal S4x3x256 .f32) : FVec Ideal S4x3x256x256 .f32 :=
  broadcastInDim S4x3x256x256 ![0, 1, 2, 3] bcast_S4x3x256x1_S4x3x256x256_0_1_2_3 (broadcastInDim S4x3x256x1 ![0, 1, 2] bcast_S4x3x256_S4x3x256x1_0_1_2 s)

theorem bCtx_apply (s : FVec Ideal S4x3x256 .f32) (h : Fin 4) (g : Fin 3) (t : Fin 256) (κ : Fin 256) :
    bCtx s (ix4 h g t κ) = s (ix3 h g t) := by
  pointwise [bCtx]

/-- The exponentials. -/
def eCtx (s : FVec Ideal S4x3x256x256 .f32) : FVec Ideal S4x3x256x256 .f32 := Host.exp (subf s (bCtx (mCtx s)))

theorem eCtx_apply (s : FVec Ideal S4x3x256x256 .f32) (h : Fin 4) (g : Fin 3) (t : Fin 256) (κ : Fin 256) :
    eCtx s (ix4 h g t κ) = Ideal.exp (s (ix4 h g t κ) - Finset.univ.sup fun κ : Fin 256 => s (ix4 h g t κ)) := by
  have h1 : eCtx s (ix4 h g t κ) = Ideal.exp (s (ix4 h g t κ) - bCtx (mCtx s) (ix4 h g t κ)) := rfl
  rw [h1, bCtx_apply, mCtx_apply]

/-- Their sum along a row. -/
def zCtx (s : FVec Ideal S4x3x256x256 .f32) : FVec Ideal S4x3x256 .f32 :=
  Host.reduceAdd s (constant S_ .f32 0x00000000#32) reducesTo_S4x3x256x256_S4x3x256_d3 h_S_

theorem zCtx_apply (s : FVec Ideal S4x3x256x256 .f32) (h : Fin 4) (g : Fin 3) (t : Fin 256) :
    zCtx s (ix3 h g t) = ∑ κ : Fin 256, s (ix4 h g t κ) := by
  pointwise [zCtx]

/-- The softmax weights. -/
def wCtx (s : FVec Ideal S4x3x256x256 .f32) : FVec Ideal S4x3x256x256 .f32 := Host.divf (eCtx s) (bCtx (zCtx (eCtx s)))

theorem wCtx_apply (q : FVec Ideal S8448x1536 .f32) (k : FVec Ideal S8448x512 .f32) (h : Fin 4) (g : Fin 3) (t : Fin 256) (κ : Fin 256) :
    wCtx (sCtx q k) (ix4 h g t κ) = Ideal.div (Ideal.exp (sc q k ⟨8192 + t.val, by omega⟩ h g κ - mx (sc q k ⟨8192 + t.val, by omega⟩ h g) 256)) (den (sc q k ⟨8192 + t.val, by omega⟩ h g) 256) := by
  have h1 : wCtx (sCtx q k) (ix4 h g t κ) = Ideal.div (eCtx (sCtx q k) (ix4 h g t κ)) (bCtx (zCtx (eCtx (sCtx q k))) (ix4 h g t κ)) := rfl
  have hm : (Finset.univ.sup fun κ : Fin 256 => sCtx q k (ix4 h g t κ)) = mx (sc q k ⟨8192 + t.val, by omega⟩ h g) 256 := by
    rw [mx_fin]
    exact congrArg _ (funext fun κ => sCtx_apply q k h g t κ)
  rw [h1, bCtx_apply, zCtx_apply, eCtx_apply, hm, sCtx_apply, den_fin]
  refine congrArg _ (Finset.sum_congr rfl fun κ _ => ?_)
  rw [eCtx_apply, hm, sCtx_apply]

/-- The averages. -/
def oCtx (w : FVec Ideal S4x3x256x256 .f32) (v : FVec Ideal S8448x512 .f32) : FVec Ideal S256x1536 .f32 :=
  shapeCast _ (transpose S256x4x3x128 [3, 0, 2, 1] (Host.dotGeneral (φ₁ := .f32) (φ₂ := .f32) dot_S256x4x128_S4x3x256x256_S4x128x3x256_0_3_2_12_1_0 none (shapeCast _ (extractStridedSlice S256x512 ![8192, 0] v slices_S8448x512_S256x512_8192_0) shapeCasts_S256x512_S256x4x128) w) transposes_S4x128x3x256_S256x4x3x128_3_0_2_1) shapeCasts_S256x4x3x128_S256x1536

theorem oCtx_apply (w : FVec Ideal S4x3x256x256 .f32) (v : FVec Ideal S8448x512 .f32) (h : Fin 4) (g : Fin 3) (t : Fin 256) (j : Fin 128) :
    oCtx w v (ix2 t ⟨384 * h.val + 128 * g.val + j.val, by omega⟩) = ∑ κ : Fin 256, v (ix2 (krow κ) ⟨128 * h.val + j.val, by omega⟩) * w (ix4 h g t κ) := by
  pointwise [oCtx]
  refine Finset.sum_congr rfl fun x _ => congrArg₂ (fun a b : EReal => a * b) (congrArg₂ (fun a b => v (ix2 a b)) (Fin.ext ?_) (Fin.ext ?_)) (congrArg₂ (fun a b => w (ix4 a b t x)) (Fin.ext ?_) (Fin.ext ?_))
  · show 8192 + x.val = (x.val + 8192) % 8448; omega
  · show _ = _; first | rfl | (dsimp only; omega)
  · show _ = _; first | rfl | (dsimp only; omega)
  · show _ = _; first | rfl | (dsimp only; omega)

/-- The whole result. -/
def out (q : FVec Ideal S8448x1536 .f32) (k v : FVec Ideal S8448x512 .f32) : FVec Ideal S8448x1536 .bf16 :=
  truncf .bf16 (concatenate S8448x1536 0 [⟨S8192x1536, oLat (wLat (sLat q k)) v⟩, ⟨S256x1536, oCtx (wCtx (sCtx q k)) v⟩] concatenates_S8192x1536_S256x1536_S8448x1536_d0) bitsLt_bf16_f32

/-- The reference's result is `out` of its arguments, the values being columns of the projection. -/
theorem res_eq (m : (ℓ : Loc nD τ sig) → Buf (Elt Ideal) ℓ) (c : Dev nD) :
    Value.res_main_v53 (F := Ideal) m c = out (m ((c.tc : Thread nD τ).loc main_arg0)) (m ((c.tc : Thread nD τ).loc main_arg1))
      (extf .f32 (extractStridedSlice S8448x512 ![0, 5120] (m ((c.tc : Thread nD τ).loc main_arg2)) slices_S8448x11776_S8448x512_0_5120) bitsLt_bf16_f32) := rfl

theorem out_lat (q : FVec Ideal S8448x1536 .f32) (k v : FVec Ideal S8448x512 .f32) (h : Fin 4) (g : Fin 3) (t : Fin 8448) (ht : t.val < 8192) (j : Fin 128) :
    out q k v (ix2 t ⟨384 * h.val + 128 * g.val + j.val, by omega⟩)
      = ∑ κ : Fin 8448, v (ix2 (krow κ) ⟨128 * h.val + j.val, by omega⟩)
          * Ideal.div (Ideal.exp (sc q k t h g κ - mx (sc q k t h g) 8448)) (den (sc q k t h g) 8448) := by
  have e : out q k v (ix2 t ⟨384 * h.val + 128 * g.val + j.val, by omega⟩)
      = oLat (wLat (sLat q k)) v (ix2 ⟨t.val, ht⟩ ⟨384 * h.val + 128 * g.val + j.val, by omega⟩) := by
    pointwise [out]
    rw [dif_pos ht]
  rw [e, oLat_apply]
  exact Finset.sum_congr rfl fun κ _ => by rw [wLat_apply]

theorem out_ctx (q : FVec Ideal S8448x1536 .f32) (k v : FVec Ideal S8448x512 .f32) (h : Fin 4) (g : Fin 3) (t : Fin 8448) (ht : ¬t.val < 8192) (j : Fin 128) :
    out q k v (ix2 t ⟨384 * h.val + 128 * g.val + j.val, by omega⟩)
      = ∑ κ : Fin 256, v (ix2 (krow κ) ⟨128 * h.val + j.val, by omega⟩)
          * Ideal.div (Ideal.exp (sc q k t h g κ - mx (sc q k t h g) 256)) (den (sc q k t h g) 256) := by
  have e : out q k v (ix2 t ⟨384 * h.val + 128 * g.val + j.val, by omega⟩)
      = oCtx (wCtx (sCtx q k)) v (ix2 ⟨t.val - 8192, by omega⟩ ⟨384 * h.val + 128 * g.val + j.val, by omega⟩) := by
    pointwise [out]
    rw [dif_neg ht]
  rw [e, oCtx_apply]
  have et : (⟨8192 + (t.val - 8192), by omega⟩ : Fin 8448) = t := Fin.ext (by show 8192 + (t.val - 8192) = t.val; omega)
  exact Finset.sum_congr rfl fun κ _ => by rw [wCtx_apply]; simp only [et]

end Cert.AttnRef

end
-- ==== Proof.Attn.lean ====
/- The grouped-query attention: the call's tiled softmax average is the reference's softmax average at the ideal floats when the queries and the keys
   are finite, and the frames of both. -/
module

public import proofs.«01_k».proof.Defs
public import proofs.«01_k».proof.Proof.AttnRun
public import proofs.«01_k».proof.Proof.AttnRef
public import proofs.«01_k».proof.Proof.Gen.Pre_finite8
public import proofs.«01_k».proof.Proof.Gen.Kernel8.Frame
public import proofs.«01_k».proof.Proof.Gen.Kernel8Ideal.Value
public import proofs.«01_k».proof.Proof.Gen.Reference8Ideal.Run
public import Idealize.ShloMosaic.Lib.ReduceAll

@[expose] public section

set_option maxRecDepth 16384

noncomputable section

namespace Cert.Attn

open Cert.Kernel8Ideal Cert.Kernel8Ideal.Gen Idealize.ShloMosaic Idealize.ShloMosaic.TcCoe Idealize.SL.Sem
open Cert.Softmax Cert.AttnRun
open Cert.AttnRef (sc)
open Idealize.ShloMosaic.Pipeline (Dat Window)
open scoped BigOperators

attribute [local instance] Cert.Kernel8Ideal.Gen.facts Cert.Reference8Ideal.Gen.facts Cert.Pre_finite8.Gen.facts

variable (m : (ℓ : Loc nD τ sig) → Buf (Elt Ideal) ℓ) (ρ : Dev nD → PrngReg)

/-! ## The precondition -/

theorem real_of_lt (x : EReal) (h : Ideal.cmp .olt (FloatOps.absf (F := Ideal) (φ := .f32) x) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => exact absurd h (by simp [Ideal.cmp, show ∀ x : EReal, FloatOps.absf (F := Ideal) (φ := .f32) x = max x (-x) from fun _ => rfl])
  | top => exact absurd h (by simp [Ideal.cmp, show ∀ x : EReal, FloatOps.absf (F := Ideal) (φ := .f32) x = max x (-x) from fun _ => rfl])
  | coe r => exact ⟨r, rfl⟩

/-- The precondition says that every query and every key is a real number. -/
theorem finite (q : FVec Ideal S8448x1536 .f32) (k : FVec Ideal S8448x512 .f32) (p : FVec Ideal S8448x11776 .bf16)
    (e : Pre_finite8.fn (F := Ideal) q k p = fun _ => 1#1) : (∀ i, ∃ r : ℝ, q i = r) ∧ ∀ i, ∃ r : ℝ, k i = r := by
  haveI : Subsingleton Pre_finite8.S_.Idx := ⟨fun a b => funext fun k => k.elim0⟩
  have e' := congrFun e (fun k => k.elim0)
  unfold Pre_finite8.fn at e'
  dsimp only at e'
  obtain ⟨h0, h1⟩ := IntOp.andi_eq_one.1 e'
  exact ⟨fun i => real_of_lt _ (Host.reduce_andi_all _ _ _ _ _ h0 i), fun i => real_of_lt _ (Host.reduce_andi_all _ _ _ _ _ h1 i)⟩

/-! ## The arrays the launch reads -/

/-- The three arguments. -/
def Q (c : Dev nD) : S8448x1536.Idx → EReal := m ((c : Thread nD τ).loc main_arg0)
def K (c : Dev nD) : S8448x512.Idx → EReal := m ((c : Thread nD τ).loc main_arg1)
def P (c : Dev nD) : S8448x11776.Idx → EReal := m ((c : Thread nD τ).loc main_arg2)

theorem V_arg2 (c : Dev nD) : V m c main_arg2 = P m c := V_main_arg2 m c

theorem V_v2 (c : Dev nD) (i : S8448x1536.Idx) :
    V m c main_v2 i = (Q m c i * Ideal.ofBits .f32 0x3DB504F3#32 : EReal) := by
  have h : V m c main_v2 = truncf (F := Ideal) (s := S8448x1536) .bf16 (mulf (Q m c) (broadcastInDim S8448x1536 ![] bcast_S_S8448x1536 (constant S_ .f32 0x3DB504F3#32))) bitsLt_bf16_f32 := by
    show StableHlo.after hostOps0 _ _ = _
    after_results
    rfl
  rw [h]; rfl

theorem V_v3 (c : Dev nD) : V m c main_v3 = K m c := by
  have h : V m c main_v3 = truncf (F := Ideal) (s := S8448x512) .bf16 (K m c) bitsLt_bf16_f32 := by
    show StableHlo.after hostOps0 _ _ = _
    after_results
    rfl
  rw [h]; rfl

theorem index0 (t : Fin cfg0.N) : win0_3.index t 0 = (grid0.coords t 1).val := by
  have h : (grid0.coords t 1).val < 33 := (grid0.coords t 1).isLt
  show (BitVec.ofNat 32 (grid0.coords t 1).val).toNat = _
  rw [BitVec.toNat_ofNat, Nat.mod_eq_of_lt (by omega)]

theorem index1 (t : Fin cfg0.N) : win0_3.index t 1 = (grid0.coords t 0).val := by
  have h : (grid0.coords t 0).val < 4 := (grid0.coords t 0).isLt
  show (BitVec.ofNat 32 (grid0.coords t 0).val).toNat = _
  rw [BitVec.toNat_ofNat, Nat.mod_eq_of_lt (by omega)]

theorem index_v (t : Fin cfg0.N) : win0_2.index t 1 = 40 + (grid0.coords t 0).val := by
  have h : (grid0.coords t 0).val < 4 := (grid0.coords t 0).isLt
  show (BitVec.ofNat 32 40 + BitVec.ofNat 32 (grid0.coords t 0).val).toNat = _
  rw [BitVec.toNat_add, BitVec.toNat_ofNat, BitVec.toNat_ofNat]
  omega

/-- The head of a point, and its first row. -/
def head (t : Fin cfg0.N) : Fin 4 := grid0.coords t 0

theorem tile_lt (t : Fin cfg0.N) : (grid0.coords t 1).val < 33 := (grid0.coords t 1).isLt

def row (t : Fin cfg0.N) (r : Fin 256) : Fin 8448 := ⟨256 * (grid0.coords t 1).val + r.val, by have := tile_lt t; omega⟩

theorem iblk0_apply (c : Dev nD) (t : Fin cfg0.N) (r : Fin 256) (l : Fin 384) :
    iblk m c 0 t (ix2 r l) = (Q m c (ix2 (row t r) ⟨384 * (head t).val + l.val, by omega⟩) * Ideal.ofBits .f32 0x3DB504F3#32 : EReal) := by
  rw [← V_v2 m c]
  show V m c main_v2 (((cfg0.win 0).blk t).view.emb (ix2 r l)) = _
  congr 1
  funext a; apply Fin.ext
  refine (Window.rect_emb_val win0_0 t _ a rfl).trans ?_
  match a with
  | ⟨0, _⟩ =>
    show win0_3.index t 0 * 256 + r.val = 256 * (grid0.coords t 1).val + r.val
    rw [index0]; omega
  | ⟨1, _⟩ =>
    show win0_3.index t 1 * 384 + l.val = 384 * (grid0.coords t 0).val + l.val
    rw [index1]; omega

theorem iblk1_apply (c : Dev nD) (t : Fin cfg0.N) (a : Fin 8448) (d : Fin 128) :
    iblk m c 1 t (ix2 a d) = K m c (ix2 a ⟨128 * (head t).val + d.val, by omega⟩) := by
  rw [← V_v3 m c]
  show V m c main_v3 (((cfg0.win 1).blk t).view.emb (ix2 a d)) = _
  congr 1
  funext b; apply Fin.ext
  refine (Window.rect_emb_val win0_1 t _ b rfl).trans ?_
  match b with
  | ⟨0, _⟩ => show 0 * 8448 + a.val = a.val; omega
  | ⟨1, _⟩ =>
    show win0_3.index t 1 * 128 + d.val = 128 * (grid0.coords t 0).val + d.val
    rw [index1]; omega

theorem iblk2_apply (c : Dev nD) (t : Fin cfg0.N) (a : Fin 8448) (d : Fin 128) :
    iblk m c 2 t (ix2 a d) = P m c (ix2 a ⟨5120 + (128 * (head t).val + d.val), by omega⟩) := by
  rw [← V_arg2 m c]
  show V m c main_arg2 (((cfg0.win 2).blk t).view.emb (ix2 a d)) = _
  congr 1
  funext b; apply Fin.ext
  refine (Window.rect_emb_val win0_2 t _ b rfl).trans ?_
  match b with
  | ⟨0, _⟩ => show 0 * 8448 + a.val = a.val; omega
  | ⟨1, _⟩ =>
    show win0_2.index t 1 * 128 + d.val = 5120 + (128 * (grid0.coords t 0).val + d.val)
    rw [index_v]; omega

/-! ## The result -/

/-- The values: the projection's columns from 5120. -/
def vals (p : FVec Ideal S8448x11776 .bf16) : FVec Ideal S8448x512 .f32 :=
  extf .f32 (extractStridedSlice Reference8Ideal.S8448x512 ![0, 5120] p Cert.Reference8Ideal.Facts₀.slices_S8448x11776_S8448x512_0_5120) Cert.Reference8Ideal.Facts₀.bitsLt_bf16_f32

theorem vals_apply (p : FVec Ideal S8448x11776 .bf16) (a : Fin 8448) (l : Fin 512) :
    vals p (ix2 a l) = p (ix2 a ⟨5120 + l.val, by omega⟩) := by
  pointwise [vals]

theorem scale : ∃ r : ℝ, 0 ≤ r ∧ Ideal.ofBits .f32 0x3DB504F3#32 = r := by
  refine ⟨(2 ^ 23 + 3474675 : Nat) * (2 : ℝ) ^ (-27 : Int), by positivity, ?_⟩
  simp [Ideal.ofBits, Ideal.ieee, -EReal.coe_mul]

/-- A query row's scores, of the blocks a point reads. -/
def ks (x0 : Vec Ideal S256x384 .bf16) (x1 : Vec Ideal S8448x128 .bf16) (g : Fin 3) (r : Fin 256) (κ : ℕ) : EReal :=
  ∑ d : Fin 128, x0 (ix2 r ⟨128 * g.val + d.val, by omega⟩) * x1 (ix2 (krow κ) d)

theorem block_eq (c : Dev nD) (hq : ∀ i, ∃ r : ℝ, Q m c i = (r : EReal)) (hk : ∀ i, ∃ r : ℝ, K m c i = (r : EReal))
    (t : Fin cfg0.N) (g : Fin 3) (r : Fin 256) (j : Fin 128) :
    blockVal (grid0.coords t) (iblk m c 0 t) (iblk m c 1 t) (iblk m c 2 t) g r j
      = AttnRef.out (Q m c) (K m c) (vals (P m c))
          (ix2 (row t r) ⟨384 * (head t).val + 128 * g.val + j.val, by omega⟩) := by
  obtain ⟨s, hs0, hs⟩ := scale
  have hS : ks (iblk m c 0 t) (iblk m c 1 t) g r
      = sc (Q m c) (K m c) (row t r) (head t) g := by
    funext κ
    unfold sc ks
    rw [hs, ← scale_dot (s : EReal) (by exact_mod_cast hs0) (EReal.coe_ne_top s)]
    refine Finset.sum_congr rfl fun d _ => ?_
    rw [iblk0_apply, iblk1_apply, hs]
    refine congrArg (fun i => (Q m c (ix2 (row t r) i) * (s : EReal) * _ : EReal)) (Fin.ext ?_)
    show 384 * (head t).val + (128 * g.val + d.val) = 384 * (head t).val + 128 * g.val + d.val
    omega
  have hV : ∀ κ, val (iblk m c 2 t) j κ = vals (P m c) (ix2 (krow κ) ⟨128 * (head t).val + j.val, by omega⟩) := by
    intro κ
    rw [vals_apply]
    exact iblk2_apply m c t (krow κ) j
  have hR : ∀ κ, ∃ x : ℝ, sc (Q m c) (K m c) (row t r) (head t) g κ = x := by
    intro κ
    unfold sc
    rw [hs]
    exact real_dot s _ _ (fun d => hq _) (fun d => hk _)
  show Ideal.div (num (ks (iblk m c 0 t) (iblk m c 1 t) g r) (val (iblk m c 2 t) j) (256 + 512 * chunks (grid0.coords t)))
    (den (ks (iblk m c 0 t) (iblk m c 1 t) g r) (256 + 512 * chunks (grid0.coords t))) = _
  rw [hS]
  by_cases ht : (grid0.coords t 1).val < 32
  · have hn : 256 + 512 * chunks (grid0.coords t) = 8448 := by unfold chunks; rw [if_pos ht]
    rw [hn, div_num _ _ (by decide) (fun κ _ => hR κ)]
    refine Eq.trans (Finset.sum_congr rfl fun κ _ => ?_) (AttnRef.out_lat _ _ _ (head t) g (row t r) (by show 256 * (grid0.coords t 1).val + r.val < 8192; omega) j).symm
    rw [hV]
  · have hn : 256 + 512 * chunks (grid0.coords t) = 256 := by unfold chunks; rw [if_neg ht]
    rw [hn, div_num _ _ (by decide) (fun κ _ => hR κ)]
    refine Eq.trans (Finset.sum_congr rfl fun κ _ => ?_) (AttnRef.out_ctx _ _ _ (head t) g (row t r) (by show ¬ 256 * (grid0.coords t 1).val + r.val < 8192; omega) j).symm
    rw [hV]

theorem flushed_eq (c : Dev nD) (hq : ∀ i, ∃ r : ℝ, Q m c i = (r : EReal)) (hk : ∀ i, ∃ r : ℝ, K m c i = (r : EReal)) (t : Fin cfg0.N) :
    (dats m 0 c).flushed 3 t = ((cfg0.win 3).blk t).view.read (Elt Ideal)
      (AttnRef.out (Q m c) (K m c) (vals (P m c))) := by
  rw [Value.flushed3_A]
  funext (y : S256x384.Idx)
  have hy0 : (y 0).val < 256 := (y 0).isLt
  have hy1 : (y 1).val < 384 := (y 1).isLt
  have e : y = ix2 (⟨(y 0).val, hy0⟩ : Fin 256) (⟨128 * ((y 1).val / 128) + (y 1).val % 128, by omega⟩ : Fin 384) := by
    funext a
    match a with
    | ⟨0, _⟩ => rfl
    | ⟨1, _⟩ => exact Fin.ext (by show (y 1).val = 128 * ((y 1).val / 128) + (y 1).val % 128; omega)
  have hout := out_apply c (grid0.coords t) (ms0_0 t) (hs0_0 t) (ms0_1 t) (hs0_1 t) (ms0_2 t) (hs0_2 t) (ms0_3 t) (hs0_3 t) (iblk m c 0 t) (iblk m c 1 t) (iblk m c 2 t)
    (⟨(y 1).val / 128, by omega⟩ : Fin 3) (⟨(y 0).val, hy0⟩ : Fin 256) (⟨(y 1).val % 128, by omega⟩ : Fin 128)
  rw [block_eq m c hq hk, ← e] at hout
  refine Eq.trans (b := out0_A_3 c (grid0.coords t) (ms0_0 t) (hs0_0 t) (ms0_1 t) (hs0_1 t) (ms0_2 t) (hs0_2 t) (ms0_3 t) (hs0_3 t) (iblk m c 0 t) (iblk m c 1 t) (iblk m c 2 t) y) rfl (hout.trans ?_)
  show _ = AttnRef.out _ _ _ (((cfg0.win 3).blk t).view.emb y)
  refine congrArg _ ?_
  funext a; apply Fin.ext
  refine Eq.trans ?_ (Window.rect_emb_val win0_3 t y a rfl).symm
  match a with
  | ⟨0, _⟩ =>
    show 256 * (grid0.coords t 1).val + (y 0).val = win0_3.index t 0 * 256 + (y 0).val
    rw [index0]; omega
  | ⟨1, _⟩ =>
    show 384 * (grid0.coords t 0).val + 128 * ((y 1).val / 128) + (y 1).val % 128 = win0_3.index t 1 * 384 + (y 1).val
    rw [index1]; omega

/-- Every index of the result is in some point's block. -/
theorem cover (i : S8448x1536.Idx) :
    ∃ t : Fin cfg0.N, (cfg0.win 3).flush t = true ∧ i ∈ ((cfg0.win 3).blk t).view.set := by
  have h0 : (i 0 : Nat) < 8448 := (i 0).isLt
  have h1 : (i 1 : Nat) < 1536 := (i 1).isLt
  obtain ⟨t, ht⟩ := Pipeline.Grid.coords_surjective grid0 (fun a => match a with
    | ⟨0, _⟩ => (⟨(i 1).val / 384, by show _ < 4; omega⟩ : Fin 4)
    | ⟨1, _⟩ => (⟨(i 0).val / 256, by show _ < 33; omega⟩ : Fin 33))
  refine ⟨t, flush0_3 t, ?_⟩
  show i ∈ ((View.whole main_v4).slice (win0_3.rect t)).set
  rw [View.set_slice_whole, Rect.mem_set_unit]
  have e : win0_3.index t = ![(i 0).val / 256, (i 1).val / 384] := by
    show cc0_transform_3 (grid0.coords t) = _
    rw [ht]
    show ![(BitVec.ofNat 32 ((i 0).val / 256)).toNat, (BitVec.ofNat 32 ((i 1).val / 384)).toNat] = _
    rw [BitVec.toNat_ofNat, BitVec.toNat_ofNat, Nat.mod_eq_of_lt (by omega), Nat.mod_eq_of_lt (by omega)]
  intro a
  match a with
  | ⟨0, _⟩ =>
    show win0_3.index t 0 * 256 ≤ (i 0 : Nat) ∧ (i 0 : Nat) < win0_3.index t 0 * 256 + 256
    rw [e]; show (i 0).val / 256 * 256 ≤ _ ∧ _ < (i 0).val / 256 * 256 + 256; omega
  | ⟨1, _⟩ =>
    show win0_3.index t 1 * 384 ≤ (i 1 : Nat) ∧ (i 1 : Nat) < win0_3.index t 1 * 384 + 384
    rw [e]; show (i 1).val / 384 * 384 ≤ _ ∧ _ < (i 1).val / 384 * 384 + 384; omega

theorem final (c : Dev nD) (hq : ∀ i, ∃ r : ℝ, Q m c i = (r : EReal)) (hk : ∀ i, ∃ r : ℝ, K m c i = (r : EReal)) :
    (dats m 0 c).arrAt 3 cfg0.N
      = AttnRef.out (Q m c) (K m c) (vals (P m c)) :=
  (dats m 0 c).arrAt_eq_of_cover 3 _ (fun t _ => flushed_eq m c hq hk t) cover

/-! ## The claims -/

theorem frame_K : quiescent_Kernel8 := fun m ρ _ => Cert.Kernel8.Gen.frame m ρ
theorem frame_KI : quiescent_Kernel8Ideal := fun m ρ _ => Cert.Kernel8Ideal.Gen.frame m ρ
theorem frame_RI : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem value : algebraic_Kernel8Ideal_Reference8Ideal := fun m g m' g' pre hm =>
  ⟨fun c => AttnRef.out (m ((c.tc : Thread nD τ).loc main_arg0)) (m ((c.tc : Thread nD τ).loc main_arg1)) (vals (m ((c.tc : Thread nD τ).loc main_arg2))),
    (θ_run Cert.Kernel8Ideal.defs _ _).mono (fun r h c => ⟨(h c).1.trans (final m c (finite _ _ _ (pre c)).1 (finite _ _ _ (pre c)).2), (h c).2⟩)
      (Cert.Kernel8Ideal.Value.run_blocks (F := Ideal) m g),
    (θ_run Cert.Reference8Ideal.defs _ _).mono (fun r h c => ⟨(h c).1.trans ((AttnRef.res_eq m' c).trans (by
        rw [(hm c).1, (hm c).2.1, (hm c).2.2]
        rfl)), (h c).2⟩)
      (Cert.Reference8Ideal.Value.run (F := Ideal) m' g')⟩

end Cert.Attn

end
-- ==== Proof.DiffPay.lean ====
/- What the differential attention's body computes at an index: one chunk of keys and values folded into the running
   maximum, sum of weights and weighted sum of values of a query row. -/
module

public import proofs.«01_k».proof.Proof.AttnPay
public import proofs.«01_k».proof.Proof.Gen.Kernel9Ideal.Skeleton
public import Idealize.ShloMosaic.Lib.Pointwise

@[expose] public section

set_option maxRecDepth 16384

noncomputable section

namespace Cert.DiffPay

open Cert.Kernel9Ideal Cert.Kernel9Ideal.Gen Idealize.ShloMosaic
open AttnPay (neg_inf fold_eq_sup)
open scoped BigOperators

attribute [local instance] Cert.Kernel9Ideal.Gen.facts

theorem pay1_apply (q : FVec Ideal S512x128 .bf16) (kv : Vec Ideal S512x128 .bf16) (r : Fin 512) (k : Fin 512) :
    k0_pay1 q kv (ix2 r k) = ∑ d : Fin 128, q (ix2 r d) * kv (ix2 k d) := by
  pointwise [k0_pay1]

theorem pay2_apply (q : FVec Ideal S512x128 .bf16) (m : FVec Ideal S512x1 .f32) (kv : Vec Ideal S512x128 .bf16) (r : Fin 512) :
    k0_pay2 q m kv (ix2 r 0) = max (m (ix2 r 0)) (Finset.univ.sup fun k : Fin 512 => ∑ d : Fin 128, q (ix2 r d) * kv (ix2 k d)) := by
  pointwise [k0_pay2, pay1_apply]
  rw [neg_inf, fold_eq_sup]

theorem pay3_apply (q : FVec Ideal S512x128 .bf16) (m : FVec Ideal S512x1 .f32) (kv : Vec Ideal S512x128 .bf16) (r : Fin 512) :
    k0_pay3 q m kv (ix2 r 0) = Ideal.exp (m (ix2 r 0) - k0_pay2 q m kv (ix2 r 0)) := by
  pointwise [k0_pay3]

theorem pay4_apply (q : FVec Ideal S512x128 .bf16) (m : FVec Ideal S512x1 .f32) (kv : Vec Ideal S512x128 .bf16) (r : Fin 512) (k : Fin 512) :
    k0_pay4 q m kv (ix2 r k) = Ideal.exp ((∑ d : Fin 128, q (ix2 r d) * kv (ix2 k d)) - k0_pay2 q m kv (ix2 r 0)) := by
  pointwise [k0_pay4, pay1_apply]

theorem pay5_apply (q : FVec Ideal S512x128 .bf16) (m l : FVec Ideal S512x1 .f32) (kv : Vec Ideal S512x128 .bf16) (r : Fin 512) :
    k0_pay5 q m l kv (ix2 r 0) = Ideal.exp (m (ix2 r 0) - k0_pay2 q m kv (ix2 r 0)) * l (ix2 r 0)
      + ∑ k : Fin 512, Ideal.exp ((∑ d : Fin 128, q (ix2 r d) * kv (ix2 k d)) - k0_pay2 q m kv (ix2 r 0)) := by
  pointwise [k0_pay5, pay3_apply, pay4_apply]

theorem pay6_apply (q : FVec Ideal S512x128 .bf16) (m : FVec Ideal S512x1 .f32) (a : FVec Ideal S512x128 .f32)
    (kv vv : Vec Ideal S512x128 .bf16) (r : Fin 512) (j : Fin 128) :
    k0_pay6 q m a kv vv (ix2 r j) = Ideal.exp (m (ix2 r 0) - k0_pay2 q m kv (ix2 r 0)) * a (ix2 r j)
      + ∑ k : Fin 512, Ideal.exp ((∑ d : Fin 128, q (ix2 r d) * kv (ix2 k d)) - k0_pay2 q m kv (ix2 r 0)) * vv (ix2 k j) := by
  pointwise [k0_pay6, pay3_apply, pay4_apply]

theorem pay19_apply (v2 v4 kv : Vec Ideal S256x128 .bf16) (r : Fin 512) :
    k0_pay19 v2 v4 kv (ix2 r 0) = Finset.univ.sup fun k : Fin 256 => ∑ d : Fin 128, k0_pay16 v2 v4 (ix2 r d) * kv (ix2 k d) := by
  pointwise [k0_pay19, k0_pay18, k0_pay17]
  rw [neg_inf, fold_eq_sup]
  exact max_eq_right bot_le

theorem pay22_apply (v2 v4 kv : Vec Ideal S256x128 .bf16) (r : Fin 512) :
    k0_pay22 v2 v4 kv (ix2 r 0) = ∑ k : Fin 256, Ideal.exp ((∑ d : Fin 128, k0_pay16 v2 v4 (ix2 r d) * kv (ix2 k d)) - k0_pay19 v2 v4 kv (ix2 r 0)) := by
  pointwise [k0_pay22, k0_pay21, k0_pay20, k0_pay18, k0_pay17]
  rw [mul_zero, zero_add]

theorem pay23_apply (v2 v4 kv vv : Vec Ideal S256x128 .bf16) (r : Fin 512) (j : Fin 128) :
    k0_pay23 v2 v4 kv vv (ix2 r j) = ∑ k : Fin 256, Ideal.exp ((∑ d : Fin 128, k0_pay16 v2 v4 (ix2 r d) * kv (ix2 k d)) - k0_pay19 v2 v4 kv (ix2 r 0)) * vv (ix2 k j) := by
  pointwise [k0_pay23, k0_pay21, k0_pay20, k0_pay18, k0_pay17]
  rw [mul_zero, zero_add]

theorem pay16_apply (v2 v4 : Vec Ideal S256x128 .bf16) (r : Fin 512) (d : Fin 128) :
    k0_pay16 v2 v4 (ix2 r d) = if h : r.val < 256 then v2 (ix2 ⟨r.val, h⟩ d)
      else v4 (ix2 ⟨r.val - 256, by omega⟩ d) := by
  pointwise [k0_pay16]

theorem pay14_apply (l : FVec Ideal S512x1 .f32) (a : FVec Ideal S512x128 .f32) (r : Fin 256) (j : Fin 128) :
    k0_pay14 l a (ix2 r j) = Ideal.div (a (ix2 ⟨r.val, by omega⟩ j)) (l (ix2 ⟨r.val, by omega⟩ 0)) := by
  pointwise [k0_pay14, k0_pay13]

theorem pay15_apply (l : FVec Ideal S512x1 .f32) (a : FVec Ideal S512x128 .f32) (r : Fin 256) (j : Fin 128) :
    k0_pay15 l a (ix2 r j) = Ideal.div (a (ix2 ⟨256 + r.val, by omega⟩ j)) (l (ix2 ⟨256 + r.val, by omega⟩ 0)) := by
  pointwise [k0_pay15, k0_pay13]

end Cert.DiffPay

end
-- ==== Proof.DiffRun.lean ====
/- What the differential attention leaves in an output block: for a row of queries, the softmax average of the values over the
   keys its point reads. -/
module

public import proofs.«01_k».proof.Proof.AttnRun
public import proofs.«01_k».proof.Proof.DiffPay
public import proofs.«01_k».proof.Proof.Gen.Kernel9Ideal.Value
public import Idealize.ShloMosaic.Lib.Pipeline.Value
public import Idealize.ShloMosaic.Lib.Pipeline.Covers
public import Idealize.ShloMosaic.Lib.Pipeline.ValueKit.Tiles

@[expose] public section

set_option maxRecDepth 16384

noncomputable section

namespace Cert.DiffRun

open Cert.Kernel9Ideal Cert.Kernel9Ideal.Gen Idealize.ShloMosaic Idealize.ShloMosaic.TcCoe Cert.Softmax
open AttnRun (krow)
open scoped BigOperators

attribute [local instance] Cert.Kernel9Ideal.Gen.facts

/-- The score of query row `R` against the `κ`-th key. -/
def score {A : Nat} (q : (⟨2, ![A, 128]⟩ : Shape).Idx → EReal) (x1 : S8448x128.Idx → EReal) (R : Fin A) (κ : ℕ) : EReal :=
  ∑ d : Fin 128, q (ix2 R d) * x1 (ix2 (krow κ) d)

/-- Column `j` of the `κ`-th value. -/
def val (x2 : S8448x128.Idx → EReal) (j : Fin 128) (κ : ℕ) : EReal := x2 (ix2 (krow κ) j)

/-- How many chunks of latent keys a point takes. -/
def chunks (i : grid0.Coords) : ℕ := if (i 1).val < 32 then 16 else 0

theorem trips1 (i : grid0.Coords) : (k0_t1_loop i).trips = chunks i := by
  have H : ∀ b : Fin 33, Scf.trips (0#32) (Scalar.addi (0#32) (Scalar.muli (Scalar.divsi (Scalar.subi (Scalar.select
      (Scalar.cmpi CmpIPredicate.sge (Scalar.muli (BitVec.ofNat 32 b.val) 256#32) 8192#32) 0#32 16#32) 0#32) 1#32) 1#32)) 1#32
      = if b.val < 32 then 16 else 0 := by decide +kernel
  exact H (i 1)

theorem trips2 (i : grid0.Coords) : (k0_t2_loop i).trips = 0 := by
  have H : ∀ b : Fin 33, Scf.trips (Scalar.addi (0#32) (Scalar.muli (Scalar.divsi (Scalar.subi (Scalar.select
      (Scalar.cmpi CmpIPredicate.sge (Scalar.muli (BitVec.ofNat 32 b.val) 256#32) 8192#32) 0#32 16#32) 0#32) 1#32) 1#32))
      (Scalar.addi (0#32) (Scalar.subi (Scalar.select
      (Scalar.cmpi CmpIPredicate.sge (Scalar.muli (BitVec.ofNat 32 b.val) 256#32) 8192#32) 0#32 16#32) 0#32)) 1#32 = 0 := by decide +kernel
  exact H (i 1)

theorem trips2_raw (i : grid0.Coords) : Scf.trips (Scalar.addi (0#32) (Scalar.muli (Scalar.divsi (Scalar.subi (Scalar.select
      (Scalar.cmpi CmpIPredicate.sge (Scalar.muli (BitVec.ofNat 32 (i 1).val) 256#32) 8192#32) 0#32 16#32) 0#32) 1#32) 1#32))
      (Scalar.addi (0#32) (Scalar.subi (Scalar.select
      (Scalar.cmpi CmpIPredicate.sge (Scalar.muli (BitVec.ofNat 32 (i 1).val) 256#32) 8192#32) 0#32 16#32) 0#32)) 1#32 = 0 := trips2 i

theorem off1_eq (i : grid0.Coords) (k : Fin (k0_t1_loop i).trips) : k0_off1 i k = ![512 * k.val, 0] := by
  have H : ∀ b : Fin 16, (Scalar.indexCast (Scalar.muli (Scf.iv 0#32 1#32 b) 512#32)).toNat = 512 * b.val := by decide +kernel
  have hk : k.val < 16 := by
    have := k.isLt
    have h2 := trips1 i
    unfold chunks at h2
    split at h2 <;> omega
  have := H ⟨k.val, hk⟩
  unfold k0_off1
  funext a
  match a with
  | ⟨0, _⟩ => exact this
  | ⟨1, _⟩ => rfl

/-- A chunk of the keys or values: row `a` of chunk `k` is the `256 + 512 k + a`-th. -/
theorem chunk_apply (x : Vec Ideal S8448x128 .bf16) (i : grid0.Coords) (k : Fin (k0_t1_loop i).trips) (a : Fin 512) (d : Fin 128) :
    View.ld x (Rect.unit (s := S8448x128) (k0_off1 i k) S512x128.size (k0_off1_inb i k)) (ix2 a d)
      = x (ix2 (krow (256 + 512 * k.val + a.val)) d) := by
  refine View.ld_unit_apply_of x _ _ _ _ _ ?_
  have hk : k.val < 16 := by
    have := k.isLt
    have h2 := trips1 i
    unfold chunks at h2
    split at h2 <;> omega
  intro b
  match b with
  | ⟨0, _⟩ =>
    show (256 + 512 * k.val + a.val + 8192) % 8448 = k0_off1 i k 0 + a.val
    have e : k0_off1 i k 0 = 512 * k.val := congrFun (off1_eq i k) 0
    have := a.isLt
    omega
  | ⟨1, _⟩ =>
    show d.val = k0_off1 i k 1 + d.val
    have e : k0_off1 i k 1 = 0 := congrFun (off1_eq i k) 1
    omega

/-- The context's rows of the keys or values. -/
theorem ctx_apply (x : Vec Ideal S8448x128 .bf16) (a : Fin 256) (d : Fin 128) :
    View.ld x (Rect.unit (s := S8448x128) ![8192, 0] S256x128.size inb_S8448x128_S256x128_8192_0) (ix2 a d)
      = x (ix2 (krow (0 + a.val)) d) := by
  refine View.ld_unit_apply_of x _ _ _ _ _ ?_
  intro b
  match b with
  | ⟨0, _⟩ =>
    show (0 + a.val + 8192) % 8448 = 8192 + a.val
    have := a.isLt
    omega
  | ⟨1, _⟩ => show d.val = 0 + d.val; omega

section

variable (c : Dev nD) (i : grid0.Coords) (arg2 : Memref sig .tc .vmem S256x256 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S256x256 .f32) (harg5 : arg5.IsWhole)

theorem trip (v8 : FVec Ideal S512x128 .bf16) (x1 x2 : Vec Ideal S8448x128 .bf16) (k : Fin (k0_t1_loop i).trips) (acc : FVec Ideal S512x1 .f32 × FVec Ideal S512x1 .f32 × FVec Ideal S512x128 .f32) :
    tripR_k0_t1 (F := Ideal) Variants.none c none i arg2 harg2 arg3 harg3 arg4 harg4 arg5 harg5 v8 (harg3.unread x1) (harg4.unread x2) k acc
     = (k0_pay2 v8 acc.1 (View.ld x1 (Rect.unit (s := S8448x128) (k0_off1 i k) S512x128.size (k0_off1_inb i k))),
      k0_pay5 v8 acc.1 acc.2.1 (View.ld x1 (Rect.unit (s := S8448x128) (k0_off1 i k) S512x128.size (k0_off1_inb i k))),
       k0_pay6 v8 acc.1 acc.2.2 (View.ld x1 (Rect.unit (s := S8448x128) (k0_off1 i k) S512x128.size (k0_off1_inb i k)))
         (View.ld x2 (Rect.unit (s := S8448x128) (k0_off1 i k) S512x128.size (k0_off1_inb i k)))) := by
  unfold tripR_k0_t1 trip_k0_t1
  obtain ⟨m, l, a⟩ := acc
  dsimp only
  simp only [View.readAt_eq_ld, harg3.read_unread, harg4.read_unread]

/-- The running state of a row: over the first `n` keys. -/
def Inv (v8 : FVec Ideal S512x128 .bf16) (x1 x2 : Vec Ideal S8448x128 .bf16) (n : ℕ)
    (acc : FVec Ideal S512x1 .f32 × FVec Ideal S512x1 .f32 × FVec Ideal S512x128 .f32) : Prop :=
  ∀ R : Fin 512, acc.1 (ix2 R 0) = mx (score v8 x1 R) n ∧ acc.2.1 (ix2 R 0) = den (score v8 x1 R) n
    ∧ ∀ j : Fin 128, acc.2.2 (ix2 R j) = num (score v8 x1 R) (val x2 j) n

theorem inv_step (v8 : FVec Ideal S512x128 .bf16) (x1 x2 : Vec Ideal S8448x128 .bf16) (k : Fin (k0_t1_loop i).trips)
    (acc : FVec Ideal S512x1 .f32 × FVec Ideal S512x1 .f32 × FVec Ideal S512x128 .f32)
    (h : Inv v8 x1 x2 (256 + 512 * k.val) acc) :
    Inv v8 x1 x2 (256 + 512 * k.val + 512)
      (tripR_k0_t1 (F := Ideal) Variants.none c none i arg2 harg2 arg3 harg3 arg4 harg4 arg5 harg5 v8 (harg3.unread x1) (harg4.unread x2) k acc) := by
  rw [trip]
  intro R
  obtain ⟨hm, hl, ha⟩ := h R
  have hs : ∀ a : Fin 512, (∑ d : Fin 128, v8 (ix2 R d) * View.ld x1 (Rect.unit (s := S8448x128) (k0_off1 i k) S512x128.size (k0_off1_inb i k)) (ix2 a d))
      = score v8 x1 R (256 + 512 * k.val + a.val) := fun a =>
    Finset.sum_congr rfl fun d _ => congrArg _ (chunk_apply x1 i k a d)
  have hm' : k0_pay2 v8 acc.1 (View.ld x1 (Rect.unit (s := S8448x128) (k0_off1 i k) S512x128.size (k0_off1_inb i k))) (ix2 R 0)
      = mx (score v8 x1 R) (256 + 512 * k.val + 512) := by
    refine (DiffPay.pay2_apply _ _ _ R).trans ?_
    rw [mx_add, hm]
    exact congrArg _ (congrArg _ (funext hs))
  refine ⟨hm', ?_, fun j => ?_⟩
  · refine (DiffPay.pay5_apply _ _ _ _ R).trans ?_
    rw [hm', den_add, hm, hl]
    exact congrArg _ (Finset.sum_congr rfl fun a _ => by rw [← hs a])
  · refine (DiffPay.pay6_apply _ _ _ _ _ R j).trans ?_
    rw [hm', num_add, hm, ha j]
    exact congrArg _ (Finset.sum_congr rfl fun a _ => by
      rw [← hs a]; exact congrArg _ (chunk_apply x2 i k a j))

theorem inv_st (v8 : FVec Ideal S512x128 .bf16) (x1 x2 : Vec Ideal S8448x128 .bf16)
    (acc : FVec Ideal S512x1 .f32 × FVec Ideal S512x1 .f32 × FVec Ideal S512x128 .f32)
    (h : Inv v8 x1 x2 256 acc) : ∀ k : ℕ, k ≤ (k0_t1_loop i).trips → Inv v8 x1 x2 (256 + 512 * k)
      (st_k0_t1 (F := Ideal) Variants.none c none i arg2 harg2 arg3 harg3 arg4 harg4 arg5 harg5 v8 (harg3.unread x1) (harg4.unread x2) acc k)
  | 0, _ => h
  | k + 1, hk => by
    have := inv_step c i arg2 harg2 arg3 harg3 arg4 harg4 arg5 harg5 v8 x1 x2 ⟨k, hk⟩ _ (inv_st v8 x1 x2 acc h k (Nat.le_of_succ_le hk))
    rw [← st_k0_t1_succ (F := Ideal)] at this
    exact this

/-- The two query heads of a block, one under another. -/
def qcat (x0 : Vec Ideal S256x256 .bf16) : FVec Ideal S512x128 .bf16 :=
  k0_pay16 (View.ld x0 (Rect.unit (s := S256x256) ![0, 0] S256x128.size inb_S256x256_S256x128_0_0))
    (View.ld x0 (Rect.unit (s := S256x256) ![0, 128] S256x128.size inb_S256x256_S256x128_0_128))

theorem inv_init (x0 : Vec Ideal S256x256 .bf16) (x1 x2 : Vec Ideal S8448x128 .bf16) :
    Inv (qcat x0) x1 x2 256 (kernelRun0_A.sl.r_1 c arg2 harg2 arg3 harg3 x0 x1,
      kernelRun0_A.sl.r_2 c arg2 harg2 arg3 harg3 x0 x1, kernelRun0_A.sl.r_3 c arg2 harg2 arg3 harg3 arg4 harg4 x0 x1 x2) := by
  unfold kernelRun0_A.sl.r_1 kernelRun0_A.sl.r_2 kernelRun0_A.sl.r_3
  simp only [View.readAt_eq_ld, harg2.read_unread, harg3.read_unread, harg4.read_unread]
  intro R
  have hs : ∀ a : Fin 256, (∑ d : Fin 128, qcat x0 (ix2 R d) * View.ld x1 (Rect.unit (s := S8448x128) ![8192, 0] S256x128.size inb_S8448x128_S256x128_8192_0) (ix2 a d))
      = score (qcat x0) x1 R (0 + a.val) := fun a =>
    Finset.sum_congr rfl fun d _ => congrArg _ (ctx_apply x1 a d)
  have hm' := (DiffPay.pay19_apply (View.ld x0 (Rect.unit (s := S256x256) ![0, 0] S256x128.size inb_S256x256_S256x128_0_0))
    (View.ld x0 (Rect.unit (s := S256x256) ![0, 128] S256x128.size inb_S256x256_S256x128_0_128))
    (View.ld x1 (Rect.unit (s := S8448x128) ![8192, 0] S256x128.size inb_S8448x128_S256x128_8192_0)) R).trans
    (b := _) (c := mx (score (qcat x0) x1 R) (0 + 256)) (by
      rw [mx_add, mx_zero, max_eq_right bot_le]
      exact congrArg _ (funext hs))
  refine ⟨hm', ?_, fun j => ?_⟩
  · refine (DiffPay.pay22_apply _ _ _ R).trans ?_
    rw [hm']
    refine Eq.trans (b := den (score (qcat x0) x1 R) (0 + 256)) ?_ rfl
    rw [den_add, den_zero, mul_zero]
    refine Eq.trans ?_ (zero_add _).symm
    exact Finset.sum_congr rfl fun a _ => by rw [← hs a]; rfl
  · refine (DiffPay.pay23_apply _ _ _ _ R j).trans ?_
    rw [hm']
    refine Eq.trans (b := num (score (qcat x0) x1 R) (val x2 j) (0 + 256)) ?_ rfl
    rw [num_add, num_zero, mul_zero]
    refine Eq.trans ?_ (zero_add _).symm
    exact Finset.sum_congr rfl fun a _ => by
      rw [← hs a]; exact congrArg _ (ctx_apply x2 a j)

/-- Where a column of a query block lies among the rows of the concatenated heads. -/
theorem qcat_apply (x0 : Vec Ideal S256x256 .bf16) (g : Fin 2) (r : Fin 256) (d : Fin 128) :
    qcat x0 (ix2 ⟨256 * g.val + r.val, by omega⟩ d) = x0 (ix2 r ⟨128 * g.val + d.val, by omega⟩) := by
  refine (DiffPay.pay16_apply _ _ _ _).trans ?_
  match g with
  | ⟨0, _⟩ =>
    rw [dif_pos (show 256 * 0 + r.val < 256 by omega)]
    refine View.ld_unit_apply_of x0 _ _ _ _ _ ?_
    intro b
    match b with
    | ⟨0, _⟩ => show r.val = 0 + (256 * 0 + r.val); omega
    | ⟨1, _⟩ => show 128 * 0 + d.val = 0 + d.val; omega
  | ⟨1, _⟩ =>
    rw [dif_neg (show ¬(256 * 1 + r.val < 256) by omega)]
    refine View.ld_unit_apply_of x0 _ _ _ _ _ ?_
    intro b
    match b with
    | ⟨0, _⟩ => show r.val = 0 + (256 * 1 + r.val - 256); omega
    | ⟨1, _⟩ => show 128 * 1 + d.val = 128 + d.val; omega

/-- What a point leaves in its output block. -/
def blockVal (i : grid0.Coords) (x0 : Vec Ideal S256x256 .bf16) (x1 x2 : Vec Ideal S8448x128 .bf16) (g : Fin 2) (r : Fin 256) (j : Fin 128) : EReal :=
  Ideal.div (num (fun κ => ∑ d : Fin 128, x0 (ix2 r ⟨128 * g.val + d.val, by omega⟩) * x1 (ix2 (krow κ) d)) (val x2 j) (256 + 512 * chunks i))
    (den (fun κ => ∑ d : Fin 128, x0 (ix2 r ⟨128 * g.val + d.val, by omega⟩) * x1 (ix2 (krow κ) d)) (256 + 512 * chunks i))

theorem out_apply (x0 : Vec Ideal S256x256 .bf16) (x1 x2 : Vec Ideal S8448x128 .bf16) (g : Fin 2) (r : Fin 256) (j : Fin 128) :
    out0_A_3 c i arg2 harg2 arg3 harg3 arg4 harg4 arg5 harg5 x0 x1 x2 (ix2 r ⟨128 * g.val + j.val, by omega⟩)
      = blockVal i x0 x1 x2 g r j := by
  have hinv := inv_st c i arg2 harg2 arg3 harg3 arg4 harg4 arg5 harg5 (qcat x0) x1 x2 _
    (inv_init c arg2 harg2 arg3 harg3 arg4 harg4 x0 x1 x2) _ le_rfl
  have hq : kernelRun0_A.sl.r (F := Ideal) c arg2 harg2 x0 = qcat x0 := by
    unfold kernelRun0_A.sl.r
    simp only [View.readAt_eq_ld, harg2.read_unread]
    rfl
  set S := st_k0_t1 (F := Ideal) Variants.none c none i arg2 harg2 arg3 harg3 arg4 harg4 arg5 harg5 (qcat x0) (harg3.unread x1) (harg4.unread x2)
    (kernelRun0_A.sl.r_1 c arg2 harg2 arg3 harg3 x0 x1,
      kernelRun0_A.sl.r_2 c arg2 harg2 arg3 harg3 x0 x1, kernelRun0_A.sl.r_3 c arg2 harg2 arg3 harg3 arg4 harg4 x0 x1 x2) (k0_t1_loop i).trips with hS
  have hout : out0_A_3 c i arg2 harg2 arg3 harg3 arg4 harg4 arg5 harg5 x0 x1 x2 = View.canon (Val := Elt Ideal)
      [⟨Rect.unit (s := S256x256) ![0, 128] S256x128.size inb_S256x256_S256x128_0_128, k0_pay15 S.2.1 S.2.2⟩,
       ⟨Rect.unit (s := S256x256) ![0, 0] S256x128.size inb_S256x256_S256x128_0_0, k0_pay14 S.2.1 S.2.2⟩] := by
    unfold out0_A_3
    rw [View.read_writes_eq_canon _ _ _ (cover0_A_3 c i arg2 harg2 arg3 harg3 arg4 harg4 arg5 harg5 x0 x1 x2)]
    unfold kernelRun0_A
    dsimp only
    rw [hq]
    rw [trips2_raw i, st_k0_t2_zero]
  rw [hout]
  have hval : ∀ (R : Fin 512), R.val = 256 * g.val + r.val → Ideal.div (S.2.2 (ix2 R j)) (S.2.1 (ix2 R 0)) = blockVal i x0 x1 x2 g r j := by
    intro R hR
    rw [show R = ⟨256 * g.val + r.val, by omega⟩ from Fin.ext hR]
    obtain ⟨_, hl, ha⟩ := hinv ⟨256 * g.val + r.val, by omega⟩
    rw [hl, ha j, trips1]
    have e : score (qcat x0) x1 ⟨256 * g.val + r.val, by omega⟩
        = fun κ => ∑ d : Fin 128, x0 (ix2 r ⟨128 * g.val + d.val, by omega⟩) * x1 (ix2 (krow κ) d) := by
      funext κ
      exact Finset.sum_congr rfl fun d _ => by rw [qcat_apply]
    rw [e]
    rfl
  have hidx : ∀ (o : Fin 2) (inb : ∀ a : Fin 2, ![0, 128 * o.val] a + S256x128.size a ≤ S256x256.size a) (x : S256x128.Idx),
      (Rect.unit (s := S256x256) ![0, 128 * o.val] S256x128.size inb).emb x = (ix2 r ⟨128 * g.val + j.val, by omega⟩ : S256x256.Idx) →
      o = g ∧ x = ix2 r j := by
    intro o inb x hx
    have h0 := congrArg Fin.val (congrFun hx 0)
    have h1 := congrArg Fin.val (congrFun hx 1)
    have h0' : 0 + 1 * (x 0).val = r.val := h0
    have h1' : 128 * o.val + 1 * (x 1).val = 128 * g.val + j.val := h1
    have hx1 : (x 1).val < 128 := (x 1).isLt
    have ho : o = g := Fin.ext (by omega)
    refine ⟨ho, ?_⟩
    subst ho
    funext a
    match a with
    | ⟨0, _⟩ => exact Fin.ext (by show (x 0).val = r.val; omega)
    | ⟨1, _⟩ => exact Fin.ext (by show (x 1).val = j.val; omega)
  refine View.canon_eq_of_allAt _ _ _ ?_ ?_
  · exact View.cover_of_tiled_head _ _ _ (by rfl) _
  · intro p hp x hx
    rcases List.mem_cons.mp hp with rfl | hp
    · obtain ⟨hg, rfl⟩ := hidx 1 inb_S256x256_S256x128_0_128 x hx
      subst hg
      exact (DiffPay.pay15_apply _ _ r j).trans (hval _ rfl)
    rcases List.mem_cons.mp hp with rfl | hp
    · obtain ⟨hg, rfl⟩ := hidx 0 inb_S256x256_S256x128_0_0 x hx
      subst hg
      exact (DiffPay.pay14_apply _ _ r j).trans (hval _ (by show r.val = 256 * 0 + r.val; omega))
    exact absurd hp List.not_mem_nil

end

end Cert.DiffRun

end
-- ==== Proof.DiffRef.lean ====
/- The differential attention's reference read at an index: scores, softmax along the keys, average of the values. -/
module

public import proofs.«01_k».proof.Proof.AttnRef
public import proofs.«01_k».proof.Proof.Gen.Reference9Ideal.Run
public import Idealize.ShloMosaic.Lib.Pointwise

@[expose] public section

set_option maxRecDepth 16384

noncomputable section

namespace Cert.DiffRef

open Cert.Reference9Ideal Cert.Reference9Ideal.Gen Idealize.ShloMosaic Idealize.ShloMosaic.TcCoe
open Cert.Softmax
open Cert.AttnRun (krow)
open Cert.AttnRef (max_cst fold_neg_inf)
open scoped BigOperators

attribute [local instance] Cert.Reference9Ideal.Gen.facts

/-- The scores of a query row's half against the keys, the context's first. -/
def sc (q k : S8448x1024.Idx → EReal) (t : Fin 8448) (h : Fin 8) (g : Fin 2) (κ : ℕ) : EReal :=
  (∑ d : Fin 64, k (ix2 (krow κ) ⟨128 * h.val + 64 * g.val + d.val, by omega⟩) * q (ix2 t ⟨128 * h.val + 64 * g.val + d.val, by omega⟩)) * Ideal.ofBits .f32 0x3E000000#32

/-! ## The latent rows, against all keys -/

/-- The scores. -/
def sLat (q k : FVec Ideal S8448x1024 .f32) : FVec Ideal S8x2x8192x8448 .f32 :=
  mulf (Host.dotGeneral (φ₁ := .f32) (φ₂ := .f32) dot_S8192x8x2x64_S8448x8x2x64_S8x2x8192x8448_3_3_0_0_12_12 none (shapeCast _ (extractStridedSlice S8192x1024 ![0, 0] q slices_S8448x1024_S8192x1024_0_0) shapeCasts_S8192x1024_S8192x8x2x64) (concatenate S8448x8x2x64 0 [⟨S256x8x2x64, (shapeCast _ (extractStridedSlice S256x1024 ![8192, 0] k slices_S8448x1024_S256x1024_8192_0) shapeCasts_S256x1024_S256x8x2x64)⟩, ⟨S8192x8x2x64, (shapeCast _ (extractStridedSlice S8192x1024 ![0, 0] k slices_S8448x1024_S8192x1024_0_0) shapeCasts_S8192x1024_S8192x8x2x64)⟩] concatenates_S256x8x2x64_S8192x8x2x64_S8448x8x2x64_d0)) (broadcastInDim S8x2x8192x8448 ![] bcast_S_S8x2x8192x8448 (constant S_ .f32 0x3E000000#32))

theorem sLat_apply (q k : FVec Ideal S8448x1024 .f32) (h : Fin 8) (g : Fin 2) (t : Fin 8192) (κ : Fin 8448) :
    sLat q k (ix4 h g t κ) = sc q k ⟨t.val, by omega⟩ h g κ := by
  pointwise [sLat]
  unfold sc
  refine congrArg (fun a : EReal => a * _) (Finset.sum_congr rfl fun x _ => (mul_comm _ _).trans (congrArg₂ (fun a b : EReal => a * b) (Eq.trans (b := k (ix2 (krow κ) ⟨h.val * 128 + g.val * 64 + x.val, by omega⟩)) ?_ ?_) ?_))
  · by_cases h0 : κ.val < 256
    · rw [dif_pos h0]
      exact congrArg₂ (fun r l => k (ix2 r l)) (Fin.ext (by show 8192 + κ.val = (κ.val + 8192) % 8448; omega)) (Fin.ext rfl)
    · rw [dif_neg h0]
      exact congrArg₂ (fun r l => k (ix2 r l)) (Fin.ext (by show κ.val - 256 = (κ.val + 8192) % 8448; omega)) (Fin.ext rfl)
  · exact congrArg (fun r => k (ix2 _ r)) (Fin.ext (by dsimp only; omega))
  · exact congrArg (fun r => q (ix2 _ r)) (Fin.ext (by dsimp only; omega))

/-- The largest score of a row, by one reduction. -/
def xLat (s : FVec Ideal S8x2x8192x8448 .f32) : FVec Ideal S8x2x8192 .f32 :=
  Host.reduce FloatOps.maximumf s (constant S_ .f32 0xFF800000#32) reducesTo_S8x2x8192x8448_S8x2x8192_d3 h_S_

theorem xLat_apply (s : FVec Ideal S8x2x8192x8448 .f32) (h : Fin 8) (g : Fin 2) (t : Fin 8192) :
    xLat s (ix3 h g t) = Finset.univ.fold max (Ideal.ofBits .f32 0xFF800000#32) fun κ : Fin 8448 => s (ix4 h g t κ) := by
  pointwise [xLat]

/-- The largest score of a row. -/
def mLat (s : FVec Ideal S8x2x8192x8448 .f32) : FVec Ideal S8x2x8192 .f32 :=
  maximumf (broadcastInDim S8x2x8192 ![] bcast_S_S8x2x8192 (constant S_ .f32 0xFF800000#32)) (xLat s)

theorem mLat_apply (s : FVec Ideal S8x2x8192x8448 .f32) (h : Fin 8) (g : Fin 2) (t : Fin 8192) :
    mLat s (ix3 h g t) = Finset.univ.sup fun κ : Fin 8448 => s (ix4 h g t κ) := by
  refine (max_cst bcast_S_S8x2x8192 (xLat s) (ix3 h g t)).trans ?_
  exact (xLat_apply s h g t).trans (fold_neg_inf _)

/-- A row's number at every key. -/
def bLat (s : FVec Ideal S8x2x8192 .f32) : FVec Ideal S8x2x8192x8448 .f32 :=
  broadcastInDim S8x2x8192x8448 ![0, 1, 2, 3] bcast_S8x2x8192x1_S8x2x8192x8448_0_1_2_3 (broadcastInDim S8x2x8192x1 ![0, 1, 2] bcast_S8x2x8192_S8x2x8192x1_0_1_2 s)

theorem bLat_apply (s : FVec Ideal S8x2x8192 .f32) (h : Fin 8) (g : Fin 2) (t : Fin 8192) (κ : Fin 8448) :
    bLat s (ix4 h g t κ) = s (ix3 h g t) := by
  pointwise [bLat]

/-- The exponentials. -/
def eLat (s : FVec Ideal S8x2x8192x8448 .f32) : FVec Ideal S8x2x8192x8448 .f32 := Host.exp (subf s (bLat (mLat s)))

theorem eLat_apply (s : FVec Ideal S8x2x8192x8448 .f32) (h : Fin 8) (g : Fin 2) (t : Fin 8192) (κ : Fin 8448) :
    eLat s (ix4 h g t κ) = Ideal.exp (s (ix4 h g t κ) - Finset.univ.sup fun κ : Fin 8448 => s (ix4 h g t κ)) := by
  have h1 : eLat s (ix4 h g t κ) = Ideal.exp (s (ix4 h g t κ) - bLat (mLat s) (ix4 h g t κ)) := rfl
  rw [h1, bLat_apply, mLat_apply]

/-- Their sum along a row. -/
def zLat (s : FVec Ideal S8x2x8192x8448 .f32) : FVec Ideal S8x2x8192 .f32 :=
  Host.reduceAdd s (constant S_ .f32 0x00000000#32) reducesTo_S8x2x8192x8448_S8x2x8192_d3 h_S_

theorem zLat_apply (s : FVec Ideal S8x2x8192x8448 .f32) (h : Fin 8) (g : Fin 2) (t : Fin 8192) :
    zLat s (ix3 h g t) = ∑ κ : Fin 8448, s (ix4 h g t κ) := by
  pointwise [zLat]

/-- The softmax weights. -/
def wLat (s : FVec Ideal S8x2x8192x8448 .f32) : FVec Ideal S8x2x8192x8448 .f32 := Host.divf (eLat s) (bLat (zLat (eLat s)))

theorem wLat_apply (q : FVec Ideal S8448x1024 .f32) (k : FVec Ideal S8448x1024 .f32) (h : Fin 8) (g : Fin 2) (t : Fin 8192) (κ : Fin 8448) :
    wLat (sLat q k) (ix4 h g t κ) = Ideal.div (Ideal.exp (sc q k ⟨t.val, by omega⟩ h g κ - mx (sc q k ⟨t.val, by omega⟩ h g) 8448)) (den (sc q k ⟨t.val, by omega⟩ h g) 8448) := by
  have h1 : wLat (sLat q k) (ix4 h g t κ) = Ideal.div (eLat (sLat q k) (ix4 h g t κ)) (bLat (zLat (eLat (sLat q k))) (ix4 h g t κ)) := rfl
  have hm : (Finset.univ.sup fun κ : Fin 8448 => sLat q k (ix4 h g t κ)) = mx (sc q k ⟨t.val, by omega⟩ h g) 8448 := by
    rw [mx_fin]
    exact congrArg _ (funext fun κ => sLat_apply q k h g t κ)
  rw [h1, bLat_apply, zLat_apply, eLat_apply, hm, sLat_apply, den_fin]
  refine congrArg _ (Finset.sum_congr rfl fun κ _ => ?_)
  rw [eLat_apply, hm, sLat_apply]

/-- The averages. -/
def oLat (w : FVec Ideal S8x2x8192x8448 .f32) (v : FVec Ideal S8448x1024 .f32) : FVec Ideal S8192x2048 .f32 :=
  shapeCast _ (transpose S8192x8x2x128 [3, 0, 2, 1] (Host.dotGeneral (φ₁ := .f32) (φ₂ := .f32) dot_S8448x8x128_S8x2x8192x8448_S8x128x2x8192_0_3_2_12_1_0 none (concatenate S8448x8x128 0 [⟨S256x8x128, (shapeCast _ (extractStridedSlice S256x1024 ![8192, 0] v slices_S8448x1024_S256x1024_8192_0) shapeCasts_S256x1024_S256x8x128)⟩, ⟨S8192x8x128, (shapeCast _ (extractStridedSlice S8192x1024 ![0, 0] v slices_S8448x1024_S8192x1024_0_0) shapeCasts_S8192x1024_S8192x8x128)⟩] concatenates_S256x8x128_S8192x8x128_S8448x8x128_d0) w) transposes_S8x128x2x8192_S8192x8x2x128_3_0_2_1) shapeCasts_S8192x8x2x128_S8192x2048

theorem oLat_apply (w : FVec Ideal S8x2x8192x8448 .f32) (v : FVec Ideal S8448x1024 .f32) (h : Fin 8) (g : Fin 2) (t : Fin 8192) (j : Fin 128) :
    oLat w v (ix2 t ⟨256 * h.val + 128 * g.val + j.val, by omega⟩) = ∑ κ : Fin 8448, v (ix2 (krow κ) ⟨128 * h.val + j.val, by omega⟩) * w (ix4 h g t κ) := by
  pointwise [oLat]
  refine Eq.trans (congrArg₂ (fun a b : EReal => a + b) (Finset.sum_congr rfl fun x _ => ?_) (Finset.sum_congr rfl fun x _ => ?_))
    (Fin.sum_univ_add (a := 256) (b := 8192) fun κ : Fin 8448 => v (ix2 (krow κ) ⟨128 * h.val + j.val, by omega⟩) * w (ix4 h g t κ)).symm
  · refine congrArg₂ (fun a b : EReal => a * b) (congrArg₂ (fun a b => v (ix2 a b)) (Fin.ext ?_) (Fin.ext ?_)) (congrArg₂ (fun a b => w (ix4 a b t _)) (Fin.ext ?_) (Fin.ext ?_))
    · show 8192 + x.val = (x.val + 8192) % 8448; omega
    · show _ = _; first | rfl | (dsimp only; omega)
    · show _ = _; first | rfl | (dsimp only; omega)
    · show _ = _; first | rfl | (dsimp only; omega)
  · refine congrArg₂ (fun a b : EReal => a * b) (congrArg₂ (fun a b => v (ix2 a b)) (Fin.ext ?_) (Fin.ext ?_)) (congrArg₂ (fun a b => w (ix4 a b t _)) (Fin.ext ?_) (Fin.ext ?_))
    · show x.val = (256 + x.val + 8192) % 8448; omega
    · show _ = _; first | rfl | (dsimp only; omega)
    · show _ = _; first | rfl | (dsimp only; omega)
    · show _ = _; first | rfl | (dsimp only; omega)

/-! ## The context rows, against the context keys -/

/-- The scores. -/
def sCtx (q k : FVec Ideal S8448x1024 .f32) : FVec Ideal S8x2x256x256 .f32 :=
  mulf (Host.dotGeneral (φ₁ := .f32) (φ₂ := .f32) dot_S256x8x2x64_S256x8x2x64_S8x2x256x256_3_3_0_0_12_12 none (shapeCast _ (extractStridedSlice S256x1024 ![8192, 0] q slices_S8448x1024_S256x1024_8192_0) shapeCasts_S256x1024_S256x8x2x64) (shapeCast _ (extractStridedSlice S256x1024 ![8192, 0] k slices_S8448x1024_S256x1024_8192_0) shapeCasts_S256x1024_S256x8x2x64)) (broadcastInDim S8x2x256x256 ![] bcast_S_S8x2x256x256 (constant S_ .f32 0x3E000000#32))

theorem sCtx_apply (q k : FVec Ideal S8448x1024 .f32) (h : Fin 8) (g : Fin 2) (t : Fin 256) (κ : Fin 256) :
    sCtx q k (ix4 h g t κ) = sc q k ⟨8192 + t.val, by omega⟩ h g κ := by
  pointwise [sCtx]
  unfold sc
  refine congrArg (fun a : EReal => a * _) (Finset.sum_congr rfl fun x _ => (mul_comm _ _).trans (congrArg₂ (fun a b : EReal => a * b) ?_ ?_))
  · exact congrArg₂ (fun r l => k (ix2 r l)) (Fin.ext (by show 8192 + κ.val = (κ.val + 8192) % 8448; omega)) (Fin.ext (by dsimp only; omega))
  · exact congrArg (fun r => q (ix2 _ r)) (Fin.ext (by dsimp only; omega))

/-- The largest score of a row, by one reduction. -/
def xCtx (s : FVec Ideal S8x2x256x256 .f32) : FVec Ideal S8x2x256 .f32 :=
  Host.reduce FloatOps.maximumf s (constant S_ .f32 0xFF800000#32) reducesTo_S8x2x256x256_S8x2x256_d3 h_S_

theorem xCtx_apply (s : FVec Ideal S8x2x256x256 .f32) (h : Fin 8) (g : Fin 2) (t : Fin 256) :
    xCtx s (ix3 h g t) = Finset.univ.fold max (Ideal.ofBits .f32 0xFF800000#32) fun κ : Fin 256 => s (ix4 h g t κ) := by
  pointwise [xCtx]

/-- The largest score of a row. -/
def mCtx (s : FVec Ideal S8x2x256x256 .f32) : FVec Ideal S8x2x256 .f32 :=
  maximumf (broadcastInDim S8x2x256 ![] bcast_S_S8x2x256 (constant S_ .f32 0xFF800000#32)) (xCtx s)

theorem mCtx_apply (s : FVec Ideal S8x2x256x256 .f32) (h : Fin 8) (g : Fin 2) (t : Fin 256) :
    mCtx s (ix3 h g t) = Finset.univ.sup fun κ : Fin 256 => s (ix4 h g t κ) := by
  refine (max_cst bcast_S_S8x2x256 (xCtx s) (ix3 h g t)).trans ?_
  exact (xCtx_apply s h g t).trans (fold_neg_inf _)

/-- A row's number at every key. -/
def bCtx (s : FVec Ideal S8x2x256 .f32) : FVec Ideal S8x2x256x256 .f32 :=
  broadcastInDim S8x2x256x256 ![0, 1, 2, 3] bcast_S8x2x256x1_S8x2x256x256_0_1_2_3 (broadcastInDim S8x2x256x1 ![0, 1, 2] bcast_S8x2x256_S8x2x256x1_0_1_2 s)

theorem bCtx_apply (s : FVec Ideal S8x2x256 .f32) (h : Fin 8) (g : Fin 2) (t : Fin 256) (κ : Fin 256) :
    bCtx s (ix4 h g t κ) = s (ix3 h g t) := by
  pointwise [bCtx]

/-- The exponentials. -/
def eCtx (s : FVec Ideal S8x2x256x256 .f32) : FVec Ideal S8x2x256x256 .f32 := Host.exp (subf s (bCtx (mCtx s)))

theorem eCtx_apply (s : FVec Ideal S8x2x256x256 .f32) (h : Fin 8) (g : Fin 2) (t : Fin 256) (κ : Fin 256) :
    eCtx s (ix4 h g t κ) = Ideal.exp (s (ix4 h g t κ) - Finset.univ.sup fun κ : Fin 256 => s (ix4 h g t κ)) := by
  have h1 : eCtx s (ix4 h g t κ) = Ideal.exp (s (ix4 h g t κ) - bCtx (mCtx s) (ix4 h g t κ)) := rfl
  rw [h1, bCtx_apply, mCtx_apply]

/-- Their sum along a row. -/
def zCtx (s : FVec Ideal S8x2x256x256 .f32) : FVec Ideal S8x2x256 .f32 :=
  Host.reduceAdd s (constant S_ .f32 0x00000000#32) reducesTo_S8x2x256x256_S8x2x256_d3 h_S_

theorem zCtx_apply (s : FVec Ideal S8x2x256x256 .f32) (h : Fin 8) (g : Fin 2) (t : Fin 256) :
    zCtx s (ix3 h g t) = ∑ κ : Fin 256, s (ix4 h g t κ) := by
  pointwise [zCtx]

/-- The softmax weights. -/
def wCtx (s : FVec Ideal S8x2x256x256 .f32) : FVec Ideal S8x2x256x256 .f32 := Host.divf (eCtx s) (bCtx (zCtx (eCtx s)))

theorem wCtx_apply (q : FVec Ideal S8448x1024 .f32) (k : FVec Ideal S8448x1024 .f32) (h : Fin 8) (g : Fin 2) (t : Fin 256) (κ : Fin 256) :
    wCtx (sCtx q k) (ix4 h g t κ) = Ideal.div (Ideal.exp (sc q k ⟨8192 + t.val, by omega⟩ h g κ - mx (sc q k ⟨8192 + t.val, by omega⟩ h g) 256)) (den (sc q k ⟨8192 + t.val, by omega⟩ h g) 256) := by
  have h1 : wCtx (sCtx q k) (ix4 h g t κ) = Ideal.div (eCtx (sCtx q k) (ix4 h g t κ)) (bCtx (zCtx (eCtx (sCtx q k))) (ix4 h g t κ)) := rfl
  have hm : (Finset.univ.sup fun κ : Fin 256 => sCtx q k (ix4 h g t κ)) = mx (sc q k ⟨8192 + t.val, by omega⟩ h g) 256 := by
    rw [mx_fin]
    exact congrArg _ (funext fun κ => sCtx_apply q k h g t κ)
  rw [h1, bCtx_apply, zCtx_apply, eCtx_apply, hm, sCtx_apply, den_fin]
  refine congrArg _ (Finset.sum_congr rfl fun κ _ => ?_)
  rw [eCtx_apply, hm, sCtx_apply]

/-- The averages. -/
def oCtx (w : FVec Ideal S8x2x256x256 .f32) (v : FVec Ideal S8448x1024 .f32) : FVec Ideal S256x2048 .f32 :=
  shapeCast _ (transpose S256x8x2x128 [3, 0, 2, 1] (Host.dotGeneral (φ₁ := .f32) (φ₂ := .f32) dot_S256x8x128_S8x2x256x256_S8x128x2x256_0_3_2_12_1_0 none (shapeCast _ (extractStridedSlice S256x1024 ![8192, 0] v slices_S8448x1024_S256x1024_8192_0) shapeCasts_S256x1024_S256x8x128) w) transposes_S8x128x2x256_S256x8x2x128_3_0_2_1) shapeCasts_S256x8x2x128_S256x2048

theorem oCtx_apply (w : FVec Ideal S8x2x256x256 .f32) (v : FVec Ideal S8448x1024 .f32) (h : Fin 8) (g : Fin 2) (t : Fin 256) (j : Fin 128) :
    oCtx w v (ix2 t ⟨256 * h.val + 128 * g.val + j.val, by omega⟩) = ∑ κ : Fin 256, v (ix2 (krow κ) ⟨128 * h.val + j.val, by omega⟩) * w (ix4 h g t κ) := by
  pointwise [oCtx]
  refine Finset.sum_congr rfl fun x _ => congrArg₂ (fun a b : EReal => a * b) (congrArg₂ (fun a b => v (ix2 a b)) (Fin.ext ?_) (Fin.ext ?_)) (congrArg₂ (fun a b => w (ix4 a b t x)) (Fin.ext ?_) (Fin.ext ?_))
  · show 8192 + x.val = (x.val + 8192) % 8448; omega
  · show _ = _; first | rfl | (dsimp only; omega)
  · show _ = _; first | rfl | (dsimp only; omega)
  · show _ = _; first | rfl | (dsimp only; omega)

/-- The whole result. -/
def out (q k v : FVec Ideal S8448x1024 .f32) : FVec Ideal S8448x2048 .f32 :=
  concatenate S8448x2048 0 [⟨S8192x2048, oLat (wLat (sLat q k)) v⟩, ⟨S256x2048, oCtx (wCtx (sCtx q k)) v⟩] concatenates_S8192x2048_S256x2048_S8448x2048_d0

/-- The reference's result is `out` of its arguments, the values being columns of the projection. -/
theorem res_eq (m : (ℓ : Loc nD τ sig) → Buf (Elt Ideal) ℓ) (c : Dev nD) :
    Value.res_main_v50 (F := Ideal) m c = out (m ((c.tc : Thread nD τ).loc main_arg0)) (m ((c.tc : Thread nD τ).loc main_arg1))
      (extf .f32 (extractStridedSlice S8448x1024 ![0, 2048] (m ((c.tc : Thread nD τ).loc main_arg2)) slices_S8448x11776_S8448x1024_0_2048) bitsLt_bf16_f32) := rfl

theorem out_lat (q : FVec Ideal S8448x1024 .f32) (k v : FVec Ideal S8448x1024 .f32) (h : Fin 8) (g : Fin 2) (t : Fin 8448) (ht : t.val < 8192) (j : Fin 128) :
    out q k v (ix2 t ⟨256 * h.val + 128 * g.val + j.val, by omega⟩)
      = ∑ κ : Fin 8448, v (ix2 (krow κ) ⟨128 * h.val + j.val, by omega⟩)
          * Ideal.div (Ideal.exp (sc q k t h g κ - mx (sc q k t h g) 8448)) (den (sc q k t h g) 8448) := by
  have e : out q k v (ix2 t ⟨256 * h.val + 128 * g.val + j.val, by omega⟩)
      = oLat (wLat (sLat q k)) v (ix2 ⟨t.val, ht⟩ ⟨256 * h.val + 128 * g.val + j.val, by omega⟩) := by
    pointwise [out]
    rw [dif_pos ht]
  rw [e, oLat_apply]
  exact Finset.sum_congr rfl fun κ _ => by rw [wLat_apply]

theorem out_ctx (q : FVec Ideal S8448x1024 .f32) (k v : FVec Ideal S8448x1024 .f32) (h : Fin 8) (g : Fin 2) (t : Fin 8448) (ht : ¬t.val < 8192) (j : Fin 128) :
    out q k v (ix2 t ⟨256 * h.val + 128 * g.val + j.val, by omega⟩)
      = ∑ κ : Fin 256, v (ix2 (krow κ) ⟨128 * h.val + j.val, by omega⟩)
          * Ideal.div (Ideal.exp (sc q k t h g κ - mx (sc q k t h g) 256)) (den (sc q k t h g) 256) := by
  have e : out q k v (ix2 t ⟨256 * h.val + 128 * g.val + j.val, by omega⟩)
      = oCtx (wCtx (sCtx q k)) v (ix2 ⟨t.val - 8192, by omega⟩ ⟨256 * h.val + 128 * g.val + j.val, by omega⟩) := by
    pointwise [out]
    rw [dif_neg ht]
  rw [e, oCtx_apply]
  have et : (⟨8192 + (t.val - 8192), by omega⟩ : Fin 8448) = t := Fin.ext (by show 8192 + (t.val - 8192) = t.val; omega)
  exact Finset.sum_congr rfl fun κ _ => by rw [wCtx_apply]; simp only [et]

end Cert.DiffRef

end
-- ==== Proof.Diff.lean ====
/- The differential attention's halves: the call's tiled softmax average is the reference's softmax average at the ideal floats when the queries and the keys
   are finite, and the frames of both. -/
module

public import proofs.«01_k».proof.Defs
public import proofs.«01_k».proof.Proof.DiffRun
public import proofs.«01_k».proof.Proof.DiffRef
public import proofs.«01_k».proof.Proof.Attn
public import proofs.«01_k».proof.Proof.Gen.Pre_finite9
public import proofs.«01_k».proof.Proof.Gen.Kernel9.Frame
public import proofs.«01_k».proof.Proof.Gen.Kernel9Ideal.Value
public import proofs.«01_k».proof.Proof.Gen.Reference9Ideal.Run
public import Idealize.ShloMosaic.Lib.ReduceAll

@[expose] public section

set_option maxRecDepth 16384

noncomputable section

namespace Cert.Diff

open Cert.Kernel9Ideal Cert.Kernel9Ideal.Gen Idealize.ShloMosaic Idealize.ShloMosaic.TcCoe Idealize.SL.Sem
open Cert.Softmax Cert.DiffRun
open Cert.AttnRun (krow)
open Cert.Attn (real_of_lt)
open Cert.DiffRef (sc)
open Idealize.ShloMosaic.Pipeline (Dat Window)
open scoped BigOperators

attribute [local instance] Cert.Kernel9Ideal.Gen.facts Cert.Reference9Ideal.Gen.facts Cert.Pre_finite9.Gen.facts

variable (m : (ℓ : Loc nD τ sig) → Buf (Elt Ideal) ℓ) (ρ : Dev nD → PrngReg)

/-! ## The precondition -/

/-- The precondition says that every query and every key is a real number. -/
theorem finite (q : FVec Ideal S8448x1024 .f32) (k : FVec Ideal S8448x1024 .f32) (p : FVec Ideal S8448x11776 .bf16)
    (e : Pre_finite9.fn (F := Ideal) q k p = fun _ => 1#1) : (∀ i, ∃ r : ℝ, q i = r) ∧ ∀ i, ∃ r : ℝ, k i = r := by
  haveI : Subsingleton Pre_finite9.S_.Idx := ⟨fun a b => funext fun k => k.elim0⟩
  have e' := congrFun e (fun k => k.elim0)
  unfold Pre_finite9.fn at e'
  dsimp only at e'
  obtain ⟨h0, h1⟩ := IntOp.andi_eq_one.1 e'
  exact ⟨fun i => real_of_lt _ (Host.reduce_andi_all _ _ _ _ _ h0 i), fun i => real_of_lt _ (Host.reduce_andi_all _ _ _ _ _ h1 i)⟩

/-! ## The arrays the launch reads -/

/-- The three arguments. -/
def Q (c : Dev nD) : S8448x1024.Idx → EReal := m ((c : Thread nD τ).loc main_arg0)
def K (c : Dev nD) : S8448x1024.Idx → EReal := m ((c : Thread nD τ).loc main_arg1)
def P (c : Dev nD) : S8448x11776.Idx → EReal := m ((c : Thread nD τ).loc main_arg2)

theorem V_arg2 (c : Dev nD) : V m c main_arg2 = P m c := V_main_arg2 m c

/-- The queries, scaled. -/
def qs (q : FVec Ideal S8448x1024 .f32) : FVec Ideal S8448x8x2x64 .f32 :=
  shapeCast _ (mulf q (broadcastInDim S8448x1024 ![] bcast_S_S8448x1024 (constant S_ .f32 0x3E000000#32))) shapeCasts_S8448x1024_S8448x8x2x64

/-- The scaled queries with each half of a head among zeros. -/
def qpad (q : FVec Ideal S8448x1024 .f32) : FVec Ideal S8448x2048 .bf16 :=
  truncf .bf16 (shapeCast _ (concatenate S8448x8x256 2 [⟨S8448x8x64, shapeCast _ (extractStridedSlice S8448x8x1x64 ![0, 0, 0, 0] (qs q) slices_S8448x8x2x64_S8448x8x1x64_0_0_0_0) shapeCasts_S8448x8x1x64_S8448x8x64⟩,
    ⟨S8448x8x64, broadcastInDim S8448x8x64 ![] bcast_S_S8448x8x64 (constant S_ .f32 0x00000000#32)⟩,
    ⟨S8448x8x64, broadcastInDim S8448x8x64 ![] bcast_S_S8448x8x64 (constant S_ .f32 0x00000000#32)⟩,
    ⟨S8448x8x64, shapeCast _ (extractStridedSlice S8448x8x1x64 ![0, 0, 1, 0] (qs q) slices_S8448x8x2x64_S8448x8x1x64_0_0_1_0) shapeCasts_S8448x8x1x64_S8448x8x64⟩]
    concatenates_S8448x8x64_S8448x8x64_S8448x8x64_S8448x8x64_S8448x8x256_d2) shapeCasts_S8448x8x256_S8448x2048) bitsLt_bf16_f32

theorem qpad_apply (q : FVec Ideal S8448x1024 .f32) (a : Fin 8448) (l : Fin 2048) :
    qpad q (ix2 a l) = if h : l.val % 256 < 64 then q (ix2 a ⟨l.val / 256 * 128 + l.val % 256, by omega⟩) * Ideal.ofBits .f32 0x3E000000#32
      else if l.val % 256 - 64 < 64 then 0 else if l.val % 256 - 64 - 64 < 64 then 0
      else q (ix2 a ⟨l.val / 256 * 128 + 64 + (l.val % 256 - 64 - 64 - 64), by omega⟩) * Ideal.ofBits .f32 0x3E000000#32 := by
  pointwise [qpad, qs]
  split_ifs <;> rfl

/-- A half's product over 128 columns is the product over its own 64. -/
theorem qpad_dot (q : FVec Ideal S8448x1024 .f32) (k : Fin 128 → EReal) (a : Fin 8448) (h : Fin 8) (g : Fin 2) :
    (∑ d : Fin 128, qpad q (ix2 a ⟨256 * h.val + (128 * g.val + d.val), by omega⟩) * k d)
      = ∑ d : Fin 64, (q (ix2 a ⟨128 * h.val + 64 * g.val + d.val, by omega⟩) * Ideal.ofBits .f32 0x3E000000#32) * k ⟨64 * g.val + d.val, by omega⟩ := by
  refine (Fin.sum_univ_add (a := 64) (b := 64) _).trans ?_
  match g with
  | ⟨0, _⟩ =>
    refine Eq.trans (congrArg₂ (fun x y : EReal => x + y) (Finset.sum_congr rfl fun d _ => ?_) (Finset.sum_eq_zero fun d _ => ?_)) (add_zero _)
    · refine congrArg₂ (fun x y : EReal => x * y) ?_ (congrArg k (Fin.ext (by show d.val = 64 * 0 + d.val; omega)))
      have e : (256 * h.val + (128 * 0 + d.val)) % 256 = d.val := by omega
      refine (qpad_apply q a ⟨256 * h.val + (128 * 0 + d.val), by omega⟩).trans ?_
      rw [dif_pos (by dsimp only; omega)]
      refine congrArg (fun l => (q (ix2 a l) * _ : EReal)) (Fin.ext ?_)
      show (256 * h.val + (128 * 0 + d.val)) / 256 * 128 + (256 * h.val + (128 * 0 + d.val)) % 256 = 128 * h.val + 64 * 0 + d.val
      omega
    · refine Eq.trans (congrArg (fun x : EReal => x * _) ?_) (zero_mul _)
      refine (qpad_apply q a ⟨256 * h.val + (128 * 0 + (64 + d.val)), by omega⟩).trans ?_
      rw [dif_neg (by dsimp only; omega), if_pos (by dsimp only; omega)]
  | ⟨1, _⟩ =>
    refine Eq.trans (congrArg₂ (fun x y : EReal => x + y) (Finset.sum_eq_zero fun d _ => ?_) (Finset.sum_congr rfl fun d _ => ?_)) (zero_add _)
    · refine Eq.trans (congrArg (fun x : EReal => x * _) ?_) (zero_mul _)
      refine (qpad_apply q a ⟨256 * h.val + (128 * 1 + d.val), by omega⟩).trans ?_
      rw [dif_neg (by dsimp only; omega), if_neg (by dsimp only; omega), if_pos (by dsimp only; omega)]
    · refine congrArg₂ (fun x y : EReal => x * y) ?_ (congrArg k (Fin.ext (by show 64 + d.val = 64 * 1 + d.val; omega)))
      refine (qpad_apply q a ⟨256 * h.val + (128 * 1 + (64 + d.val)), by omega⟩).trans ?_
      rw [dif_neg (by dsimp only; omega), if_neg (by dsimp only; omega), if_neg (by dsimp only; omega)]
      refine congrArg (fun l => (q (ix2 a l) * _ : EReal)) (Fin.ext ?_)
      show (256 * h.val + (128 * 1 + (64 + d.val))) / 256 * 128 + 64 + ((256 * h.val + (128 * 1 + (64 + d.val))) % 256 - 64 - 64 - 64) = 128 * h.val + 64 * 1 + d.val
      omega

theorem V_v10 (c : Dev nD) : V m c main_v10 = qpad (Q m c) := by
  show StableHlo.after hostOps0 _ _ = _
  after_results
  rfl

theorem V_v11 (c : Dev nD) : V m c main_v11 = K m c := by
  have h : V m c main_v11 = truncf (F := Ideal) (s := S8448x1024) .bf16 (K m c) bitsLt_bf16_f32 := by
    show StableHlo.after hostOps0 _ _ = _
    after_results
    rfl
  rw [h]; rfl

theorem index0 (t : Fin cfg0.N) : win0_3.index t 0 = (grid0.coords t 1).val := by
  have h : (grid0.coords t 1).val < 33 := (grid0.coords t 1).isLt
  show (BitVec.ofNat 32 (grid0.coords t 1).val).toNat = _
  rw [BitVec.toNat_ofNat, Nat.mod_eq_of_lt (by omega)]

theorem index1 (t : Fin cfg0.N) : win0_3.index t 1 = (grid0.coords t 0).val := by
  have h : (grid0.coords t 0).val < 8 := (grid0.coords t 0).isLt
  show (BitVec.ofNat 32 (grid0.coords t 0).val).toNat = _
  rw [BitVec.toNat_ofNat, Nat.mod_eq_of_lt (by omega)]

theorem index_v (t : Fin cfg0.N) : win0_2.index t 1 = 16 + (grid0.coords t 0).val := by
  have h : (grid0.coords t 0).val < 8 := (grid0.coords t 0).isLt
  show (BitVec.ofNat 32 16 + BitVec.ofNat 32 (grid0.coords t 0).val).toNat = _
  rw [BitVec.toNat_add, BitVec.toNat_ofNat, BitVec.toNat_ofNat]
  omega

/-- The head of a point, and its first row. -/
def head (t : Fin cfg0.N) : Fin 8 := grid0.coords t 0

theorem tile_lt (t : Fin cfg0.N) : (grid0.coords t 1).val < 33 := (grid0.coords t 1).isLt

def row (t : Fin cfg0.N) (r : Fin 256) : Fin 8448 := ⟨256 * (grid0.coords t 1).val + r.val, by have := tile_lt t; omega⟩

theorem iblk0_apply (c : Dev nD) (t : Fin cfg0.N) (r : Fin 256) (l : Fin 256) :
    iblk m c 0 t (ix2 r l) = qpad (Q m c) (ix2 (row t r) ⟨256 * (head t).val + l.val, by omega⟩) := by
  rw [← V_v10 m c]
  show V m c main_v10 (((cfg0.win 0).blk t).view.emb (ix2 r l)) = _
  congr 1
  funext a; apply Fin.ext
  refine (Window.rect_emb_val win0_0 t _ a rfl).trans ?_
  match a with
  | ⟨0, _⟩ =>
    show win0_3.index t 0 * 256 + r.val = 256 * (grid0.coords t 1).val + r.val
    rw [index0]; omega
  | ⟨1, _⟩ =>
    show win0_3.index t 1 * 256 + l.val = 256 * (grid0.coords t 0).val + l.val
    rw [index1]; omega

theorem iblk1_apply (c : Dev nD) (t : Fin cfg0.N) (a : Fin 8448) (d : Fin 128) :
    iblk m c 1 t (ix2 a d) = K m c (ix2 a ⟨128 * (head t).val + d.val, by omega⟩) := by
  rw [← V_v11 m c]
  show V m c main_v11 (((cfg0.win 1).blk t).view.emb (ix2 a d)) = _
  congr 1
  funext b; apply Fin.ext
  refine (Window.rect_emb_val win0_1 t _ b rfl).trans ?_
  match b with
  | ⟨0, _⟩ => show 0 * 8448 + a.val = a.val; omega
  | ⟨1, _⟩ =>
    show win0_3.index t 1 * 128 + d.val = 128 * (grid0.coords t 0).val + d.val
    rw [index1]; omega

theorem iblk2_apply (c : Dev nD) (t : Fin cfg0.N) (a : Fin 8448) (d : Fin 128) :
    iblk m c 2 t (ix2 a d) = P m c (ix2 a ⟨2048 + (128 * (head t).val + d.val), by omega⟩) := by
  rw [← V_arg2 m c]
  show V m c main_arg2 (((cfg0.win 2).blk t).view.emb (ix2 a d)) = _
  congr 1
  funext b; apply Fin.ext
  refine (Window.rect_emb_val win0_2 t _ b rfl).trans ?_
  match b with
  | ⟨0, _⟩ => show 0 * 8448 + a.val = a.val; omega
  | ⟨1, _⟩ =>
    show win0_2.index t 1 * 128 + d.val = 2048 + (128 * (grid0.coords t 0).val + d.val)
    rw [index_v]; omega

/-! ## The result -/

/-- The values: the projection's columns from 2048. -/
def vals (p : FVec Ideal S8448x11776 .bf16) : FVec Ideal S8448x1024 .f32 :=
  extf .f32 (extractStridedSlice Reference9Ideal.S8448x1024 ![0, 2048] p Cert.Reference9Ideal.Facts₀.slices_S8448x11776_S8448x1024_0_2048) Cert.Reference9Ideal.Facts₀.bitsLt_bf16_f32

theorem vals_apply (p : FVec Ideal S8448x11776 .bf16) (a : Fin 8448) (l : Fin 1024) :
    vals p (ix2 a l) = p (ix2 a ⟨2048 + l.val, by omega⟩) := by
  pointwise [vals]

theorem scale : ∃ r : ℝ, 0 ≤ r ∧ Ideal.ofBits .f32 0x3E000000#32 = r := by
  refine ⟨(2 ^ 23 : Nat) * (2 : ℝ) ^ (-26 : Int), by positivity, ?_⟩
  simp [Ideal.ofBits, Ideal.ieee, -EReal.coe_mul]

/-- A query row's scores, of the blocks a point reads. -/
def ks (x0 : Vec Ideal S256x256 .bf16) (x1 : Vec Ideal S8448x128 .bf16) (g : Fin 2) (r : Fin 256) (κ : ℕ) : EReal :=
  ∑ d : Fin 128, x0 (ix2 r ⟨128 * g.val + d.val, by omega⟩) * x1 (ix2 (krow κ) d)

theorem block_eq (c : Dev nD) (hq : ∀ i, ∃ r : ℝ, Q m c i = (r : EReal)) (hk : ∀ i, ∃ r : ℝ, K m c i = (r : EReal))
    (t : Fin cfg0.N) (g : Fin 2) (r : Fin 256) (j : Fin 128) :
    blockVal (grid0.coords t) (iblk m c 0 t) (iblk m c 1 t) (iblk m c 2 t) g r j
      = DiffRef.out (Q m c) (K m c) (vals (P m c))
          (ix2 (row t r) ⟨256 * (head t).val + 128 * g.val + j.val, by omega⟩) := by
  obtain ⟨s, hs0, hs⟩ := scale
  have hS : ks (iblk m c 0 t) (iblk m c 1 t) g r
      = sc (Q m c) (K m c) (row t r) (head t) g := by
    funext κ
    unfold sc ks
    rw [hs, ← scale_dot (s : EReal) (by exact_mod_cast hs0) (EReal.coe_ne_top s), ← hs]
    refine Eq.trans (Finset.sum_congr rfl fun d _ => ?_) ((qpad_dot (Q m c) (fun d => K m c (ix2 (krow κ) ⟨128 * (head t).val + d.val, by omega⟩)) (row t r) (head t) g).trans
      (Finset.sum_congr rfl fun d _ => ?_))
    · rw [iblk0_apply, iblk1_apply]
    · refine congrArg (fun i => (_ * K m c (ix2 (krow κ) i) : EReal)) (Fin.ext ?_)
      show 128 * (head t).val + (64 * g.val + d.val) = 128 * (head t).val + 64 * g.val + d.val
      omega
  have hV : ∀ κ, val (iblk m c 2 t) j κ = vals (P m c) (ix2 (krow κ) ⟨128 * (head t).val + j.val, by omega⟩) := by
    intro κ
    rw [vals_apply]
    exact iblk2_apply m c t (krow κ) j
  have hR : ∀ κ, ∃ x : ℝ, sc (Q m c) (K m c) (row t r) (head t) g κ = x := by
    intro κ
    unfold sc
    rw [hs]
    exact real_dot s _ _ (fun d => hq _) (fun d => hk _)
  show Ideal.div (num (ks (iblk m c 0 t) (iblk m c 1 t) g r) (val (iblk m c 2 t) j) (256 + 512 * chunks (grid0.coords t)))
    (den (ks (iblk m c 0 t) (iblk m c 1 t) g r) (256 + 512 * chunks (grid0.coords t))) = _
  rw [hS]
  by_cases ht : (grid0.coords t 1).val < 32
  · have hn : 256 + 512 * chunks (grid0.coords t) = 8448 := by unfold chunks; rw [if_pos ht]
    rw [hn, div_num _ _ (by decide) (fun κ _ => hR κ)]
    refine Eq.trans (Finset.sum_congr rfl fun κ _ => ?_) (DiffRef.out_lat _ _ _ (head t) g (row t r) (by show 256 * (grid0.coords t 1).val + r.val < 8192; omega) j).symm
    rw [hV]
  · have hn : 256 + 512 * chunks (grid0.coords t) = 256 := by unfold chunks; rw [if_neg ht]
    rw [hn, div_num _ _ (by decide) (fun κ _ => hR κ)]
    refine Eq.trans (Finset.sum_congr rfl fun κ _ => ?_) (DiffRef.out_ctx _ _ _ (head t) g (row t r) (by show ¬ 256 * (grid0.coords t 1).val + r.val < 8192; omega) j).symm
    rw [hV]

theorem flushed_eq (c : Dev nD) (hq : ∀ i, ∃ r : ℝ, Q m c i = (r : EReal)) (hk : ∀ i, ∃ r : ℝ, K m c i = (r : EReal)) (t : Fin cfg0.N) :
    (dats m 0 c).flushed 3 t = ((cfg0.win 3).blk t).view.read (Elt Ideal)
      (DiffRef.out (Q m c) (K m c) (vals (P m c))) := by
  rw [Value.flushed3_A]
  funext (y : S256x256.Idx)
  have hy0 : (y 0).val < 256 := (y 0).isLt
  have hy1 : (y 1).val < 256 := (y 1).isLt
  have e : y = ix2 (⟨(y 0).val, hy0⟩ : Fin 256) (⟨128 * ((y 1).val / 128) + (y 1).val % 128, by omega⟩ : Fin 256) := by
    funext a
    match a with
    | ⟨0, _⟩ => rfl
    | ⟨1, _⟩ => exact Fin.ext (by show (y 1).val = 128 * ((y 1).val / 128) + (y 1).val % 128; omega)
  have hout := out_apply c (grid0.coords t) (ms0_0 t) (hs0_0 t) (ms0_1 t) (hs0_1 t) (ms0_2 t) (hs0_2 t) (ms0_3 t) (hs0_3 t) (iblk m c 0 t) (iblk m c 1 t) (iblk m c 2 t)
    (⟨(y 1).val / 128, by omega⟩ : Fin 2) (⟨(y 0).val, hy0⟩ : Fin 256) (⟨(y 1).val % 128, by omega⟩ : Fin 128)
  rw [block_eq m c hq hk, ← e] at hout
  refine Eq.trans (b := out0_A_3 c (grid0.coords t) (ms0_0 t) (hs0_0 t) (ms0_1 t) (hs0_1 t) (ms0_2 t) (hs0_2 t) (ms0_3 t) (hs0_3 t) (iblk m c 0 t) (iblk m c 1 t) (iblk m c 2 t) y) rfl (hout.trans ?_)
  show _ = DiffRef.out _ _ _ (((cfg0.win 3).blk t).view.emb y)
  refine congrArg _ ?_
  funext a; apply Fin.ext
  refine Eq.trans ?_ (Window.rect_emb_val win0_3 t y a rfl).symm
  match a with
  | ⟨0, _⟩ =>
    show 256 * (grid0.coords t 1).val + (y 0).val = win0_3.index t 0 * 256 + (y 0).val
    rw [index0]; omega
  | ⟨1, _⟩ =>
    show 256 * (grid0.coords t 0).val + 128 * ((y 1).val / 128) + (y 1).val % 128 = win0_3.index t 1 * 256 + (y 1).val
    rw [index1]; omega

/-- Every index of the result is in some point's block. -/
theorem cover (i : S8448x2048.Idx) :
    ∃ t : Fin cfg0.N, (cfg0.win 3).flush t = true ∧ i ∈ ((cfg0.win 3).blk t).view.set := by
  have h0 : (i 0 : Nat) < 8448 := (i 0).isLt
  have h1 : (i 1 : Nat) < 2048 := (i 1).isLt
  obtain ⟨t, ht⟩ := Pipeline.Grid.coords_surjective grid0 (fun a => match a with
    | ⟨0, _⟩ => (⟨(i 1).val / 256, by show _ < 8; omega⟩ : Fin 8)
    | ⟨1, _⟩ => (⟨(i 0).val / 256, by show _ < 33; omega⟩ : Fin 33))
  refine ⟨t, flush0_3 t, ?_⟩
  show i ∈ ((View.whole main_v12).slice (win0_3.rect t)).set
  rw [View.set_slice_whole, Rect.mem_set_unit]
  have e : win0_3.index t = ![(i 0).val / 256, (i 1).val / 256] := by
    show cc0_transform_3 (grid0.coords t) = _
    rw [ht]
    show ![(BitVec.ofNat 32 ((i 0).val / 256)).toNat, (BitVec.ofNat 32 ((i 1).val / 256)).toNat] = _
    rw [BitVec.toNat_ofNat, BitVec.toNat_ofNat, Nat.mod_eq_of_lt (by omega), Nat.mod_eq_of_lt (by omega)]
  intro a
  match a with
  | ⟨0, _⟩ =>
    show win0_3.index t 0 * 256 ≤ (i 0 : Nat) ∧ (i 0 : Nat) < win0_3.index t 0 * 256 + 256
    rw [e]; show (i 0).val / 256 * 256 ≤ _ ∧ _ < (i 0).val / 256 * 256 + 256; omega
  | ⟨1, _⟩ =>
    show win0_3.index t 1 * 256 ≤ (i 1 : Nat) ∧ (i 1 : Nat) < win0_3.index t 1 * 256 + 256
    rw [e]; show (i 1).val / 256 * 256 ≤ _ ∧ _ < (i 1).val / 256 * 256 + 256; omega

theorem final (c : Dev nD) (hq : ∀ i, ∃ r : ℝ, Q m c i = (r : EReal)) (hk : ∀ i, ∃ r : ℝ, K m c i = (r : EReal)) :
    (dats m 0 c).arrAt 3 cfg0.N
      = DiffRef.out (Q m c) (K m c) (vals (P m c)) :=
  (dats m 0 c).arrAt_eq_of_cover 3 _ (fun t _ => flushed_eq m c hq hk t) cover

/-! ## The claims -/

theorem frame_K : quiescent_Kernel9 := fun m ρ _ => Cert.Kernel9.Gen.frame m ρ
theorem frame_KI : quiescent_Kernel9Ideal := fun m ρ _ => Cert.Kernel9Ideal.Gen.frame m ρ
theorem frame_RI : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem value : algebraic_Kernel9Ideal_Reference9Ideal := fun m g m' g' pre hm =>
  ⟨fun c => DiffRef.out (m ((c.tc : Thread nD τ).loc main_arg0)) (m ((c.tc : Thread nD τ).loc main_arg1)) (vals (m ((c.tc : Thread nD τ).loc main_arg2))),
    (θ_run Cert.Kernel9Ideal.defs _ _).mono (fun r h c => ⟨(h c).1.trans (final m c (finite _ _ _ (pre c)).1 (finite _ _ _ (pre c)).2), (h c).2⟩)
      (Cert.Kernel9Ideal.Value.run_blocks (F := Ideal) m g),
    (θ_run Cert.Reference9Ideal.defs _ _).mono (fun r h c => ⟨(h c).1.trans ((DiffRef.res_eq m' c).trans (by
        rw [(hm c).1, (hm c).2.1, (hm c).2.2]
        rfl)), (h c).2⟩)
      (Cert.Reference9Ideal.Value.run (F := Ideal) m' g')⟩

end Cert.Diff

end
-- ==== Proof.MoeWords.lean ====
/- The words the experts' products read: the comparisons of a block's number with the number of blocks in use, the
   places the tables choose, and what the preconditions say of the tables. -/
module

public import proofs.«01_k».proof.Proof.Gen.Pre_blocks10
public import proofs.«01_k».proof.Proof.Gen.Pre_blocks11
public import Idealize.ShloMosaic.Lib.ReduceAll
public import Idealize.ShloMosaic.Lib.WordCmp
public import Idealize.ShloMosaic.Lib.Tactic

@[expose] public section

noncomputable section

namespace Cert.MoeWords

open Idealize.ShloMosaic

theorem cond_slt (a b : BitVec 32) : Scalar.cmpi .ne (Scalar.extui (Scalar.cmpi .slt a b)) (0#32) = 1#1 ↔ a.slt b = true := by
  show BitVec.ofBool ((BitVec.ofBool (a.slt b)).setWidth 32 != 0#32) = 1#1 ↔ _
  cases a.slt b <;> decide

theorem cond_sge (a b : BitVec 32) : Scalar.cmpi .ne (Scalar.extui (Scalar.cmpi .sge a b)) (0#32) = 1#1 ↔ ¬a.slt b = true := by
  show BitVec.ofBool ((BitVec.ofBool (b.sle a)).setWidth 32 != 0#32) = 1#1 ↔ _
  rw [BitVec.sle_eq_not_slt]
  cases a.slt b <;> decide

/-- A small word read signed. -/
theorem toInt_small (w : BitVec 32) (h : w.toNat ≤ 40) : w.toInt = (w.toNat : Int) :=
  BitVec.toInt_eq_toNat_of_lt (by omega)

theorem slt_iff (b : Nat) (hb : b < 40) (w : BitVec 32) (h : w.toNat ≤ 40) : (BitVec.ofNat 32 b).slt w = true ↔ b < w.toNat := by
  have e : (BitVec.ofNat 32 b).toNat = b := by rw [BitVec.toNat_ofNat]; omega
  rw [BitVec.slt_iff_toInt_lt, toInt_small _ (by omega), toInt_small _ h, e]
  omega

/-- The block of rows a point reads: its own, or the last in use. -/
theorem min_toNat (b : Nat) (hb : b < 40) (w : BitVec 32) (h1 : 1 ≤ w.toNat) (h : w.toNat ≤ 40) :
    (Scalar.minsi (BitVec.ofNat 32 b) (Scalar.subi w 1#32)).toNat = min b (w.toNat - 1) := by
  have e1 : (w - 1#32).toNat = w.toNat - 1 := by
    rw [BitVec.toNat_sub]; show (2 ^ 32 - 1 + w.toNat) % 2 ^ 32 = _; omega
  have e : (BitVec.ofNat 32 b).toNat = b := by rw [BitVec.toNat_ofNat]; omega
  show (if (BitVec.ofNat 32 b).slt (w - 1#32) = true then BitVec.ofNat 32 b else w - 1#32).toNat = _
  by_cases hc : (BitVec.ofNat 32 b).slt (w - 1#32) = true
  · rw [if_pos hc, e]
    have := (slt_iff b hb _ (by omega)).1 hc
    omega
  · rw [if_neg hc, e1]
    have : ¬b < w.toNat - 1 := fun hh => hc ((slt_iff b hb (w - 1#32) (by omega)).2 (by omega))
    omega

/-- The column of blocks a point reads: its own, or the last. -/
theorem sel_toNat (a w : BitVec 32) (j : Nat) (hj : j < 8) :
    (Scalar.select (Scalar.cmpi .slt a w) (BitVec.ofNat 32 j) 7#32).toNat = if a.slt w = true then j else 7 := by
  show (if BitVec.ofBool (a.slt w) = 1#1 then BitVec.ofNat 32 j else 7#32).toNat = _
  cases a.slt w
  · rfl
  · show (BitVec.ofNat 32 j).toNat = j
    rw [BitVec.toNat_ofNat]; omega

theorem vec2 {a a' : Nat} (h : a = a') : ![a, 0] = ![a', 0] := by rw [h]
theorem vec3 {a a' c c' : Nat} (h : a = a') (h' : c = c') : ![a, 0, c] = ![a', 0, c'] := by rw [h, h']

/-- A word that is at least 0 and below 8 read signed is below 8 read unsigned. -/
theorem toNat_lt8 (x : BitVec 32) (h0 : (0#32).toInt ≤ x.toInt) (h1 : x.toInt < (8#32).toInt) : x.toNat < 8 := by
  rw [show (0#32).toInt = 0 from rfl] at h0
  rw [show (8#32).toInt = 8 from rfl] at h1
  rw [BitVec.toInt] at h0 h1
  have := x.isLt
  split at h0 <;> split at h1 <;> omega

/-- A word that is at least 1 and at most 40 read signed is so read unsigned. -/
theorem toNat_40 (x : BitVec 32) (h0 : (1#32).toInt ≤ x.toInt) (h1 : x.toInt ≤ (40#32).toInt) : 1 ≤ x.toNat ∧ x.toNat ≤ 40 := by
  rw [show (1#32).toInt = 1 from rfl] at h0
  rw [show (40#32).toInt = 40 from rfl] at h1
  rw [BitVec.toInt] at h0 h1
  have := x.isLt
  split at h0 <;> split at h1 <;> omega

variable {F : FTy → Type} [FloatOps F]

/-- What the first precondition says: every block's word is the number of an expert, and the number of blocks in use
    is at least 1 and at most 40. -/
theorem pre10 (a0 a1 a2) (be : (⟨1, ![40]⟩ : Shape).Idx → BitVec 32) (nu : (⟨1, ![1]⟩ : Shape).Idx → BitVec 32)
    (e : Pre_blocks10.fn (F := F) a0 a1 a2 be nu = fun _ => 1#1) :
    (∀ s, (be s).toNat < 8) ∧ ∀ s, 1 ≤ (nu s).toNat ∧ (nu s).toNat ≤ 40 := by
  haveI : Subsingleton Pre_blocks10.S_.Idx := ⟨fun a b => funext fun k => k.elim0⟩
  have e' := congrFun e (fun k => k.elim0)
  unfold Pre_blocks10.fn at e'
  dsimp only at e'
  obtain ⟨ea, eb⟩ := IntOp.andi_eq_one.1 e'
  constructor
  · intro s
    obtain ⟨h0, h1⟩ := IntOp.andi_eq_one.1 (Host.reduce_andi_all _ _ _ _ _ ea s)
    exact toNat_lt8 _ (IntOp.cmpi_sge.1 h0) (IntOp.cmpi_slt.1 h1)
  · intro s
    obtain ⟨h0, h1⟩ := IntOp.andi_eq_one.1 (Host.reduce_andi_all _ _ _ _ _ eb s)
    exact toNat_40 _ (IntOp.cmpi_sge.1 h0) (IntOp.cmpi_sle.1 h1)

/-- The second precondition says the same. -/
theorem pre11 (a0 a1) (be : (⟨1, ![40]⟩ : Shape).Idx → BitVec 32) (nu : (⟨1, ![1]⟩ : Shape).Idx → BitVec 32)
    (e : Pre_blocks11.fn (F := F) a0 a1 be nu = fun _ => 1#1) :
    (∀ s, (be s).toNat < 8) ∧ ∀ s, 1 ≤ (nu s).toNat ∧ (nu s).toNat ≤ 40 := by
  haveI : Subsingleton Pre_blocks11.S_.Idx := ⟨fun a b => funext fun k => k.elim0⟩
  have e' := congrFun e (fun k => k.elim0)
  unfold Pre_blocks11.fn at e'
  dsimp only at e'
  obtain ⟨ea, eb⟩ := IntOp.andi_eq_one.1 e'
  constructor
  · intro s
    obtain ⟨h0, h1⟩ := IntOp.andi_eq_one.1 (Host.reduce_andi_all _ _ _ _ _ ea s)
    exact toNat_lt8 _ (IntOp.cmpi_sge.1 h0) (IntOp.cmpi_slt.1 h1)
  · intro s
    obtain ⟨h0, h1⟩ := IntOp.andi_eq_one.1 (Host.reduce_andi_all _ _ _ _ _ eb s)
    exact toNat_40 _ (IntOp.cmpi_sge.1 h0) (IntOp.cmpi_sle.1 h1)

end Cert.MoeWords

end
-- ==== Proof.MoeHost.lean ====
/- What the references of the experts' products share: one matrix taken for each block out of the experts' matrices, and
   the product of the blocks with them as a sum over the contracted coordinate. -/
module

public import proofs.«01_k».proof.Proof.MatBlock
public import proofs.«01_k».proof.Proof.MoeWords
public import Idealize.ShloMosaic.Lib.Routing.Ops

@[expose] public section

set_option maxRecDepth 16384

noncomputable section

namespace Cert.MoeHost

open Idealize.ShloMosaic Idealize.ShloMosaic.ValueIdx
open scoped BigOperators

/-- The matrices of a table `[nb, R, C]` taken at a column of numbers: where the column holds at `c` a number `b`
    below `nb`, matrix `c` of the result is the table's matrix `b`. -/
theorem take_member {α : Type} {nb R C n : Nat}
    (w : GatherDims.WF ⟨3, ![nb, R, C]⟩ ⟨2, ![n, 1]⟩ ⟨3, ![n, R, C]⟩ [1, 2] [0] [] [0] [] 1 ![1, R, C])
    (x : (⟨3, ![nb, R, C]⟩ : Shape).Idx → α) (idx : IVec ⟨2, ![n, 1]⟩ 32) (c : Fin n) (r : Fin R) (y : Fin C) (b : Fin nb)
    (hb : (idx (ix2 c (0 : Fin 1))).toInt = (b.val : Int)) :
    Host.gather (⟨[1, 2], [0], [], [], [0], 1, ![1, R, C], w⟩ : GatherDims _ _ _) x idx (ix3 c r y) = x (ix3 b r y) := by
  unfold Host.gather
  congr 1; funext a; refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ ([0] : List (Fin 3)) from List.mem_singleton.mpr rfl)).trans ?_
    have hsi : (⟨[1, 2], [0], [], [], [0], 1, ![1, R, C], w⟩ : GatherDims ⟨3, ![nb, R, C]⟩ ⟨2, ![n, 1]⟩ ⟨3, ![n, R, C]⟩).siIdx (ix3 c r y)
        ⟨List.idxOf (0 : Fin 3) [0], List.idxOf_lt_length_iff.2 (List.mem_singleton.mpr rfl)⟩ = ix2 c 0 := by
      funext b'; refine Fin.ext ?_
      match b' with
      | ⟨0, _⟩ => rfl
      | ⟨1, _⟩ => rfl
    refine (congrArg (fun z => min (z : Int).toNat (nb - 1)) ((congrArg (fun j => (idx j).toInt) hsi).trans hb)).trans ?_
    have := b.isLt
    show min (b.val : Int).toNat (nb - 1) = b.val
    omega
  | ⟨1, _⟩ =>
    refine congrArg₂ (fun a b : Nat => a + b) (dif_neg (show (1 : Fin 3) ∉ ([0] : List (Fin 3)) by decide))
      (dif_pos ((GatherDims.mem_sKept _ _).2 ⟨show (1 : Fin 3) ∉ ([0] : List (Fin 3)) by decide, List.not_mem_nil⟩)) |>.trans ?_
    exact Nat.zero_add _
  | ⟨2, _⟩ =>
    refine congrArg₂ (fun a b : Nat => a + b) (dif_neg (show (2 : Fin 3) ∉ ([0] : List (Fin 3)) by decide))
      (dif_pos ((GatherDims.mem_sKept _ _).2 ⟨show (2 : Fin 3) ∉ ([0] : List (Fin 3)) by decide, List.not_mem_nil⟩)) |>.trans ?_
    exact Nat.zero_add _

/-- The block of rows `i` lies in. -/
def blk (i : Fin 20480) : Fin 40 := ⟨i.val / 512, by have := i.isLt; omega⟩

/-- The row's place in its block. -/
def row (i : Fin 20480) : Fin 512 := ⟨i.val % 512, Nat.mod_lt _ (by omega)⟩

/-- The expert of block `b`. -/
def ex (be : (⟨1, ![40]⟩ : Shape).Idx → BitVec 32) (b : Fin 40) : Fin 8 := ⟨(be (ix1 b)).toNat % 8, Nat.mod_lt _ (by omega)⟩

/-- A row times its block's expert's matrix, at a column. -/
def mmE (A : (⟨2, ![20480, 4096]⟩ : Shape).Idx → EReal) (W : (⟨3, ![8, 4096, 4096]⟩ : Shape).Idx → EReal)
    (be : (⟨1, ![40]⟩ : Shape).Idx → BitVec 32) (i : Fin 20480) (j : Fin 4096) : EReal :=
  ∑ k : Fin 4096, A (ix2 i k) * W (ix3 (ex be (blk i)) k j)

/-- The reference's product of the blocks with their experts' matrices, at an index. -/
theorem host_mmE
    (w : DotDims.WF ⟨3, ![40, 512, 4096]⟩ ⟨3, ![40, 4096, 4096]⟩ ⟨3, ![40, 512, 4096]⟩ [2] [1] [1] [2] [0] [0])
    (g : GatherDims.WF ⟨3, ![8, 4096, 4096]⟩ ⟨2, ![40, 1]⟩ ⟨3, ![40, 4096, 4096]⟩ [1, 2] [0] [] [0] [] 1 ![1, 4096, 4096])
    (hs : (⟨2, ![20480, 4096]⟩ : Shape).ShapeCasts ⟨3, ![40, 512, 4096]⟩)
    (hc : (⟨1, ![40]⟩ : Shape).BroadcastsInDim ⟨2, ![40, 1]⟩ ![0])
    (h0 : (⟨0, ![]⟩ : Shape).BroadcastsInDim ⟨1, ![40]⟩ ![])
    (A : FVec Ideal ⟨2, ![20480, 4096]⟩ .f32) (W : FVec Ideal ⟨3, ![8, 4096, 4096]⟩ .f32)
    (be : (⟨1, ![40]⟩ : Shape).Idx → BitVec 32) (hbe : ∀ s, (be s).toNat < 8) (i : Fin 20480) (j : Fin 4096) :
    Host.dotGeneral (⟨[2], [1], [1], [2], [0], [0], w⟩ : DotDims _ _ _) none (shapeCast ⟨3, ![40, 512, 4096]⟩ A hs)
      (Host.gather (⟨[1, 2], [0], [], [], [0], 1, ![1, 4096, 4096], g⟩ : GatherDims _ _ _) W
        (broadcastInDim ⟨2, ![40, 1]⟩ ![0] hc (select (cmpi .slt be (broadcastInDim ⟨1, ![40]⟩ ![] h0 (constantI ⟨0, ![]⟩ 32 0#32)))
          (addi be (broadcastInDim ⟨1, ![40]⟩ ![] h0 (constantI ⟨0, ![]⟩ 32 8#32))) be)))
      (ix3 (blk i) (row i) j) = mmE A W be i j := by
  rw [StackMember.dotGeneral_stack_apply]
  have hi := i.isLt
  refine Finset.sum_congr rfl fun k _ => congrArg₂ (fun a b : EReal => a * b) ?_ ?_
  · refine shapeCast_apply A hs _ (ix2 i k) ?_
    rw [Shape.rowMajor_val_two, Shape.rowMajor_val_three]
    show i.val * 4096 + k.val = (i.val / 512 * 512 + i.val % 512) * 4096 + k.val
    have := Nat.div_add_mod i.val 512
    omega
  · refine take_member g W _ (blk i) k j (ex be (blk i)) ?_
    have hlt := hbe (ix1 (blk i))
    have e : (broadcastInDim ⟨2, ![40, 1]⟩ ![0] hc (select (cmpi .slt be (broadcastInDim ⟨1, ![40]⟩ ![] h0 (constantI ⟨0, ![]⟩ 32 0#32)))
          (addi be (broadcastInDim ⟨1, ![40]⟩ ![] h0 (constantI ⟨0, ![]⟩ 32 8#32))) be)) (ix2 (blk i) (0 : Fin 1)) = be (ix1 (blk i)) := by
      refine (broadcastInDim_apply _ hc _ _ (ix1 (blk i)) (fun a => ?_)).trans ?_
      · match a with
        | ⟨0, _⟩ => rfl
      · have hs : ¬IntOp.cmpi .slt (be (ix1 (blk i))) 0#32 = 1#1 := fun hh => by
          have h1 := IntOp.cmpi_slt.1 hh
          rw [Cert.MoeWords.toInt_small _ (by omega)] at h1
          have h2 : (0#32).toInt = 0 := rfl
          omega
        exact if_neg hs
    rw [e, Cert.MoeWords.toInt_small _ (by omega)]
    show ((be (ix1 (blk i))).toNat : Int) = (((be (ix1 (blk i))).toNat % 8 : Nat) : Int)
    rw [Nat.mod_eq_of_lt hlt]

end Cert.MoeHost

end
-- ==== Proof.MoeUpI.lean ====
/- The experts' gate and up products, idealized: what a point leaves in its output block, and the run of the whole program.
   A point whose block of rows is in use multiplies it by its expert's weights; the others store zeros. -/
module

public import proofs.«01_k».proof.Proof.Gen.Kernel10Ideal.Launch
public import proofs.«01_k».proof.Proof.Gen.Kernel10Ideal.Skeleton
public import proofs.«01_k».proof.Proof.MoeWords
public import Idealize.ShloMosaic.Lib.Pipeline.FrameBody
public import Idealize.ShloMosaic.Lib.Ring
public import Idealize.ShloMosaic.Lib.Tactic
public import Idealize.ShloMosaic.Lib.WordCmp
public import Idealize.ShloMosaic.Lib.Affine
public import Idealize.ShloMosaic.Lib.ValueIdxCore
public import Idealize.ShloMosaic.Lib.Claim

@[expose] public section

set_option maxRecDepth 16384

noncomputable section

namespace Cert.MoeUpI

open Cert.Kernel10Ideal Cert.Kernel10Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.Kernel10Ideal.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What the buffers hold when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The two tables' contents: each block's expert, and the number of blocks in use. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbB : Memref sig .tc .smem S40 .i32 := Memref.whole main_arg3
abbrev htbB : tbB.IsWhole := Memref.isWhole_whole _
abbrev tbM : Memref sig .tc .smem S1 .i32 := Memref.whole main_arg4
abbrev htbM : tbM.IsWhole := Memref.isWhole_whole _

abbrev TbBuf (c : Dev nD) {S : Shape} {e : EltTy} (M : Memref sig .tc .smem S e) : Type := Buf (Elt F) (M.view.loc (c : Thread nD τ))
/-- A table's buffer held at half a share: the body only reads it. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbB (tbl m 0) ∗ tbPt c tbM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The number of blocks in use, as the tables hold it. -/
def nu : BitVec 32 := (tbl m 1 : S1.Idx → BitVec 32) (Shape.Idx.first (numel1_S1.symm ▸ Nat.one_pos))

theorem one_idx (a b : S1.Idx) : a = b := funext fun k => match k with | ⟨0, _⟩ => Subsingleton.elim (α := Fin 1) _ _

theorem word_eq {c : Dev nD} : tbM.view.readAt (Elt F) (Rect.unit (s := S1) ![0] S1.size inb_S1_S1_0).toLoadRect (tbl m 1 : TbBuf (F := F) c tbM) (Shape.Idx.first (numel1_S1.symm ▸ Nat.one_pos)) = nu m :=
  congrArg (tbl m 1 : S1.Idx → BitVec 32) (one_idx _ _)

theorem atD_eq : (tbl m).atD 1 ![0] = nu m :=
  (dif_pos (show ∀ a : Fin 1, (![0] : Fin 1 → Nat) a + 1 ≤ S1.size a from by decide)).trans
    (congrArg (tbl m 1 : S1.Idx → BitVec 32) (one_idx _ _))

theorem cond1_iff (i : grid0.Coords) (w : BitVec 32) : k0_cond1 i w = 1#1 ↔ (BitVec.ofNat 32 (i 0).val).slt w = true := Cert.MoeWords.cond_slt _ _
theorem cond2_iff (i : grid0.Coords) (w : BitVec 32) : k0_cond2 i w = 1#1 ↔ ¬(BitVec.ofNat 32 (i 0).val).slt w = true := Cert.MoeWords.cond_sge _ _

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_of0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The body -/

abbrev r_a : Rect S512x4096 := Rect.unit (s := S512x4096) ![0, 0] S512x4096.size inb_S512x4096_S512x4096_0_0
abbrev r_w : Rect S1x4096x512 := Rect.unit (s := S1x4096x512) ![0, 0, 0] S1x4096x512.size inb_S1x4096x512_S1x4096x512_0_0_0
abbrev r_o : Rect S512x512 := Rect.unit (s := S512x512) ![0, 0] S512x512.size inb_S512x512_S512x512_0_0

/-- What a point in use leaves in the output block. -/
def outRun (x0 : Vec F S512x4096 .bf16) (x1 : Vec F S1x4096x512 .bf16) (x2 : Vec F S1x4096x512 .bf16) : Vec F S512x512 .bf16 :=
  View.canon [⟨r_o, k0_pay1 (View.ld x0 r_a) (View.ld x1 r_w) (View.ld x2 r_w)⟩]

/-- What a point not in use leaves there. -/
def outZero : Vec F S512x512 .bf16 := View.canon [⟨r_o, k0_pay2 (F := F)⟩]

/-- One store fills the block. -/
theorem cover_out (p0 : Vec F S512x512 .bf16) (y : S512x512.Idx) :
    ∃ pc ∈ ([⟨r_o, p0⟩] : List (View.Piece (Elt F) S512x512 .bf16)), y ∈ pc.1.set :=
  View.cover_of_tiled [⟨r_o, p0⟩] S512x512.size (by rfl) y

abbrev ms0 (hO : Ok m) (t : Fin (cfgM m hO).N) : Memref sig .tc .vmem S512x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x4096x512 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x4096x512 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S512x512 .bf16 := spec0_3.stage ((cfgM m hO).slots t 3)
abbrev hs3 (hO : Ok m) (t : Fin (cfgM m hO).N) : (ms3 m hO t).IsWhole := hstage0_3 (((cfgM m hO).slots t 3).cast nbuf0_3)

set_option maxHeartbeats 1000000 in
/-- The body at a point in use. -/
theorem kernel_run (c : Dev nD) (E : Set ℕ) (i : grid0.Coords) (arg4 : Memref sig .tc .vmem S512x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x512 .bf16) (harg7 : arg7.IsWhole)
    (x0 : Vec F S512x4096 .bf16) (x1 : Vec F S1x4096x512 .bf16) (x2 : Vec F S1x4096x512 .bf16) (xt0 : TbBuf (F := F) c tbB) (xt : TbBuf (F := F) c tbM)
    (hc1 : k0_cond1 i (tbM.view.readAt (Elt F) (Rect.unit (s := S1) ![0] S1.size inb_S1_S1_0).toLoadRect xt (Shape.Idx.first (numel1_S1.symm ▸ Nat.one_pos))) = 1#1)
    (hc2 : ¬k0_cond2 i (tbM.view.readAt (Elt F) (Rect.unit (s := S1) ![0] S1.size inb_S1_S1_0).toLoadRect xt (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tbB xt0 ∗ tbPt c tbM xt
        ∗ (iprop(owns (c : Thread nD τ) arg4 fullShare x0 ∗ owns (c : Thread nD τ) arg5 fullShare x1 ∗ owns (c : Thread nD τ) arg6 fullShare x2 ∗ owns (c : Thread nD τ) arg7 fullShare (outRun x0 x1 x2) ∗ tbPt c tbB xt0 ∗ tbPt c tbM xt) -∗ K ⟨⟩))
      ⊢ wp frame (wpE (defs₀ (F := F)) Variants.none c none) E (cc0_moe_up i tbB htbB tbM htbM arg4 harg4 arg5 harg5 arg6 harg6 arg7 harg7) K := by
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, HT0, HT1, Hk⟩
  subst hf0 hf1 hf2
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  isplitl [HT0]; · iexact HT0
  iexact HT1

set_option maxHeartbeats 1000000 in
/-- The body at a point not in use. -/
theorem kernel_zero (c : Dev nD) (E : Set ℕ) (i : grid0.Coords) (arg4 : Memref sig .tc .vmem S512x4096 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S512x512 .bf16) (harg7 : arg7.IsWhole)
    (x0 : Vec F S512x4096 .bf16) (x1 : Vec F S1x4096x512 .bf16) (x2 : Vec F S1x4096x512 .bf16) (xt0 : TbBuf (F := F) c tbB) (xt : TbBuf (F := F) c tbM)
    (hc1 : ¬k0_cond1 i (tbM.view.readAt (Elt F) (Rect.unit (s := S1) ![0] S1.size inb_S1_S1_0).toLoadRect xt (Shape.Idx.first (numel1_S1.symm ▸ Nat.one_pos))) = 1#1)
    (hc2 : k0_cond2 i (tbM.view.readAt (Elt F) (Rect.unit (s := S1) ![0] S1.size inb_S1_S1_0).toLoadRect xt (Shape.Idx.first (numel1_S1.symm ▸ Nat.one_pos))) = 1#1) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tbB xt0 ∗ tbPt c tbM xt
        ∗ (iprop(owns (c : Thread nD τ) arg4 fullShare x0 ∗ owns (c : Thread nD τ) arg5 fullShare x1 ∗ owns (c : Thread nD τ) arg6 fullShare x2 ∗ owns (c : Thread nD τ) arg7 fullShare (outZero) ∗ tbPt c tbB xt0 ∗ tbPt c tbM xt) -∗ K ⟨⟩))
      ⊢ wp frame (wpE (defs₀ (F := F)) Variants.none c none) E (cc0_moe_up i tbB htbB tbM htbM arg4 harg4 arg5 harg5 arg6 harg6 arg7 harg7) K := by
  simp only [cc0_moe_up_eq_skeleton]; unfold cc0_moe_up_skel
  unfold owns
  iintro ⟨⟨%f0, %hf0, H0⟩, ⟨%f1, %hf1, H1⟩, ⟨%f2, %hf2, H2⟩, ⟨%d3, %f3, -, H3⟩, HT0, HT1, Hk⟩
  subst hf0 hf1 hf2
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_out _)
  isplitl [HT0]; · iexact HT0
  iexact HT1

/-- What the output block holds after point `t`. -/
def outsAt (hO : Ok m) (c : Dev nD) (t : Fin (cfgM m hO).N) : Vec F S512x512 .bf16 :=
  if (BitVec.ofNat 32 (grid0.coords t 0).val).slt (nu m) = true then outRun (iblk m hO c 0 t) (iblk m hO c 1 t) (iblk m hO c 2 t) else outZero

/-! ## The pipeline's data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outsAt m hO c t := by dsimp only [dats]; try rfl

theorem before0 (hO : Ok m) (c : Dev nD) (t : Fin (cfgM m hO).N) (d) : (dats m hO 0 c).before 0 t d = iblk m hO c 0 t :=
  before_of0 m hO (dats m hO 0 c) (A_eq m hO c 0) (after0 m hO c) t d
theorem before1 (hO : Ok m) (c : Dev nD) (t : Fin (cfgM m hO).N) (d) : (dats m hO 0 c).before 1 t d = iblk m hO c 1 t :=
  before_of1 m hO (dats m hO 0 c) (A_eq m hO c 1) (after1 m hO c) t d
theorem before2 (hO : Ok m) (c : Dev nD) (t : Fin (cfgM m hO).N) (d) : (dats m hO 0 c).before 2 t d = iblk m hO c 2 t :=
  before_of2 m hO (dats m hO 0 c) (A_eq m hO c 2) (after2 m hO c) t d

/-- The body at point `t`, on the buffers the pipeline hands it. -/
abbrev bodyAt (a : (pcfg0 (F := F)).Adm) (t : Fin (cfg0 a).N) : Prog (TpuEff nD τ sig (Elt F) Λ₀ .tc) PUnit :=
  cc0_moe_up (grid0.coords t) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, PhiT_eq]
  by_cases h : (BitVec.ofNat 32 (grid0.coords t 0).val).slt (nu m) = true
  · have h1 := (congrArg (fun w => k0_cond1 (grid0.coords t) w = 1#1) (word_eq (c := c) m)).mpr ((cond1_iff _ _).2 h)
    have h2 := fun hh => (cond2_iff _ _).1 ((congrArg (fun w => k0_cond2 (grid0.coords t) w = 1#1) (word_eq (c := c) m)).mp hh) h
    rw [show outsAt m hO c t = outRun (iblk m hO c 0 t) (iblk m hO c 1 t) (iblk m hO c 2 t) from if_pos h]
    iintro ⟨⟨HΦ, ⟨HT0, HT1⟩⟩, Ho, ⟨%d0, H0⟩, ⟨%d1, H1⟩, ⟨%d2, H2⟩, ⟨%d3, H3⟩⟩
    iapply (kernel_run c Set.univ (grid0.coords t) _ _ _ _ _ _ _ _ (iblk m hO c 0 t) (iblk m hO c 1 t) (iblk m hO c 2 t) (tbl m 0) (tbl m 1) h1 h2 _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    iexact H3
  · have h1 := fun hh => h ((cond1_iff _ _).1 ((congrArg (fun w => k0_cond1 (grid0.coords t) w = 1#1) (word_eq (c := c) m)).mp hh))
    have h2 := (congrArg (fun w => k0_cond2 (grid0.coords t) w = 1#1) (word_eq (c := c) m)).mpr ((cond2_iff _ _).2 h)
    rw [show outsAt m hO c t = outZero from if_neg h]
    iintro ⟨⟨HΦ, ⟨HT0, HT1⟩⟩, Ho, ⟨%d0, H0⟩, ⟨%d1, H1⟩, ⟨%d2, H2⟩, ⟨%d3, H3⟩⟩
    iapply (kernel_zero c Set.univ (grid0.coords t) _ _ _ _ _ _ _ _ (iblk m hO c 0 t) (iblk m hO c 1 t) (iblk m hO c 2 t) (tbl m 0) (tbl m 1) h1 h2 _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    iexact H3

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem stored (i : grid0.Coords) (w : BitVec 32) : (!(k0_cond1 i w == 1#1) && !(k0_cond2 i w == 1#1)) = false := by
  by_cases h : (BitVec.ofNat 32 (i 0).val).slt w = true
  · rw [(cond1_iff _ _).2 h]; rfl
  · rw [(cond2_iff _ _).2 h, Bool.and_comm]; rfl

/-- The output block is stored at every point. -/
theorem not_idle (hO : Ok m) (t : Fin (cfgM m hO).N) : (cfgM m hO).idle (3 : Fin 4) ((cfgM m hO).grid.coords t) = false := stored _ _

set_option maxHeartbeats 1000000 in
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [not_idle m hO t]
  exact .rfl

/-! ## The run -/

set_option backward.isDefEq.respectTransparency.types false in
set_option maxHeartbeats 1000000 in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- Every run ends with each window's array at what the blocks' stores make it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (A_eq m hO) (run_main m ρ hO)) ((θ_run defs _ _).mono (fun _ h => h.2) (run_main_quiescent m ρ hO))

/-! ## Where the tables send each window -/

/-- The expert of block `b`, as the tables hold it. -/
def be (b : Fin 40) : BitVec 32 := (tbl m 0 : S40.Idx → BitVec 32) (ValueIdx.ix1 b)

theorem at_eq (h : _) (h1 : _) : (tbl m).at 1 (Rect.unit (s := S1) ![0] S1.size h) h1 = nu m :=
  congrArg (tbl m 1 : S1.Idx → BitVec 32) (one_idx _ _)

theorem word_idx (w : BitVec 32) (x : Fin 40) (e : w.toNat = x.val) (h : _) (h1 : _) :
    (Rect.unit (s := S40) ![w.toNat] S1.size h).emb (Shape.Idx.first h1) = ValueIdx.ix1 x := by
  funext a
  obtain rfl : a = 0 := Subsingleton.elim (α := Fin 1) _ _
  apply Fin.ext
  show w.toNat + 1 * 0 = x.val
  omega

theorem i0_lt (i : grid0.Coords) : (i 0).val < 40 := (i 0).isLt
theorem i1_lt (i : grid0.Coords) : (i 1).val < 8 := (i 1).isLt

theorem t0_eq (h1 : 1 ≤ (nu m).toNat) (h2 : (nu m).toNat ≤ 40) (i : grid0.Coords) :
    cc0_transform_0 inb_S1_S1_0 numel1_S1 (tbl m) i = ![min (i 0).val ((nu m).toNat - 1), 0] := by
  have e := Cert.MoeWords.min_toNat (i 0).val (i0_lt i) (nu m) h1 h2
  rw [← at_eq m inb_S1_S1_0 numel1_S1] at e ⊢
  exact Cert.MoeWords.vec2 e

theorem t1_eq (i : grid0.Coords) :
    cc0_transform_1 k0_off1_inb numel1_S1 inb_S1_S1_0 (tbl m) i
      = ![(be m (i 0)).toNat, 0, if (BitVec.ofNat 32 (i 0).val).slt (nu m) = true then (i 1).val else 7] := by
  have e := Cert.MoeWords.sel_toNat (BitVec.ofNat 32 (i 0).val) (nu m) (i 1).val (i1_lt i)
  rw [← at_eq m inb_S1_S1_0 numel1_S1] at e ⊢
  refine Cert.MoeWords.vec3 (congrArg BitVec.toNat (congrArg (tbl m 0 : S40.Idx → BitVec 32) (word_idx _ (i 0) ?_ _ _))) e
  show (BitVec.ofNat 32 (i 0).val).toNat = (i 0).val
  have := i0_lt i
  rw [BitVec.toNat_ofNat]; omega

theorem t2_eq (i : grid0.Coords) :
    cc0_transform_2 k0_off1_inb numel1_S1 inb_S1_S1_0 (tbl m) i
      = ![(be m (i 0)).toNat, 0, if (BitVec.ofNat 32 (i 0).val).slt (nu m) = true then (i 1).val else 7] := by
  have e := Cert.MoeWords.sel_toNat (BitVec.ofNat 32 (i 0).val) (nu m) (i 1).val (i1_lt i)
  rw [← at_eq m inb_S1_S1_0 numel1_S1] at e ⊢
  refine Cert.MoeWords.vec3 (congrArg BitVec.toNat (congrArg (tbl m 0 : S40.Idx → BitVec 32) (word_idx _ (i 0) ?_ _ _))) e
  show (BitVec.ofNat 32 (i 0).val).toNat = (i 0).val
  have := i0_lt i
  rw [BitVec.toNat_ofNat]; omega

/-- Every block the tables choose lies inside its array. -/
theorem ok (hb : ∀ b, (be m b).toNat < 8) (h1 : 1 ≤ (nu m).toNat) (h2 : (nu m).toNat ≤ 40) : Ok m := by
  have w0 : ∀ (i : grid0.Coords) a, (cc0_transform_0 inb_S1_S1_0 numel1_S1 (tbl m) i a + 1) * S512x4096.size a ≤ S20480x4096.size a := by
    intro i a
    rw [t0_eq m h1 h2]
    match a with
    | ⟨0, _⟩ => show (min (i 0).val ((nu m).toNat - 1) + 1) * 512 ≤ 20480; omega
    | ⟨1, _⟩ => show (0 + 1) * 4096 ≤ 4096; omega
  have w1 : ∀ (i : grid0.Coords) a, (cc0_transform_1 k0_off1_inb numel1_S1 inb_S1_S1_0 (tbl m) i a + 1) * S1x4096x512.size a ≤ S8x4096x4096.size a := by
    intro i a
    rw [t1_eq m]
    have h8 := hb (i 0)
    have := i1_lt i
    match a with
    | ⟨0, _⟩ => show ((be m (i 0)).toNat + 1) * 1 ≤ 8; omega
    | ⟨1, _⟩ => show (0 + 1) * 4096 ≤ 4096; omega
    | ⟨2, _⟩ =>
      show ((if (BitVec.ofNat 32 (i 0).val).slt (nu m) = true then (i 1).val else 7) + 1) * 512 ≤ 4096
      split <;> omega
  exact ⟨fun i => ⟨w0 i, .inr (Affine.block_words_dvd (of_decide_eq_true rfl) (by decide))⟩,
    fun i => ⟨w1 i, .inr (Affine.block_words_dvd (of_decide_eq_true rfl) (by decide))⟩, fun i => ⟨w1 i, .inr (Affine.block_words_dvd (of_decide_eq_true rfl) (by decide))⟩⟩

theorem be_eq (b : Fin 40) : be m b = m (((0 : Dev nD) : Thread nD τ).loc main_arg3) (ValueIdx.ix1 b) := congrFun (V_main_arg3 m 0) _
theorem nu_eq : nu m = m (((0 : Dev nD) : Thread nD τ).loc main_arg4) (Shape.Idx.first (numel1_S1.symm ▸ Nat.one_pos)) := congrFun (V_main_arg4 m 0) _

end Cert.MoeUpI

end
-- ==== Proof.MoeUp.lean ====
/- The experts' gate and up products: the call's result and the reference's are the same function of the tokens,
   of the weights and of the blocks' experts, at the ideal floats, and the frames of both. -/
module

public import proofs.«01_k».proof.Defs
public import proofs.«01_k».proof.Proof.MoeHost
public import proofs.«01_k».proof.Proof.FfnUp
public import proofs.«01_k».proof.Proof.MoeUpI
public import proofs.«01_k».proof.Proof.Gen.Kernel10
public import proofs.«01_k».proof.Proof.Gen.Reference10Ideal.Run
public import Idealize.ShloMosaic.Lib.ValueLayout

@[expose] public section

set_option maxRecDepth 16384

noncomputable section

namespace Cert.MoeUp

open Cert.Kernel10Ideal Cert.Kernel10Ideal.Gen Idealize.ShloMosaic Idealize.ShloMosaic.TcCoe Idealize.SL.Sem
open Idealize.ShloMosaic.ValueIdx Cert.MatBlock Cert.MoeHost
open Idealize.ShloMosaic.Pipeline (Dat Window)
open Cert.MoeUpI (V tbl Ok cfgM nu be iblk outRun outZero outsAt dats r_a r_w r_o)

variable (m : (ℓ : Loc nD τ sig) → Buf (Elt Ideal) ℓ) (ρ : Dev nD → PrngReg)

/-- The result array as a function of the arrays the launch reads: at a row of a block in use, the row through its
    block's expert; zero at the others. -/
def G (A : S20480x4096.Idx → EReal) (B C : S8x4096x4096.Idx → EReal) (be : S40.Idx → BitVec 32) (n : BitVec 32) :
    S20480x4096.Idx → EReal := fun i =>
  if (BitVec.ofNat 32 (blk (i 0)).val).slt n = true then Cert.FfnUp.silu (mmE A B be (i 0) (i 1)) * mmE A C be (i 0) (i 1) else 0

theorem hz3 : (![0, 0, 0] : Fin 3 → Nat) = fun _ => 0 := funext fun a => by fin_cases a <;> rfl

/-- A block of rows times a block of the expert's columns, at an index. -/
def mmB (x0 : Vec Ideal S512x4096 .bf16) (x1 : Vec Ideal S1x4096x512 .bf16) (y : S512x512.Idx) : EReal :=
  ∑ k : Fin 4096, (x0 (ix2 (y 0) k) : EReal) * (x1 (ix3 (0 : Fin 1) k (y 1)) : EReal)

theorem mm_block (x0 : Vec Ideal S512x4096 .bf16) (x1 : Vec Ideal S1x4096x512 .bf16) (y : S512x512.Idx) :
    matmul (F := Ideal) (φ₁ := .bf16) (φ₂ := .bf16) dot_S512x4096_S4096x512_S512x512_1_0_0_1_n_n none x0 (shapeCast S4096x512 (x1 : FVec Ideal S1x4096x512 .bf16) shapeCasts_S1x4096x512_S4096x512)
      (constant S512x512 .f32 0x00000000#32) y = mmB x0 x1 y := by
  refine (kernel_mm (φ₁ := .bf16) (φ₂ := .bf16) (M := 512) (K := 4096) (N := 512) none x0 _ y).trans ?_
  exact Finset.sum_congr rfl fun k _ => congrArg (fun b : EReal => (x0 (ix2 (y 0) k) : EReal) * b)
    (shapeCast_1ab_ab_apply x1 shapeCasts_S1x4096x512_S4096x512 k (y 1))

theorem outRun_apply (x0 : Vec Ideal S512x4096 .bf16) (x1 x2 : Vec Ideal S1x4096x512 .bf16) (y : S512x512.Idx) :
    outRun (F := Ideal) x0 x1 x2 y = Cert.FfnUp.silu (mmB x0 x1 y) * mmB x0 x2 y := by
  unfold outRun
  rw [View.canon_unit_zero hz, View.ld_unit_zero hz, View.ld_unit_zero hz3, View.ld_unit_zero hz3]
  unfold k0_pay1
  exact congrArg₂ (fun a b : EReal => Cert.FfnUp.silu a * b) (mm_block x0 x1 y) (mm_block x0 x2 y)

theorem outZero_apply (y : S512x512.Idx) : outZero (F := Ideal) y = (0 : EReal) := by
  unfold outZero
  rw [View.canon_unit_zero hz]
  exact Ideal.ofBits_zero_bf16

variable (hb : ∀ b, (be m b).toNat < 8) (h1 : 1 ≤ (nu m).toNat) (h2 : (nu m).toNat ≤ 40) (hO : Ok m)

theorem emb3_val (t : Fin (cfgM m hO).N) (y : S512x512.Idx) (a : Fin 2) :
    (((((cfgM m hO).win 3).blk t).view.emb y) a : Nat) = ![(grid0.coords t 0).val, (grid0.coords t 1).val] a * S512x512.size a + y a := by
  refine (Window.rect_emb_val ((cfgM m hO).win 3) t y a rfl).trans ?_
  have e : cc0_transform_3 (grid0.coords t) = ![(grid0.coords t 0).val, (grid0.coords t 1).val] := by
    have ha := Cert.MoeUpI.i0_lt (grid0.coords t)
    have hc := Cert.MoeUpI.i1_lt (grid0.coords t)
    show ![(BitVec.ofNat 32 (grid0.coords t 0).val).toNat, (BitVec.ofNat 32 (grid0.coords t 1).val).toNat] = _
    rw [BitVec.toNat_ofNat, BitVec.toNat_ofNat, Nat.mod_eq_of_lt (by omega), Nat.mod_eq_of_lt (by omega)]
  show cc0_transform_3 (grid0.coords t) a * _ + _ = _
  rw [e]
  rfl

/-- The place in the result of an entry of the block point `t` writes. -/
def at3 (t : Fin (cfgM m hO).N) (y : S512x512.Idx) : S20480x4096.Idx := (((cfgM m hO).win 3).blk t).view.emb y

theorem at3_0 (t : Fin (cfgM m hO).N) (y : S512x512.Idx) : (at3 m hO t y 0).val = (grid0.coords t 0).val * 512 + (y 0).val := emb3_val m hO t y 0
theorem at3_1 (t : Fin (cfgM m hO).N) (y : S512x512.Idx) : (at3 m hO t y 1).val = (grid0.coords t 1).val * 512 + (y 1).val := emb3_val m hO t y 1

theorem blk_at (t : Fin (cfgM m hO).N) (y : S512x512.Idx) : blk (at3 m hO t y 0) = grid0.coords t 0 := by
  apply Fin.ext
  show (at3 m hO t y 0).val / 512 = _
  have h : (y 0).val < 512 := (y 0).isLt
  rw [at3_0]; omega

include h1 h2 in
theorem iblk0_apply (c : Dev nD) (t : Fin (cfgM m hO).N) (hc : (BitVec.ofNat 32 (grid0.coords t 0).val).slt (nu m) = true) (y : S512x512.Idx) (k : Fin 4096) :
    iblk m hO c 0 t (ix2 (y 0) k) = V m c main_arg0 (ix2 (at3 m hO t y 0) k) := by
  show V m c main_arg0 ((((cfgM m hO).win 0).blk t).view.emb (ix2 (y 0) k)) = _
  congr 1
  funext a; apply Fin.ext
  refine (Window.rect_emb_val ((cfgM m hO).win 0) t _ a rfl).trans ?_
  have e := Cert.MoeUpI.t0_eq m h1 h2 (grid0.coords t)
  have hlt := (Cert.MoeWords.slt_iff _ (Cert.MoeUpI.i0_lt (grid0.coords t)) _ h2).1 hc
  rw [show min (grid0.coords t 0).val ((nu m).toNat - 1) = (grid0.coords t 0).val by omega] at e
  show cc0_transform_0 inb_S1_S1_0 numel1_S1 (tbl m) (grid0.coords t) a * _ + _ = _
  rw [e]
  match a with
  | ⟨0, _⟩ => exact (at3_0 m hO t y).symm
  | ⟨1, _⟩ => show 0 * 4096 + k.val = k.val; omega

include hb in
theorem iblk1_apply (c : Dev nD) (t : Fin (cfgM m hO).N) (hc : (BitVec.ofNat 32 (grid0.coords t 0).val).slt (nu m) = true) (y : S512x512.Idx) (k : Fin 4096) :
    iblk m hO c 1 t (ix3 (0 : Fin 1) k (y 1)) = V m c main_v0 (ix3 (ex (tbl m 0) (blk (at3 m hO t y 0))) k (at3 m hO t y 1)) := by
  show V m c main_v0 ((((cfgM m hO).win 1).blk t).view.emb (ix3 (0 : Fin 1) k (y 1))) = _
  congr 1
  funext a; apply Fin.ext
  refine (Window.rect_emb_val ((cfgM m hO).win 1) t _ a rfl).trans ?_
  have e := Cert.MoeUpI.t1_eq m (grid0.coords t)
  rw [if_pos hc] at e
  show cc0_transform_1 k0_off1_inb numel1_S1 inb_S1_S1_0 (tbl m) (grid0.coords t) a * _ + _ = _
  rw [e, blk_at]
  have h8 := hb (grid0.coords t 0)
  match a with
  | ⟨0, _⟩ =>
    show (be m (grid0.coords t 0)).toNat * 1 + 0 = (be m (grid0.coords t 0)).toNat % 8
    omega
  | ⟨1, _⟩ => show 0 * 4096 + k.val = k.val; omega
  | ⟨2, _⟩ => exact (at3_1 m hO t y).symm

include hb in
theorem iblk2_apply (c : Dev nD) (t : Fin (cfgM m hO).N) (hc : (BitVec.ofNat 32 (grid0.coords t 0).val).slt (nu m) = true) (y : S512x512.Idx) (k : Fin 4096) :
    iblk m hO c 2 t (ix3 (0 : Fin 1) k (y 1)) = V m c main_v1 (ix3 (ex (tbl m 0) (blk (at3 m hO t y 0))) k (at3 m hO t y 1)) := by
  show V m c main_v1 ((((cfgM m hO).win 2).blk t).view.emb (ix3 (0 : Fin 1) k (y 1))) = _
  congr 1
  funext a; apply Fin.ext
  refine (Window.rect_emb_val ((cfgM m hO).win 2) t _ a rfl).trans ?_
  have e := Cert.MoeUpI.t2_eq m (grid0.coords t)
  rw [if_pos hc] at e
  show cc0_transform_2 k0_off1_inb numel1_S1 inb_S1_S1_0 (tbl m) (grid0.coords t) a * _ + _ = _
  rw [e, blk_at]
  have h8 := hb (grid0.coords t 0)
  match a with
  | ⟨0, _⟩ =>
    show (be m (grid0.coords t 0)).toNat * 1 + 0 = (be m (grid0.coords t 0)).toNat % 8
    omega
  | ⟨1, _⟩ => show 0 * 4096 + k.val = k.val; omega
  | ⟨2, _⟩ => exact (at3_1 m hO t y).symm

include hb h1 h2 in
/-- What point `t` leaves in its block is the result's function there. -/
theorem outs_apply (c : Dev nD) (t : Fin (cfgM m hO).N) (y : S512x512.Idx) :
    (outsAt m hO c t y : EReal) = G (V m c main_arg0) (V m c main_v0) (V m c main_v1) (tbl m 0) (nu m) (at3 m hO t y) := by
  unfold outsAt G
  by_cases hc : (BitVec.ofNat 32 (grid0.coords t 0).val).slt (nu m) = true
  · have hc' : (BitVec.ofNat 32 (blk (at3 m hO t y 0)).val).slt (nu m) = true := by rw [blk_at]; exact hc
    refine (congrFun (if_pos hc) y).trans (Eq.trans ?_ (if_pos hc').symm)
    refine (outRun_apply _ _ _ y).trans ?_
    exact congrArg₂ (fun a b : EReal => Cert.FfnUp.silu a * b)
      (Finset.sum_congr rfl fun k _ => congrArg₂ (fun a b : EReal => a * b) (iblk0_apply m h1 h2 hO c t hc y k) (iblk1_apply m hb hO c t hc y k))
      (Finset.sum_congr rfl fun k _ => congrArg₂ (fun a b : EReal => a * b) (iblk0_apply m h1 h2 hO c t hc y k) (iblk2_apply m hb hO c t hc y k))
  · have hc' : ¬(BitVec.ofNat 32 (blk (at3 m hO t y 0)).val).slt (nu m) = true := by rw [blk_at]; exact hc
    exact (congrFun (if_neg hc) y).trans ((outZero_apply y).trans (if_neg hc').symm)

include hb h1 h2 in
theorem flushed_eq (c : Dev nD) (t : Fin (cfgM m hO).N) :
    (dats m hO 0 c).flushed 3 t = (((cfgM m hO).win 3).blk t).view.read (Elt Ideal) (G (V m c main_arg0) (V m c main_v0) (V m c main_v1) (tbl m 0) (nu m)) := by
  show ((cfgM m hO).win 3).cut (grid0.coords t) ((dats m hO 0 c).after 3 t) = _
  rw [Cert.MoeUpI.after3]
  exact funext fun y => outs_apply m hb h1 h2 hO c t y

theorem flush3 (t : Fin (cfgM m hO).N) : ((cfgM m hO).win 3).flush t = true :=
  (Window.flushOf_reads (G := grid0) cc0_transform_3 (fun _ => true) (fun _ _ h => congrArg _ (funext fun a => h a rfl)) 1 (by decide) (by decide)
    (Window.sep_of_coord cc0_transform_3 1 1 (fun _ => rfl) (by decide)) (P := 1) (m := 0) (by decide) rfl t).mpr (Nat.mod_one _)

/-- Every index of the result is in some point's block. -/
theorem cover (i : S20480x4096.Idx) :
    ∃ t : Fin (cfgM m hO).N, ((cfgM m hO).win 3).flush t = true ∧ i ∈ (((cfgM m hO).win 3).blk t).view.set := by
  have h0 : (i 0 : Nat) < 20480 := (i 0).isLt
  have h1 : (i 1 : Nat) < 4096 := (i 1).isLt
  obtain ⟨t, ht⟩ := Pipeline.Grid.coords_surjective grid0 (fun a => match a with
    | ⟨0, _⟩ => (⟨(i 0).val / 512, by show _ < 40; omega⟩ : Fin 40)
    | ⟨1, _⟩ => (⟨(i 1).val / 512, by show _ < 8; omega⟩ : Fin 8))
  refine ⟨t, flush3 m hO t, ?_⟩
  have e : ((cfgM m hO).win 3).index t = ![(i 0).val / 512, (i 1).val / 512] := by
    show cc0_transform_3 (grid0.coords t) = _
    rw [ht]
    show ![(BitVec.ofNat 32 ((i 0).val / 512)).toNat, (BitVec.ofNat 32 ((i 1).val / 512)).toNat] = _
    rw [BitVec.toNat_ofNat, BitVec.toNat_ofNat, Nat.mod_eq_of_lt (by omega), Nat.mod_eq_of_lt (by omega)]
  have hm : i ∈ (((cfgM m hO).win 3).rect t : Rect S20480x4096).set := by
    refine (Rect.mem_set_unit (s := S20480x4096)).2 (fun a => ?_)
    match a with
    | ⟨0, _⟩ =>
      show ((cfgM m hO).win 3).index t (0 : Fin 2) * 512 ≤ (i 0 : Nat) ∧ (i 0 : Nat) < ((cfgM m hO).win 3).index t (0 : Fin 2) * 512 + 512
      rw [e]; show (i 0).val / 512 * 512 ≤ _ ∧ _ < (i 0).val / 512 * 512 + 512; omega
    | ⟨1, _⟩ =>
      show ((cfgM m hO).win 3).index t (1 : Fin 2) * 512 ≤ (i 1 : Nat) ∧ (i 1 : Nat) < ((cfgM m hO).win 3).index t (1 : Fin 2) * 512 + 512
      rw [e]; show (i 1).val / 512 * 512 ≤ _ ∧ _ < (i 1).val / 512 * 512 + 512; omega
  exact (Finset.ext_iff.1 (View.set_slice_whole main_v2 (((cfgM m hO).win 3).rect t : Rect S20480x4096)) i).2 hm

theorem V_v0 (c : Dev nD) : V m c main_v0 = m ((c : Thread nD τ).loc main_arg1) := by
  have h : V m c main_v0 = truncf (F := Ideal) (s := S8x4096x4096) .bf16 (m ((c : Thread nD τ).loc main_arg1)) bitsLt_bf16_f32 := by
    show StableHlo.after hostOps0 _ _ = _
    after_results
  rw [h]; rfl

theorem V_v1 (c : Dev nD) : V m c main_v1 = m ((c : Thread nD τ).loc main_arg2) := by
  have h : V m c main_v1 = truncf (F := Ideal) (s := S8x4096x4096) .bf16 (m ((c : Thread nD τ).loc main_arg2)) bitsLt_bf16_f32 := by
    show StableHlo.after hostOps0 _ _ = _
    after_results
  rw [h]; rfl

include hb h1 h2 in
theorem final (c : Dev nD) : (dats m hO 0 c).arrAt 3 (cfgM m hO).N
    = G (m ((c.tc : Thread nD τ).loc main_arg0)) (m ((c.tc : Thread nD τ).loc main_arg1)) (m ((c.tc : Thread nD τ).loc main_arg2)) (m ((c.tc : Thread nD τ).loc main_arg3)) (((m ((c.tc : Thread nD τ).loc main_arg4)) : S1.Idx → BitVec 32) (Shape.Idx.first (numel1_S1.symm ▸ Nat.one_pos))) := by
  obtain rfl : c = 0 := Subsingleton.elim _ _
  refine ((dats m hO 0 0).arrAt_eq_of_cover 3 _ (fun t _ => flushed_eq m hb h1 h2 hO 0 t) (cover m hO)).trans ?_
  rw [Cert.MoeUpI.V_main_arg0, V_v0, V_v1, Cert.MoeUpI.nu_eq m, show (tbl m 0 : S40.Idx → BitVec 32) = m (((0 : Dev nD).tc : Thread nD τ).loc main_arg3) from Cert.MoeUpI.V_main_arg3 m 0]

/-! ## The claims -/

/-- What the precondition says of the tables, at any floats. -/
theorem ok_of {F : FTy → Type} [FloatOps F] (m : (ℓ : Loc nD τ sig) → Buf (Elt F) ℓ)
    (hp : Cert.Pre_blocks10.fn (F := F) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) (m (((0 : Dev nD).tc : Thread nD τ).loc main_arg4)) = fun _ => 1#1) :
    (∀ b, (Cert.MoeUpI.be m b).toNat < 8) ∧ 1 ≤ (Cert.MoeUpI.nu m).toNat ∧ (Cert.MoeUpI.nu m).toNat ≤ 40 := by
  obtain ⟨ha, hn⟩ := Cert.MoeWords.pre10 (F := F) _ _ _ _ _ hp
  refine ⟨fun b => ?_, ?_⟩
  · rw [Cert.MoeUpI.be_eq]; exact ha _
  · rw [Cert.MoeUpI.nu_eq]; exact hn _

theorem frame_KI : quiescent_Kernel10Ideal := fun m ρ hp =>
  have h := ok_of (F := Ideal) m (hp 0)
  Cert.MoeUpI.frame m ρ (Cert.MoeUpI.ok m h.1 h.2.1 h.2.2)

theorem defs₀_eq {F : FTy → Type} [FloatOps F] : Cert.Kernel10.defs₀ (F := F) = defs₀ (F := F) := by
  unfold Cert.Kernel10.defs₀ defs₀
  congr 1
  funext l p
  match l, p with
  | ⟨0, _⟩, (t, s) => rfl

theorem defs_eq {F : FTy → Type} [FloatOps F] : Cert.Kernel10.defs (F := F) = defs (F := F) := by
  unfold Cert.Kernel10.defs
  rw [defs₀_eq]
  rfl

/-- The two programs have the one text, so the frame of the bits is the same run. -/
theorem frame_K : quiescent_Kernel10 := fun m ρ hp => by
  have h := ok_of (F := Bits) m (hp 0)
  rw [defs_eq]
  exact Cert.MoeUpI.frame (F := Bits) m ρ (Cert.MoeUpI.ok (F := Bits) m h.1 h.2.1 h.2.2)

theorem frame_RI : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference's term at an index. -/
theorem ref_apply (A : FVec Ideal S20480x4096 .bf16) (B C : FVec Ideal S8x4096x4096 .f32) (be : S40.Idx → BitVec 32) (hbe : ∀ s, (be s).toNat < 8)
    (n : S1.Idx → BitVec 32) (z : S1.Idx) :
    shapeCast Cert.Reference10Ideal.S20480x4096 (select (broadcastInDim Cert.Reference10Ideal.S40x512x4096 ![0, 1, 2] Cert.Reference10Ideal.Gen.bcast_S40x1x1_S40x512x4096_0_1_2 (cmpi .slt (broadcastInDim Cert.Reference10Ideal.S40x1x1 ![0] Cert.Reference10Ideal.Gen.bcast_S40_S40x1x1_0 (iotaInDim Cert.Reference10Ideal.S40 32 0)) (broadcastInDim Cert.Reference10Ideal.S40x1x1 ![0, 1, 2] Cert.Reference10Ideal.Gen.bcast_S1x1x1_S40x1x1_0_1_2 (broadcastInDim Cert.Reference10Ideal.S1x1x1 ![2] Cert.Reference10Ideal.Gen.bcast_S1_S1x1x1_2 n)))) (mulf (mulf (Host.dotGeneral Cert.Reference10Ideal.dot_S40x512x4096_S40x4096x4096_S40x512x4096_2_1_1_2_0_0 none (shapeCast Cert.Reference10Ideal.S40x512x4096 (extf (F := Ideal) .f32 A Cert.Reference10Ideal.Gen.bitsLt_bf16_f32) Cert.Reference10Ideal.Gen.shapeCasts_S20480x4096_S40x512x4096) (Host.gather Cert.Reference10Ideal.gather_S8x4096x4096_S40x1_S40x4096x4096_12_0_n_n_0_1_140964096 B (broadcastInDim Cert.Reference10Ideal.S40x1 ![0] Cert.Reference10Ideal.Gen.bcast_S40_S40x1_0 (select (cmpi .slt be (broadcastInDim Cert.Reference10Ideal.S40 ![] Cert.Reference10Ideal.Gen.bcast_S_S40 (constantI Cert.Reference10Ideal.S_ 32 0#32))) (addi be (broadcastInDim Cert.Reference10Ideal.S40 ![] Cert.Reference10Ideal.Gen.bcast_S_S40 (constantI Cert.Reference10Ideal.S_ 32 8#32))) be)))) (Host.divf (broadcastInDim Cert.Reference10Ideal.S40x512x4096 ![] Cert.Reference10Ideal.Gen.bcast_S_S40x512x4096 (constant (F := Ideal) Cert.Reference10Ideal.S_ .f32 0x3F800000#32)) (addf (broadcastInDim Cert.Reference10Ideal.S40x512x4096 ![] Cert.Reference10Ideal.Gen.bcast_S_S40x512x4096 (constant (F := Ideal) Cert.Reference10Ideal.S_ .f32 0x3F800000#32)) (Host.exp (Host.negf (Host.dotGeneral Cert.Reference10Ideal.dot_S40x512x4096_S40x4096x4096_S40x512x4096_2_1_1_2_0_0 none (shapeCast Cert.Reference10Ideal.S40x512x4096 (extf (F := Ideal) .f32 A Cert.Reference10Ideal.Gen.bitsLt_bf16_f32) Cert.Reference10Ideal.Gen.shapeCasts_S20480x4096_S40x512x4096) (Host.gather Cert.Reference10Ideal.gather_S8x4096x4096_S40x1_S40x4096x4096_12_0_n_n_0_1_140964096 B (broadcastInDim Cert.Reference10Ideal.S40x1 ![0] Cert.Reference10Ideal.Gen.bcast_S40_S40x1_0 (select (cmpi .slt be (broadcastInDim Cert.Reference10Ideal.S40 ![] Cert.Reference10Ideal.Gen.bcast_S_S40 (constantI Cert.Reference10Ideal.S_ 32 0#32))) (addi be (broadcastInDim Cert.Reference10Ideal.S40 ![] Cert.Reference10Ideal.Gen.bcast_S_S40 (constantI Cert.Reference10Ideal.S_ 32 8#32))) be))))))))) (Host.dotGeneral Cert.Reference10Ideal.dot_S40x512x4096_S40x4096x4096_S40x512x4096_2_1_1_2_0_0 none (shapeCast Cert.Reference10Ideal.S40x512x4096 (extf (F := Ideal) .f32 A Cert.Reference10Ideal.Gen.bitsLt_bf16_f32) Cert.Reference10Ideal.Gen.shapeCasts_S20480x4096_S40x512x4096) (Host.gather Cert.Reference10Ideal.gather_S8x4096x4096_S40x1_S40x4096x4096_12_0_n_n_0_1_140964096 C (broadcastInDim Cert.Reference10Ideal.S40x1 ![0] Cert.Reference10Ideal.Gen.bcast_S40_S40x1_0 (select (cmpi .slt be (broadcastInDim Cert.Reference10Ideal.S40 ![] Cert.Reference10Ideal.Gen.bcast_S_S40 (constantI Cert.Reference10Ideal.S_ 32 0#32))) (addi be (broadcastInDim Cert.Reference10Ideal.S40 ![] Cert.Reference10Ideal.Gen.bcast_S_S40 (constantI Cert.Reference10Ideal.S_ 32 8#32))) be))))) (broadcastInDim Cert.Reference10Ideal.S40x512x4096 ![] Cert.Reference10Ideal.Gen.bcast_S_S40x512x4096 (id (constant (F := Ideal) Cert.Reference10Ideal.S_ .f32 0x00000000#32)))) Cert.Reference10Ideal.Gen.shapeCasts_S40x512x4096_S20480x4096 = G A B C be (n z) := by
  funext i
  have hi : (i 0).val < 20480 := (i 0).isLt
  refine (shapeCast_apply (α := EReal) _ Cert.Reference10Ideal.Gen.shapeCasts_S40x512x4096_S20480x4096 i (ix3 (blk (i 0)) (row (i 0)) (i 1)) ?_).trans ?_
  · rw [Shape.rowMajor_val_two, Shape.rowMajor_val_three]
    show ((i 0).val / 512 * 512 + (i 0).val % 512) * 4096 + (i 1).val = (i 0).val * 4096 + (i 1).val
    have := Nat.div_add_mod (i 0).val 512
    omega
  · have hcond : broadcastInDim Cert.Reference10Ideal.S40x512x4096 ![0, 1, 2] Cert.Reference10Ideal.Gen.bcast_S40x1x1_S40x512x4096_0_1_2 (cmpi .slt (broadcastInDim Cert.Reference10Ideal.S40x1x1 ![0] Cert.Reference10Ideal.Gen.bcast_S40_S40x1x1_0 (iotaInDim Cert.Reference10Ideal.S40 32 0)) (broadcastInDim Cert.Reference10Ideal.S40x1x1 ![0, 1, 2] Cert.Reference10Ideal.Gen.bcast_S1x1x1_S40x1x1_0_1_2 (broadcastInDim Cert.Reference10Ideal.S1x1x1 ![2] Cert.Reference10Ideal.Gen.bcast_S1_S1x1x1_2 n))) (ix3 (blk (i 0)) (row (i 0)) (i 1))
        = BitVec.ofBool ((BitVec.ofNat 32 (blk (i 0)).val).slt (n z)) := by
      refine (broadcastInDim_apply _ _ _ _ (ix3 (blk (i 0)) (0 : Fin 1) (0 : Fin 1)) (fun a => ?_)).trans ?_
      · match a with
        | ⟨0, _⟩ => rfl
        | ⟨1, _⟩ => rfl
        | ⟨2, _⟩ => rfl
      · refine congrArg₂ (fun a b : BitVec 32 => BitVec.ofBool (a.slt b)) ?_ ?_
        · refine (broadcastInDim_apply _ _ _ _ (ix1 (blk (i 0))) (fun a => ?_)).trans rfl
          match a with
          | ⟨0, _⟩ => rfl
        · exact congrArg n (Cert.MoeUpI.one_idx _ _)
    unfold G
    have hsel : ∀ (c : Bool) (x y : EReal), (if BitVec.ofBool c = 1#1 then x else y) = if c = true then x else y := fun c x y => by cases c <;> rfl
    refine (congrArg (fun c : BitVec 1 => if c = 1#1 then _ else _) hcond).trans ((hsel _ _ _).trans ?_)
    by_cases hc : (BitVec.ofNat 32 (blk (i 0)).val).slt (n z) = true
    · rw [if_pos hc, if_pos hc]
      have e1 := host_mmE Cert.Reference10Ideal.Gen.dot_S40x512x4096_S40x4096x4096_S40x512x4096_2_1_1_2_0_0_wf Cert.Reference10Ideal.Gen.gather_S8x4096x4096_S40x1_S40x4096x4096_12_0_n_n_0_1_140964096_wf Cert.Reference10Ideal.Gen.shapeCasts_S20480x4096_S40x512x4096 Cert.Reference10Ideal.Gen.bcast_S40_S40x1_0 Cert.Reference10Ideal.Gen.bcast_S_S40 A B be hbe (i 0) (i 1)
      have e2 := host_mmE Cert.Reference10Ideal.Gen.dot_S40x512x4096_S40x4096x4096_S40x512x4096_2_1_1_2_0_0_wf Cert.Reference10Ideal.Gen.gather_S8x4096x4096_S40x1_S40x4096x4096_12_0_n_n_0_1_140964096_wf Cert.Reference10Ideal.Gen.shapeCasts_S20480x4096_S40x512x4096 Cert.Reference10Ideal.Gen.bcast_S40_S40x1_0 Cert.Reference10Ideal.Gen.bcast_S_S40 A C be hbe (i 0) (i 1)
      refine (congrArg₂ (fun a b : EReal => a * Ideal.div (Ideal.ofBits .f32 0x3F800000#32) (Ideal.ofBits .f32 0x3F800000#32 + Ideal.exp (-a)) * b) e1 e2).trans ?_
      rw [Ideal.ofBits_one_f32]
      rfl
    · rw [if_neg hc, if_neg hc]
      exact Ideal.ofBits_zero_f32

/-- The kernel's run: the result and the arguments. -/
theorem run (hp : Pre_Kernel10Ideal m) : θ_run defs (onTc (τ := τ) (main (F := Ideal))) ⟨m, fun _ => 0, ρ⟩ (fun r => ∀ c : Dev nD,
      r.2.mem ((c.tc : Thread nD τ).loc main_v2) = G (m ((c.tc : Thread nD τ).loc main_arg0)) (m ((c.tc : Thread nD τ).loc main_arg1)) (m ((c.tc : Thread nD τ).loc main_arg2)) (m ((c.tc : Thread nD τ).loc main_arg3)) (((m ((c.tc : Thread nD τ).loc main_arg4)) : S1.Idx → BitVec 32) (Shape.Idx.first (numel1_S1.symm ▸ Nat.one_pos)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  obtain ⟨hb, h1, h2⟩ := ok_of m (hp 0)
  have hO := Cert.MoeUpI.ok m hb h1 h2
  exact (θ_run defs _ _).mono (fun _ h c => ⟨((h c).1 3).trans (final m hb h1 h2 hO c),
      ((h c).1 0).trans (((dats m hO 0 c).arrAt_in 0 rfl _).trans ((Cert.MoeUpI.A_eq m hO c 0).trans (Cert.MoeUpI.V_main_arg0 m c))),
      ((h c).2 main_arg1 (by decide : main_arg1 ∈ Pipeline.restRefs sig spec0)).trans (Cert.MoeUpI.V_main_arg1 m c),
      ((h c).2 main_arg2 (by decide : main_arg2 ∈ Pipeline.restRefs sig spec0)).trans (Cert.MoeUpI.V_main_arg2 m c),
      ((h c).2 main_arg3 (by decide : main_arg3 ∈ Pipeline.restRefs sig spec0)).trans (Cert.MoeUpI.V_main_arg3 m c),
      ((h c).2 main_arg4 (by decide : main_arg4 ∈ Pipeline.restRefs sig spec0)).trans (Cert.MoeUpI.V_main_arg4 m c)⟩) (Cert.MoeUpI.run_main m ρ hO)

theorem value : algebraic_Kernel10Ideal_Reference10Ideal := fun m g m' g' hp hm =>
  ⟨fun c => G (m ((c.tc : Thread nD τ).loc main_arg0)) (m ((c.tc : Thread nD τ).loc main_arg1)) (m ((c.tc : Thread nD τ).loc main_arg2)) (m ((c.tc : Thread nD τ).loc main_arg3)) (((m ((c.tc : Thread nD τ).loc main_arg4)) : S1.Idx → BitVec 32) (Shape.Idx.first (numel1_S1.symm ▸ Nat.one_pos))),
    run m g hp,
    (θ_run Cert.Reference10Ideal.defs _ _).mono (fun r h c => ⟨(h c).1.trans (by
        rw [(hm c).1, (hm c).2.1, (hm c).2.2.1, (hm c).2.2.2.1, (hm c).2.2.2.2]
        exact ref_apply (m ((c.tc : Thread nD τ).loc main_arg0)) (m ((c.tc : Thread nD τ).loc main_arg1)) (m ((c.tc : Thread nD τ).loc main_arg2)) (m ((c.tc : Thread nD τ).loc main_arg3)) (Cert.MoeWords.pre10 (F := Ideal) _ _ _ _ _ (hp c)).1 (m ((c.tc : Thread nD τ).loc main_arg4)) _), (h c).2⟩)
      (Cert.Reference10Ideal.Value.run (F := Ideal) m' g')⟩

end Cert.MoeUp

end
-- ==== Proof.MoeDownI.lean ====
/- The experts' down product, idealized: what a point leaves in its output block, and the run of the whole program.
   A point whose block of rows is in use multiplies it by its expert's weights; the others store zeros. -/
module

public import proofs.«01_k».proof.Proof.Gen.Kernel11Ideal.Launch
public import proofs.«01_k».proof.Proof.Gen.Kernel11Ideal.Skeleton
public import proofs.«01_k».proof.Proof.MoeWords
public import Idealize.ShloMosaic.Lib.Pipeline.FrameBody
public import Idealize.ShloMosaic.Lib.Ring
public import Idealize.ShloMosaic.Lib.Tactic
public import Idealize.ShloMosaic.Lib.WordCmp
public import Idealize.ShloMosaic.Lib.Affine
public import Idealize.ShloMosaic.Lib.ValueIdxCore
public import Idealize.ShloMosaic.Lib.Claim

@[expose] public section

set_option maxRecDepth 16384

noncomputable section

namespace Cert.MoeDownI

open Cert.Kernel11Ideal Cert.Kernel11Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

attribute [local instance] Cert.Kernel11Ideal.Gen.facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call -/

/-- What the buffers hold when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The two tables' contents: each block's expert, and the number of blocks in use. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbB : Memref sig .tc .smem S40 .i32 := Memref.whole main_arg2
abbrev htbB : tbB.IsWhole := Memref.isWhole_whole _
abbrev tbM : Memref sig .tc .smem S1 .i32 := Memref.whole main_arg3
abbrev htbM : tbM.IsWhole := Memref.isWhole_whole _

abbrev TbBuf (c : Dev nD) {S : Shape} {e : EltTy} (M : Memref sig .tc .smem S e) : Type := Buf (Elt F) (M.view.loc (c : Thread nD τ))
/-- A table's buffer held at half a share: the body only reads it. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tbB (tbl m 0) ∗ tbPt c tbM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The number of blocks in use, as the tables hold it. -/
def nu : BitVec 32 := (tbl m 1 : S1.Idx → BitVec 32) (Shape.Idx.first (numel1_S1.symm ▸ Nat.one_pos))

theorem one_idx (a b : S1.Idx) : a = b := funext fun k => match k with | ⟨0, _⟩ => Subsingleton.elim (α := Fin 1) _ _

theorem word_eq {c : Dev nD} : tbM.view.readAt (Elt F) (Rect.unit (s := S1) ![0] S1.size inb_S1_S1_0).toLoadRect (tbl m 1 : TbBuf (F := F) c tbM) (Shape.Idx.first (numel1_S1.symm ▸ Nat.one_pos)) = nu m :=
  congrArg (tbl m 1 : S1.Idx → BitVec 32) (one_idx _ _)

theorem atD_eq : (tbl m).atD 1 ![0] = nu m :=
  (dif_pos (show ∀ a : Fin 1, (![0] : Fin 1 → Nat) a + 1 ≤ S1.size a from by decide)).trans
    (congrArg (tbl m 1 : S1.Idx → BitVec 32) (one_idx _ _))

theorem cond1_iff (i : grid0.Coords) (w : BitVec 32) : k0_cond1 i w = 1#1 ↔ (BitVec.ofNat 32 (i 0).val).slt w = true := Cert.MoeWords.cond_slt _ _
theorem cond2_iff (i : grid0.Coords) (w : BitVec 32) : k0_cond2 i w = 1#1 ↔ ¬(BitVec.ofNat 32 (i 0).val).slt w = true := Cert.MoeWords.cond_sge _ _

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_of0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The body -/

abbrev r_a : Rect S512x4096 := Rect.unit (s := S512x4096) ![0, 0] S512x4096.size inb_S512x4096_S512x4096_0_0
abbrev r_w : Rect S1x4096x512 := Rect.unit (s := S1x4096x512) ![0, 0, 0] S1x4096x512.size inb_S1x4096x512_S1x4096x512_0_0_0
abbrev r_o : Rect S512x512 := Rect.unit (s := S512x512) ![0, 0] S512x512.size inb_S512x512_S512x512_0_0

/-- What a point in use leaves in the output block. -/
def outRun (x0 : Vec F S512x4096 .bf16) (x1 : Vec F S1x4096x512 .bf16) : Vec F S512x512 .f32 :=
  View.canon [⟨r_o, k0_pay1 (View.ld x0 r_a) (View.ld x1 r_w)⟩]

/-- What a point not in use leaves there. -/
def outZero : Vec F S512x512 .f32 := View.canon [⟨r_o, k0_pay2 (F := F)⟩]

/-- One store fills the block. -/
theorem cover_out (p0 : Vec F S512x512 .f32) (y : S512x512.Idx) :
    ∃ pc ∈ ([⟨r_o, p0⟩] : List (View.Piece (Elt F) S512x512 .f32)), y ∈ pc.1.set :=
  View.cover_of_tiled [⟨r_o, p0⟩] S512x512.size (by rfl) y

abbrev ms0 (hO : Ok m) (t : Fin (cfgM m hO).N) : Memref sig .tc .vmem S512x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x4096x512 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S512x512 .f32 := spec0_2.stage ((cfgM m hO).slots t 2)
abbrev hs2 (hO : Ok m) (t : Fin (cfgM m hO).N) : (ms2 m hO t).IsWhole := hstage0_2 (((cfgM m hO).slots t 2).cast nbuf0_2)

set_option maxHeartbeats 1000000 in
/-- The body at a point in use. -/
theorem kernel_run (c : Dev nD) (E : Set ℕ) (i : grid0.Coords) (arg4 : Memref sig .tc .vmem S512x4096 .bf16) (harg4 : arg4.IsWhole) (arg5 : Memref sig .tc .vmem S1x4096x512 .bf16) (harg5 : arg5.IsWhole) (arg6 : Memref sig .tc .vmem S512x512 .f32) (harg6 : arg6.IsWhole)
    (x0 : Vec F S512x4096 .bf16) (x1 : Vec F S1x4096x512 .bf16) (xt0 : TbBuf (F := F) c tbB) (xt : TbBuf (F := F) c tbM)
    (hc1 : k0_cond1 i (tbM.view.readAt (Elt F) (Rect.unit (s := S1) ![0] S1.size inb_S1_S1_0).toLoadRect xt (Shape.Idx.first (numel1_S1.symm ▸ Nat.one_pos))) = 1#1)
    (hc2 : ¬k0_cond2 i (tbM.view.readAt (Elt F) (Rect.unit (s := S1) ![0] S1.size inb_S1_S1_0).toLoadRect xt (Shape.Idx.first (numel1_S1.symm ▸ Nat.one_pos))) = 1#1) (K : PUnit → sProp 𝕄) :
    iprop(owns (c : Thread nD τ) arg4 fullShare x0 ∗ owns (c : Thread nD τ) arg5 fullShare x1 ∗ (∃ d, owns (c : Thread nD τ) arg6 fullShare d) ∗ tbPt c tbB xt0 ∗ tbPt c tbM xt
        ∗ (iprop(owns (c : Thread nD τ) arg4 fullShare x0 ∗ owns (c : Thread nD τ) arg5 fullShare x1 ∗ owns (c : Thread nD τ) arg6 fullShare (outRun x0 x1) ∗ tbPt c tbB xt0 ∗ tbPt c tbM xt) -∗ K ⟨⟩))
      ⊢ wp frame (wpE (defs₀ (F := F)) Variants.none c none) E (cc0_moe_down i tbB htbB tbM htbM arg4 harg4 arg5 harg5 arg6 harg6) K := by
  simp only [cc0_moe_down_eq_skeleton]; unfold cc0_moe_down_skel
  unfold owns
  iintro ⟨⟨%f0, %hf0, H0⟩, ⟨%f1, %hf1, H1⟩, ⟨%d2, %f2, -, H2⟩, HT0, HT1, Hk⟩
  subst hf0 hf1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  isplitl [HT0]; · iexact HT0
  iexact HT1

set_option maxHeartbeats 1000000 in
/-- The body at a point not in use. -/
theorem kernel_zero (c : Dev nD) (E : Set ℕ) (i : grid0.Coords) (arg4 : Memref sig .tc .vmem S512x4096 .bf16) (harg4 : arg4.IsWhole) (arg5 : Memref sig .tc .vmem S1x4096x512 .bf16) (harg5 : arg5.IsWhole) (arg6 : Memref sig .tc .vmem S512x512 .f32) (harg6 : arg6.IsWhole)
    (x0 : Vec F S512x4096 .bf16) (x1 : Vec F S1x4096x512 .bf16) (xt0 : TbBuf (F := F) c tbB) (xt : TbBuf (F := F) c tbM)
    (hc1 : ¬k0_cond1 i (tbM.view.readAt (Elt F) (Rect.unit (s := S1) ![0] S1.size inb_S1_S1_0).toLoadRect xt (Shape.Idx.first (numel1_S1.symm ▸ Nat.one_pos))) = 1#1)
    (hc2 : k0_cond2 i (tbM.view.readAt (Elt F) (Rect.unit (s := S1) ![0] S1.size inb_S1_S1_0).toLoadRect xt (Shape.Idx.first (numel1_S1.symm ▸ Nat.one_pos))) = 1#1) (K : PUnit → sProp 𝕄) :
    iprop(owns (c : Thread nD τ) arg4 fullShare x0 ∗ owns (c : Thread nD τ) arg5 fullShare x1 ∗ (∃ d, owns (c : Thread nD τ) arg6 fullShare d) ∗ tbPt c tbB xt0 ∗ tbPt c tbM xt
        ∗ (iprop(owns (c : Thread nD τ) arg4 fullShare x0 ∗ owns (c : Thread nD τ) arg5 fullShare x1 ∗ owns (c : Thread nD τ) arg6 fullShare (outZero) ∗ tbPt c tbB xt0 ∗ tbPt c tbM xt) -∗ K ⟨⟩))
      ⊢ wp frame (wpE (defs₀ (F := F)) Variants.none c none) E (cc0_moe_down i tbB htbB tbM htbM arg4 harg4 arg5 harg5 arg6 harg6) K := by
  simp only [cc0_moe_down_eq_skeleton]; unfold cc0_moe_down_skel
  unfold owns
  iintro ⟨⟨%f0, %hf0, H0⟩, ⟨%f1, %hf1, H1⟩, ⟨%d2, %f2, -, H2⟩, HT0, HT1, Hk⟩
  subst hf0 hf1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  isplitl [HT0]; · iexact HT0
  iexact HT1

/-- What the output block holds after point `t`. -/
def outsAt (hO : Ok m) (c : Dev nD) (t : Fin (cfgM m hO).N) : Vec F S512x512 .f32 :=
  if (BitVec.ofNat 32 (grid0.coords t 0).val).slt (nu m) = true then outRun (iblk m hO c 0 t) (iblk m hO c 1 t) else outZero

/-! ## The pipeline's data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = outsAt m hO c t := by dsimp only [dats]; try rfl

theorem before0 (hO : Ok m) (c : Dev nD) (t : Fin (cfgM m hO).N) (d) : (dats m hO 0 c).before 0 t d = iblk m hO c 0 t :=
  before_of0 m hO (dats m hO 0 c) (A_eq m hO c 0) (after0 m hO c) t d
theorem before1 (hO : Ok m) (c : Dev nD) (t : Fin (cfgM m hO).N) (d) : (dats m hO 0 c).before 1 t d = iblk m hO c 1 t :=
  before_of1 m hO (dats m hO 0 c) (A_eq m hO c 1) (after1 m hO c) t d

/-- The body at point `t`, on the buffers the pipeline hands it. -/
abbrev bodyAt (a : (pcfg0 (F := F)).Adm) (t : Fin (cfg0 a).N) : Prog (TpuEff nD τ sig (Elt F) Λ₀ .tc) PUnit :=
  cc0_moe_down (grid0.coords t) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1]
  rw [show (dats m hO 0 c).Φ t.succ = (dats m hO 0 c).Φ t.castSucc from rfl,
    show (dats m hO 0 c).owesAt () t.succ = (dats m hO 0 c).owesAt () t.castSucc from rfl,
    after0, after1, after2]
  rw [show (dats m hO 0 c).Φ t.castSucc = iprop(Pipeline.ΦA spec0 c ∗ Pipeline.ΦT pre0 (tbl m) c) from rfl, PhiT_eq]
  by_cases h : (BitVec.ofNat 32 (grid0.coords t 0).val).slt (nu m) = true
  · have h1 := (congrArg (fun w => k0_cond1 (grid0.coords t) w = 1#1) (word_eq (c := c) m)).mpr ((cond1_iff _ _).2 h)
    have h2 := fun hh => (cond2_iff _ _).1 ((congrArg (fun w => k0_cond2 (grid0.coords t) w = 1#1) (word_eq (c := c) m)).mp hh) h
    rw [show outsAt m hO c t = outRun (iblk m hO c 0 t) (iblk m hO c 1 t) from if_pos h]
    iintro ⟨⟨HΦ, ⟨HT0, HT1⟩⟩, Ho, ⟨%d0, H0⟩, ⟨%d1, H1⟩, ⟨%d2, H2⟩⟩
    iapply (kernel_run c Set.univ (grid0.coords t) _ _ _ _ _ _ (iblk m hO c 0 t) (iblk m hO c 1 t) (tbl m 0) (tbl m 1) h1 h2 _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2
  · have h1 := fun hh => h ((cond1_iff _ _).1 ((congrArg (fun w => k0_cond1 (grid0.coords t) w = 1#1) (word_eq (c := c) m)).mp hh))
    have h2 := (congrArg (fun w => k0_cond2 (grid0.coords t) w = 1#1) (word_eq (c := c) m)).mpr ((cond2_iff _ _).2 h)
    rw [show outsAt m hO c t = outZero from if_neg h]
    iintro ⟨⟨HΦ, ⟨HT0, HT1⟩⟩, Ho, ⟨%d0, H0⟩, ⟨%d1, H1⟩, ⟨%d2, H2⟩⟩
    iapply (kernel_zero c Set.univ (grid0.coords t) _ _ _ _ _ _ (iblk m hO c 0 t) (iblk m hO c 1 t) (tbl m 0) (tbl m 1) h1 h2 _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem stored (i : grid0.Coords) (w : BitVec 32) : (!(k0_cond1 i w == 1#1) && !(k0_cond2 i w == 1#1)) = false := by
  by_cases h : (BitVec.ofNat 32 (i 0).val).slt w = true
  · rw [(cond1_iff _ _).2 h]; rfl
  · rw [(cond2_iff _ _).2 h, Bool.and_comm]; rfl

/-- The output block is stored at every point. -/
theorem not_idle (hO : Ok m) (t : Fin (cfgM m hO).N) : (cfgM m hO).idle (2 : Fin 3) ((cfgM m hO).grid.coords t) = false := stored _ _

set_option maxHeartbeats 1000000 in
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [not_idle m hO t]
  exact .rfl

/-! ## The run -/

set_option backward.isDefEq.respectTransparency.types false in
set_option maxHeartbeats 1000000 in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- Every run ends with each window's array at what the blocks' stores make it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ hO (dats m hO) (A_eq m hO) (run_main m ρ hO)) ((θ_run defs _ _).mono (fun _ h => h.2) (run_main_quiescent m ρ hO))

/-! ## Where the tables send each window -/

/-- The expert of block `b`, as the tables hold it. -/
def be (b : Fin 40) : BitVec 32 := (tbl m 0 : S40.Idx → BitVec 32) (ValueIdx.ix1 b)

theorem at_eq (h : _) (h1 : _) : (tbl m).at 1 (Rect.unit (s := S1) ![0] S1.size h) h1 = nu m :=
  congrArg (tbl m 1 : S1.Idx → BitVec 32) (one_idx _ _)

theorem word_idx (w : BitVec 32) (x : Fin 40) (e : w.toNat = x.val) (h : _) (h1 : _) :
    (Rect.unit (s := S40) ![w.toNat] S1.size h).emb (Shape.Idx.first h1) = ValueIdx.ix1 x := by
  funext a
  obtain rfl : a = 0 := Subsingleton.elim (α := Fin 1) _ _
  apply Fin.ext
  show w.toNat + 1 * 0 = x.val
  omega

theorem i0_lt (i : grid0.Coords) : (i 0).val < 40 := (i 0).isLt
theorem i1_lt (i : grid0.Coords) : (i 1).val < 8 := (i 1).isLt

theorem t0_eq (h1 : 1 ≤ (nu m).toNat) (h2 : (nu m).toNat ≤ 40) (i : grid0.Coords) :
    cc0_transform_0 inb_S1_S1_0 numel1_S1 (tbl m) i = ![min (i 0).val ((nu m).toNat - 1), 0] := by
  have e := Cert.MoeWords.min_toNat (i 0).val (i0_lt i) (nu m) h1 h2
  rw [← at_eq m inb_S1_S1_0 numel1_S1] at e ⊢
  exact Cert.MoeWords.vec2 e

theorem t1_eq (i : grid0.Coords) :
    cc0_transform_1 k0_off1_inb numel1_S1 inb_S1_S1_0 (tbl m) i
      = ![(be m (i 0)).toNat, 0, if (BitVec.ofNat 32 (i 0).val).slt (nu m) = true then (i 1).val else 7] := by
  have e := Cert.MoeWords.sel_toNat (BitVec.ofNat 32 (i 0).val) (nu m) (i 1).val (i1_lt i)
  rw [← at_eq m inb_S1_S1_0 numel1_S1] at e ⊢
  refine Cert.MoeWords.vec3 (congrArg BitVec.toNat (congrArg (tbl m 0 : S40.Idx → BitVec 32) (word_idx _ (i 0) ?_ _ _))) e
  show (BitVec.ofNat 32 (i 0).val).toNat = (i 0).val
  have := i0_lt i
  rw [BitVec.toNat_ofNat]; omega

/-- Every block the tables choose lies inside its array. -/
theorem ok (hb : ∀ b, (be m b).toNat < 8) (h1 : 1 ≤ (nu m).toNat) (h2 : (nu m).toNat ≤ 40) : Ok m := by
  have w0 : ∀ (i : grid0.Coords) a, (cc0_transform_0 inb_S1_S1_0 numel1_S1 (tbl m) i a + 1) * S512x4096.size a ≤ S20480x4096.size a := by
    intro i a
    rw [t0_eq m h1 h2]
    match a with
    | ⟨0, _⟩ => show (min (i 0).val ((nu m).toNat - 1) + 1) * 512 ≤ 20480; omega
    | ⟨1, _⟩ => show (0 + 1) * 4096 ≤ 4096; omega
  have w1 : ∀ (i : grid0.Coords) a, (cc0_transform_1 k0_off1_inb numel1_S1 inb_S1_S1_0 (tbl m) i a + 1) * S1x4096x512.size a ≤ S8x4096x4096.size a := by
    intro i a
    rw [t1_eq m]
    have h8 := hb (i 0)
    have := i1_lt i
    match a with
    | ⟨0, _⟩ => show ((be m (i 0)).toNat + 1) * 1 ≤ 8; omega
    | ⟨1, _⟩ => show (0 + 1) * 4096 ≤ 4096; omega
    | ⟨2, _⟩ =>
      show ((if (BitVec.ofNat 32 (i 0).val).slt (nu m) = true then (i 1).val else 7) + 1) * 512 ≤ 4096
      split <;> omega
  exact ⟨fun i => ⟨w0 i, .inr (Affine.block_words_dvd (of_decide_eq_true rfl) (by decide))⟩,
    fun i => ⟨w1 i, .inr (Affine.block_words_dvd (of_decide_eq_true rfl) (by decide))⟩⟩

theorem be_eq (b : Fin 40) : be m b = m (((0 : Dev nD) : Thread nD τ).loc main_arg2) (ValueIdx.ix1 b) := congrFun (V_main_arg2 m 0) _
theorem nu_eq : nu m = m (((0 : Dev nD) : Thread nD τ).loc main_arg3) (Shape.Idx.first (numel1_S1.symm ▸ Nat.one_pos)) := congrFun (V_main_arg3 m 0) _

end Cert.MoeDownI

end
-- ==== Proof.MoeDown.lean ====
/- The experts' down product: the call's result and the reference's are the same function of the tokens,
   of the weights and of the blocks' experts, at the ideal floats, and the frames of both. -/
module

public import proofs.«01_k».proof.Defs
public import proofs.«01_k».proof.Proof.MoeHost
public import proofs.«01_k».proof.Proof.FfnUp
public import proofs.«01_k».proof.Proof.MoeDownI
public import proofs.«01_k».proof.Proof.Gen.Kernel11
public import proofs.«01_k».proof.Proof.Gen.Reference11Ideal.Run
public import Idealize.ShloMosaic.Lib.ValueLayout

@[expose] public section

set_option maxRecDepth 16384

noncomputable section

namespace Cert.MoeDown

open Cert.Kernel11Ideal Cert.Kernel11Ideal.Gen Idealize.ShloMosaic Idealize.ShloMosaic.TcCoe Idealize.SL.Sem
open Idealize.ShloMosaic.ValueIdx Cert.MatBlock Cert.MoeHost
open Idealize.ShloMosaic.Pipeline (Dat Window)
open Cert.MoeDownI (V tbl Ok cfgM nu be iblk outRun outZero outsAt dats r_a r_w r_o)

variable (m : (ℓ : Loc nD τ sig) → Buf (Elt Ideal) ℓ) (ρ : Dev nD → PrngReg)

/-- The result array as a function of the arrays the launch reads: at a row of a block in use, the row through its
    block's expert; zero at the others. -/
def G (A : S20480x4096.Idx → EReal) (B : S8x4096x4096.Idx → EReal) (be : S40.Idx → BitVec 32) (n : BitVec 32) :
    S20480x4096.Idx → EReal := fun i =>
  if (BitVec.ofNat 32 (blk (i 0)).val).slt n = true then mmE A B be (i 0) (i 1) else 0

theorem hz3 : (![0, 0, 0] : Fin 3 → Nat) = fun _ => 0 := funext fun a => by fin_cases a <;> rfl

/-- A block of rows times a block of the expert's columns, at an index. -/
def mmB (x0 : Vec Ideal S512x4096 .bf16) (x1 : Vec Ideal S1x4096x512 .bf16) (y : S512x512.Idx) : EReal :=
  ∑ k : Fin 4096, (x0 (ix2 (y 0) k) : EReal) * (x1 (ix3 (0 : Fin 1) k (y 1)) : EReal)

theorem mm_block (x0 : Vec Ideal S512x4096 .bf16) (x1 : Vec Ideal S1x4096x512 .bf16) (y : S512x512.Idx) :
    matmul (F := Ideal) (φ₁ := .bf16) (φ₂ := .bf16) dot_S512x4096_S4096x512_S512x512_1_0_0_1_n_n none x0 (shapeCast S4096x512 (x1 : FVec Ideal S1x4096x512 .bf16) shapeCasts_S1x4096x512_S4096x512)
      (constant S512x512 .f32 0x00000000#32) y = mmB x0 x1 y := by
  refine (kernel_mm (φ₁ := .bf16) (φ₂ := .bf16) (M := 512) (K := 4096) (N := 512) none x0 _ y).trans ?_
  exact Finset.sum_congr rfl fun k _ => congrArg (fun b : EReal => (x0 (ix2 (y 0) k) : EReal) * b)
    (shapeCast_1ab_ab_apply x1 shapeCasts_S1x4096x512_S4096x512 k (y 1))

theorem outRun_apply (x0 : Vec Ideal S512x4096 .bf16) (x1 : Vec Ideal S1x4096x512 .bf16) (y : S512x512.Idx) :
    outRun (F := Ideal) x0 x1 y = mmB x0 x1 y := by
  unfold outRun
  rw [View.canon_unit_zero hz, View.ld_unit_zero hz, View.ld_unit_zero hz3]
  unfold k0_pay1
  exact mm_block x0 x1 y

theorem outZero_apply (y : S512x512.Idx) : outZero (F := Ideal) y = (0 : EReal) := by
  unfold outZero
  rw [View.canon_unit_zero hz]
  exact Ideal.ofBits_zero_f32

variable (hb : ∀ b, (be m b).toNat < 8) (h1 : 1 ≤ (nu m).toNat) (h2 : (nu m).toNat ≤ 40) (hO : Ok m)

theorem emb2_val (t : Fin (cfgM m hO).N) (y : S512x512.Idx) (a : Fin 2) :
    (((((cfgM m hO).win 2).blk t).view.emb y) a : Nat) = ![(grid0.coords t 0).val, (grid0.coords t 1).val] a * S512x512.size a + y a := by
  refine (Window.rect_emb_val ((cfgM m hO).win 2) t y a rfl).trans ?_
  have e : cc0_transform_2 (grid0.coords t) = ![(grid0.coords t 0).val, (grid0.coords t 1).val] := by
    have ha := Cert.MoeDownI.i0_lt (grid0.coords t)
    have hc := Cert.MoeDownI.i1_lt (grid0.coords t)
    show ![(BitVec.ofNat 32 (grid0.coords t 0).val).toNat, (BitVec.ofNat 32 (grid0.coords t 1).val).toNat] = _
    rw [BitVec.toNat_ofNat, BitVec.toNat_ofNat, Nat.mod_eq_of_lt (by omega), Nat.mod_eq_of_lt (by omega)]
  show cc0_transform_2 (grid0.coords t) a * _ + _ = _
  rw [e]
  rfl

/-- The place in the result of an entry of the block point `t` writes. -/
def at2 (t : Fin (cfgM m hO).N) (y : S512x512.Idx) : S20480x4096.Idx := (((cfgM m hO).win 2).blk t).view.emb y

theorem at2_0 (t : Fin (cfgM m hO).N) (y : S512x512.Idx) : (at2 m hO t y 0).val = (grid0.coords t 0).val * 512 + (y 0).val := emb2_val m hO t y 0
theorem at2_1 (t : Fin (cfgM m hO).N) (y : S512x512.Idx) : (at2 m hO t y 1).val = (grid0.coords t 1).val * 512 + (y 1).val := emb2_val m hO t y 1

theorem blk_at (t : Fin (cfgM m hO).N) (y : S512x512.Idx) : blk (at2 m hO t y 0) = grid0.coords t 0 := by
  apply Fin.ext
  show (at2 m hO t y 0).val / 512 = _
  have h : (y 0).val < 512 := (y 0).isLt
  rw [at2_0]; omega

include h1 h2 in
theorem iblk0_apply (c : Dev nD) (t : Fin (cfgM m hO).N) (hc : (BitVec.ofNat 32 (grid0.coords t 0).val).slt (nu m) = true) (y : S512x512.Idx) (k : Fin 4096) :
    iblk m hO c 0 t (ix2 (y 0) k) = V m c main_arg0 (ix2 (at2 m hO t y 0) k) := by
  show V m c main_arg0 ((((cfgM m hO).win 0).blk t).view.emb (ix2 (y 0) k)) = _
  congr 1
  funext a; apply Fin.ext
  refine (Window.rect_emb_val ((cfgM m hO).win 0) t _ a rfl).trans ?_
  have e := Cert.MoeDownI.t0_eq m h1 h2 (grid0.coords t)
  have hlt := (Cert.MoeWords.slt_iff _ (Cert.MoeDownI.i0_lt (grid0.coords t)) _ h2).1 hc
  rw [show min (grid0.coords t 0).val ((nu m).toNat - 1) = (grid0.coords t 0).val by omega] at e
  show cc0_transform_0 inb_S1_S1_0 numel1_S1 (tbl m) (grid0.coords t) a * _ + _ = _
  rw [e]
  match a with
  | ⟨0, _⟩ => exact (at2_0 m hO t y).symm
  | ⟨1, _⟩ => show 0 * 4096 + k.val = k.val; omega

include hb in
theorem iblk1_apply (c : Dev nD) (t : Fin (cfgM m hO).N) (hc : (BitVec.ofNat 32 (grid0.coords t 0).val).slt (nu m) = true) (y : S512x512.Idx) (k : Fin 4096) :
    iblk m hO c 1 t (ix3 (0 : Fin 1) k (y 1)) = V m c main_v0 (ix3 (ex (tbl m 0) (blk (at2 m hO t y 0))) k (at2 m hO t y 1)) := by
  show V m c main_v0 ((((cfgM m hO).win 1).blk t).view.emb (ix3 (0 : Fin 1) k (y 1))) = _
  congr 1
  funext a; apply Fin.ext
  refine (Window.rect_emb_val ((cfgM m hO).win 1) t _ a rfl).trans ?_
  have e := Cert.MoeDownI.t1_eq m (grid0.coords t)
  rw [if_pos hc] at e
  show cc0_transform_1 k0_off1_inb numel1_S1 inb_S1_S1_0 (tbl m) (grid0.coords t) a * _ + _ = _
  rw [e, blk_at]
  have h8 := hb (grid0.coords t 0)
  match a with
  | ⟨0, _⟩ =>
    show (be m (grid0.coords t 0)).toNat * 1 + 0 = (be m (grid0.coords t 0)).toNat % 8
    omega
  | ⟨1, _⟩ => show 0 * 4096 + k.val = k.val; omega
  | ⟨2, _⟩ => exact (at2_1 m hO t y).symm

include hb h1 h2 in
/-- What point `t` leaves in its block is the result's function there. -/
theorem outs_apply (c : Dev nD) (t : Fin (cfgM m hO).N) (y : S512x512.Idx) :
    (outsAt m hO c t y : EReal) = G (V m c main_arg0) (V m c main_v0) (tbl m 0) (nu m) (at2 m hO t y) := by
  unfold outsAt G
  by_cases hc : (BitVec.ofNat 32 (grid0.coords t 0).val).slt (nu m) = true
  · have hc' : (BitVec.ofNat 32 (blk (at2 m hO t y 0)).val).slt (nu m) = true := by rw [blk_at]; exact hc
    refine (congrFun (if_pos hc) y).trans (Eq.trans ?_ (if_pos hc').symm)
    refine (outRun_apply _ _ y).trans ?_
    exact (Finset.sum_congr rfl fun k _ => congrArg₂ (fun a b : EReal => a * b) (iblk0_apply m h1 h2 hO c t hc y k) (iblk1_apply m hb hO c t hc y k))
  · have hc' : ¬(BitVec.ofNat 32 (blk (at2 m hO t y 0)).val).slt (nu m) = true := by rw [blk_at]; exact hc
    exact (congrFun (if_neg hc) y).trans ((outZero_apply y).trans (if_neg hc').symm)

include hb h1 h2 in
theorem flushed_eq (c : Dev nD) (t : Fin (cfgM m hO).N) :
    (dats m hO 0 c).flushed 2 t = (((cfgM m hO).win 2).blk t).view.read (Elt Ideal) (G (V m c main_arg0) (V m c main_v0) (tbl m 0) (nu m)) := by
  show ((cfgM m hO).win 2).cut (grid0.coords t) ((dats m hO 0 c).after 2 t) = _
  rw [Cert.MoeDownI.after2]
  exact funext fun y => outs_apply m hb h1 h2 hO c t y

theorem flush2 (t : Fin (cfgM m hO).N) : ((cfgM m hO).win 2).flush t = true :=
  (Window.flushOf_reads (G := grid0) cc0_transform_2 (fun _ => true) (fun _ _ h => congrArg _ (funext fun a => h a rfl)) 1 (by decide) (by decide)
    (Window.sep_of_coord cc0_transform_2 1 1 (fun _ => rfl) (by decide)) (P := 1) (m := 0) (by decide) rfl t).mpr (Nat.mod_one _)

/-- Every index of the result is in some point's block. -/
theorem cover (i : S20480x4096.Idx) :
    ∃ t : Fin (cfgM m hO).N, ((cfgM m hO).win 2).flush t = true ∧ i ∈ (((cfgM m hO).win 2).blk t).view.set := by
  have h0 : (i 0 : Nat) < 20480 := (i 0).isLt
  have h1 : (i 1 : Nat) < 4096 := (i 1).isLt
  obtain ⟨t, ht⟩ := Pipeline.Grid.coords_surjective grid0 (fun a => match a with
    | ⟨0, _⟩ => (⟨(i 0).val / 512, by show _ < 40; omega⟩ : Fin 40)
    | ⟨1, _⟩ => (⟨(i 1).val / 512, by show _ < 8; omega⟩ : Fin 8))
  refine ⟨t, flush2 m hO t, ?_⟩
  have e : ((cfgM m hO).win 2).index t = ![(i 0).val / 512, (i 1).val / 512] := by
    show cc0_transform_2 (grid0.coords t) = _
    rw [ht]
    show ![(BitVec.ofNat 32 ((i 0).val / 512)).toNat, (BitVec.ofNat 32 ((i 1).val / 512)).toNat] = _
    rw [BitVec.toNat_ofNat, BitVec.toNat_ofNat, Nat.mod_eq_of_lt (by omega), Nat.mod_eq_of_lt (by omega)]
  have hm : i ∈ (((cfgM m hO).win 2).rect t : Rect S20480x4096).set := by
    refine (Rect.mem_set_unit (s := S20480x4096)).2 (fun a => ?_)
    match a with
    | ⟨0, _⟩ =>
      show ((cfgM m hO).win 2).index t (0 : Fin 2) * 512 ≤ (i 0 : Nat) ∧ (i 0 : Nat) < ((cfgM m hO).win 2).index t (0 : Fin 2) * 512 + 512
      rw [e]; show (i 0).val / 512 * 512 ≤ _ ∧ _ < (i 0).val / 512 * 512 + 512; omega
    | ⟨1, _⟩ =>
      show ((cfgM m hO).win 2).index t (1 : Fin 2) * 512 ≤ (i 1 : Nat) ∧ (i 1 : Nat) < ((cfgM m hO).win 2).index t (1 : Fin 2) * 512 + 512
      rw [e]; show (i 1).val / 512 * 512 ≤ _ ∧ _ < (i 1).val / 512 * 512 + 512; omega
  exact (Finset.ext_iff.1 (View.set_slice_whole main_v1 (((cfgM m hO).win 2).rect t : Rect S20480x4096)) i).2 hm

theorem V_v0 (c : Dev nD) : V m c main_v0 = m ((c : Thread nD τ).loc main_arg1) := by
  have h : V m c main_v0 = truncf (F := Ideal) (s := S8x4096x4096) .bf16 (m ((c : Thread nD τ).loc main_arg1)) bitsLt_bf16_f32 := by
    show StableHlo.after hostOps0 _ _ = _
    after_results
  rw [h]; rfl

include hb h1 h2 in
theorem final (c : Dev nD) : (dats m hO 0 c).arrAt 2 (cfgM m hO).N
    = G (m ((c.tc : Thread nD τ).loc main_arg0)) (m ((c.tc : Thread nD τ).loc main_arg1)) (m ((c.tc : Thread nD τ).loc main_arg2)) (((m ((c.tc : Thread nD τ).loc main_arg3)) : S1.Idx → BitVec 32) (Shape.Idx.first (numel1_S1.symm ▸ Nat.one_pos))) := by
  obtain rfl : c = 0 := Subsingleton.elim _ _
  refine ((dats m hO 0 0).arrAt_eq_of_cover 2 _ (fun t _ => flushed_eq m hb h1 h2 hO 0 t) (cover m hO)).trans ?_
  rw [Cert.MoeDownI.V_main_arg0, V_v0, Cert.MoeDownI.nu_eq m, show (tbl m 0 : S40.Idx → BitVec 32) = m (((0 : Dev nD).tc : Thread nD τ).loc main_arg2) from Cert.MoeDownI.V_main_arg2 m 0]

/-! ## The claims -/

/-- What the precondition says of the tables, at any floats. -/
theorem ok_of {F : FTy → Type} [FloatOps F] (m : (ℓ : Loc nD τ sig) → Buf (Elt F) ℓ)
    (hp : Cert.Pre_blocks11.fn (F := F) (m (((0 : Dev nD).tc : Thread nD τ).loc main_arg0)) (m (((0 : Dev nD).tc : Thread nD τ).loc main_arg1)) (m (((0 : Dev nD).tc : Thread nD τ).loc main_arg2)) (m (((0 : Dev nD).tc : Thread nD τ).loc main_arg3)) = fun _ => 1#1) :
    (∀ b, (Cert.MoeDownI.be m b).toNat < 8) ∧ 1 ≤ (Cert.MoeDownI.nu m).toNat ∧ (Cert.MoeDownI.nu m).toNat ≤ 40 := by
  obtain ⟨ha, hn⟩ := Cert.MoeWords.pre11 (F := F) _ _ _ _ hp
  refine ⟨fun b => ?_, ?_⟩
  · rw [Cert.MoeDownI.be_eq]; exact ha _
  · rw [Cert.MoeDownI.nu_eq]; exact hn _

theorem frame_KI : quiescent_Kernel11Ideal := fun m ρ hp =>
  have h := ok_of (F := Ideal) m (hp 0)
  Cert.MoeDownI.frame m ρ (Cert.MoeDownI.ok m h.1 h.2.1 h.2.2)

theorem defs₀_eq {F : FTy → Type} [FloatOps F] : Cert.Kernel11.defs₀ (F := F) = defs₀ (F := F) := by
  unfold Cert.Kernel11.defs₀ defs₀
  congr 1
  funext l p
  match l, p with
  | ⟨0, _⟩, (t, s) => rfl

theorem defs_eq {F : FTy → Type} [FloatOps F] : Cert.Kernel11.defs (F := F) = defs (F := F) := by
  unfold Cert.Kernel11.defs
  rw [defs₀_eq]
  rfl

/-- The two programs have the one text, so the frame of the bits is the same run. -/
theorem frame_K : quiescent_Kernel11 := fun m ρ hp => by
  have h := ok_of (F := Bits) m (hp 0)
  rw [defs_eq]
  exact Cert.MoeDownI.frame (F := Bits) m ρ (Cert.MoeDownI.ok (F := Bits) m h.1 h.2.1 h.2.2)

theorem frame_RI : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference's term at an index. -/
theorem ref_apply (A : FVec Ideal S20480x4096 .bf16) (B : FVec Ideal S8x4096x4096 .f32) (be : S40.Idx → BitVec 32) (hbe : ∀ s, (be s).toNat < 8)
    (n : S1.Idx → BitVec 32) (z : S1.Idx) :
    shapeCast Cert.Reference11Ideal.S20480x4096 (select (broadcastInDim Cert.Reference11Ideal.S40x512x4096 ![0, 1, 2] Cert.Reference11Ideal.Gen.bcast_S40x1x1_S40x512x4096_0_1_2 (cmpi .slt (broadcastInDim Cert.Reference11Ideal.S40x1x1 ![0] Cert.Reference11Ideal.Gen.bcast_S40_S40x1x1_0 (iotaInDim Cert.Reference11Ideal.S40 32 0)) (broadcastInDim Cert.Reference11Ideal.S40x1x1 ![0, 1, 2] Cert.Reference11Ideal.Gen.bcast_S1x1x1_S40x1x1_0_1_2 (broadcastInDim Cert.Reference11Ideal.S1x1x1 ![2] Cert.Reference11Ideal.Gen.bcast_S1_S1x1x1_2 n)))) (Host.dotGeneral Cert.Reference11Ideal.dot_S40x512x4096_S40x4096x4096_S40x512x4096_2_1_1_2_0_0 none (shapeCast Cert.Reference11Ideal.S40x512x4096 (extf (F := Ideal) .f32 A Cert.Reference11Ideal.Gen.bitsLt_bf16_f32) Cert.Reference11Ideal.Gen.shapeCasts_S20480x4096_S40x512x4096) (Host.gather Cert.Reference11Ideal.gather_S8x4096x4096_S40x1_S40x4096x4096_12_0_n_n_0_1_140964096 B (broadcastInDim Cert.Reference11Ideal.S40x1 ![0] Cert.Reference11Ideal.Gen.bcast_S40_S40x1_0 (select (cmpi .slt be (broadcastInDim Cert.Reference11Ideal.S40 ![] Cert.Reference11Ideal.Gen.bcast_S_S40 (constantI Cert.Reference11Ideal.S_ 32 0#32))) (addi be (broadcastInDim Cert.Reference11Ideal.S40 ![] Cert.Reference11Ideal.Gen.bcast_S_S40 (constantI Cert.Reference11Ideal.S_ 32 8#32))) be)))) (broadcastInDim Cert.Reference11Ideal.S40x512x4096 ![] Cert.Reference11Ideal.Gen.bcast_S_S40x512x4096 (id (constant (F := Ideal) Cert.Reference11Ideal.S_ .f32 0x00000000#32)))) Cert.Reference11Ideal.Gen.shapeCasts_S40x512x4096_S20480x4096 = G A B be (n z) := by
  funext i
  have hi : (i 0).val < 20480 := (i 0).isLt
  refine (shapeCast_apply (α := EReal) _ Cert.Reference11Ideal.Gen.shapeCasts_S40x512x4096_S20480x4096 i (ix3 (blk (i 0)) (row (i 0)) (i 1)) ?_).trans ?_
  · rw [Shape.rowMajor_val_two, Shape.rowMajor_val_three]
    show ((i 0).val / 512 * 512 + (i 0).val % 512) * 4096 + (i 1).val = (i 0).val * 4096 + (i 1).val
    have := Nat.div_add_mod (i 0).val 512
    omega
  · have hcond : broadcastInDim Cert.Reference11Ideal.S40x512x4096 ![0, 1, 2] Cert.Reference11Ideal.Gen.bcast_S40x1x1_S40x512x4096_0_1_2 (cmpi .slt (broadcastInDim Cert.Reference11Ideal.S40x1x1 ![0] Cert.Reference11Ideal.Gen.bcast_S40_S40x1x1_0 (iotaInDim Cert.Reference11Ideal.S40 32 0)) (broadcastInDim Cert.Reference11Ideal.S40x1x1 ![0, 1, 2] Cert.Reference11Ideal.Gen.bcast_S1x1x1_S40x1x1_0_1_2 (broadcastInDim Cert.Reference11Ideal.S1x1x1 ![2] Cert.Reference11Ideal.Gen.bcast_S1_S1x1x1_2 n))) (ix3 (blk (i 0)) (row (i 0)) (i 1))
        = BitVec.ofBool ((BitVec.ofNat 32 (blk (i 0)).val).slt (n z)) := by
      refine (broadcastInDim_apply _ _ _ _ (ix3 (blk (i 0)) (0 : Fin 1) (0 : Fin 1)) (fun a => ?_)).trans ?_
      · match a with
        | ⟨0, _⟩ => rfl
        | ⟨1, _⟩ => rfl
        | ⟨2, _⟩ => rfl
      · refine congrArg₂ (fun a b : BitVec 32 => BitVec.ofBool (a.slt b)) ?_ ?_
        · refine (broadcastInDim_apply _ _ _ _ (ix1 (blk (i 0))) (fun a => ?_)).trans rfl
          match a with
          | ⟨0, _⟩ => rfl
        · exact congrArg n (Cert.MoeDownI.one_idx _ _)
    unfold G
    have hsel : ∀ (c : Bool) (x y : EReal), (if BitVec.ofBool c = 1#1 then x else y) = if c = true then x else y := fun c x y => by cases c <;> rfl
    refine (congrArg (fun c : BitVec 1 => if c = 1#1 then _ else _) hcond).trans ((hsel _ _ _).trans ?_)
    by_cases hc : (BitVec.ofNat 32 (blk (i 0)).val).slt (n z) = true
    · rw [if_pos hc, if_pos hc]
      exact host_mmE Cert.Reference11Ideal.Gen.dot_S40x512x4096_S40x4096x4096_S40x512x4096_2_1_1_2_0_0_wf Cert.Reference11Ideal.Gen.gather_S8x4096x4096_S40x1_S40x4096x4096_12_0_n_n_0_1_140964096_wf Cert.Reference11Ideal.Gen.shapeCasts_S20480x4096_S40x512x4096 Cert.Reference11Ideal.Gen.bcast_S40_S40x1_0 Cert.Reference11Ideal.Gen.bcast_S_S40 A B be hbe (i 0) (i 1)
    · rw [if_neg hc, if_neg hc]
      exact Ideal.ofBits_zero_f32

/-- The kernel's run: the result and the arguments. -/
theorem run (hp : Pre_Kernel11Ideal m) : θ_run defs (onTc (τ := τ) (main (F := Ideal))) ⟨m, fun _ => 0, ρ⟩ (fun r => ∀ c : Dev nD,
      r.2.mem ((c.tc : Thread nD τ).loc main_v1) = G (m ((c.tc : Thread nD τ).loc main_arg0)) (m ((c.tc : Thread nD τ).loc main_arg1)) (m ((c.tc : Thread nD τ).loc main_arg2)) (((m ((c.tc : Thread nD τ).loc main_arg3)) : S1.Idx → BitVec 32) (Shape.Idx.first (numel1_S1.symm ▸ Nat.one_pos)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  obtain ⟨hb, h1, h2⟩ := ok_of m (hp 0)
  have hO := Cert.MoeDownI.ok m hb h1 h2
  exact (θ_run defs _ _).mono (fun _ h c => ⟨((h c).1 2).trans (final m hb h1 h2 hO c),
      ((h c).1 0).trans (((dats m hO 0 c).arrAt_in 0 rfl _).trans ((Cert.MoeDownI.A_eq m hO c 0).trans (Cert.MoeDownI.V_main_arg0 m c))),
      ((h c).2 main_arg1 (by decide : main_arg1 ∈ Pipeline.restRefs sig spec0)).trans (Cert.MoeDownI.V_main_arg1 m c),
      ((h c).2 main_arg2 (by decide : main_arg2 ∈ Pipeline.restRefs sig spec0)).trans (Cert.MoeDownI.V_main_arg2 m c),
      ((h c).2 main_arg3 (by decide : main_arg3 ∈ Pipeline.restRefs sig spec0)).trans (Cert.MoeDownI.V_main_arg3 m c)⟩) (Cert.MoeDownI.run_main m ρ hO)

theorem value : algebraic_Kernel11Ideal_Reference11Ideal := fun m g m' g' hp hm =>
  ⟨fun c => G (m ((c.tc : Thread nD τ).loc main_arg0)) (m ((c.tc : Thread nD τ).loc main_arg1)) (m ((c.tc : Thread nD τ).loc main_arg2)) (((m ((c.tc : Thread nD τ).loc main_arg3)) : S1.Idx → BitVec 32) (Shape.Idx.first (numel1_S1.symm ▸ Nat.one_pos))),
    run m g hp,
    (θ_run Cert.Reference11Ideal.defs _ _).mono (fun r h c => ⟨(h c).1.trans (by
        rw [(hm c).1, (hm c).2.1, (hm c).2.2.1, (hm c).2.2.2]
        exact ref_apply (m ((c.tc : Thread nD τ).loc main_arg0)) (m ((c.tc : Thread nD τ).loc main_arg1)) (m ((c.tc : Thread nD τ).loc main_arg2)) (Cert.MoeWords.pre11 (F := Ideal) _ _ _ _ (hp c)).1 (m ((c.tc : Thread nD τ).loc main_arg3)) _), (h c).2⟩)
      (Cert.Reference11Ideal.Value.run (F := Ideal) m' g')⟩

end Cert.MoeDown

end
-- ==== Proof.NormRef.lean ====
/- The reference of the layer's norm at an index: the row over the root of its mean square, times the gain, scaled and
   shifted by the modulation's row of the image or of the text. -/
module

public import proofs.«01_k».proof.Proof.Gen.Reference12Ideal.Run
public import Idealize.ShloMosaic.Lib.Pointwise

@[expose] public section

set_option maxRecDepth 16384

noncomputable section

namespace Cert.NormRef

open Cert.Reference12Ideal Cert.Reference12Ideal.Gen Idealize.ShloMosaic
open scoped BigOperators

/-- One over the root of a row's mean square. -/
def rms (x : S8448x4096.Idx → EReal) (r : Fin 8448) : EReal :=
  Ideal.rsqrt (Ideal.div (∑ k : Fin 4096, x (ix2 r k) * x (ix2 r k)) (Ideal.ofBits .f32 0x45800000#32) + Ideal.ofBits .f32 0x358637BD#32)

/-- The row `l` of the modulation at a column, as the row `r` of the stream meets it. -/
def out (x : S8448x4096.Idx → EReal) (g : S4096.Idx → EReal) (md : S8x24576.Idx → EReal) (l : Fin 8) (r : Fin 8448) (j : Fin 4096) : EReal :=
  x (ix2 r j) * rms x r * g (ix1 j) * (Ideal.ofBits .f32 0x3F800000#32 + md (ix2 l ⟨4096 + j.val, by omega⟩)) + md (ix2 l ⟨j.val, by omega⟩)

/-- The result as a function of the stream, the gain and the modulation. -/
def G (x : S8448x4096.Idx → EReal) (g : S4096.Idx → EReal) (md : S8x24576.Idx → EReal) : S8448x4096.Idx → EReal := fun i =>
  if 8192 ≤ (i 0).val then out x g md 1 (i 0) (i 1) else out x g md 0 (i 0) (i 1)

/-- The image's rows. -/
def hLat (x : FVec Ideal S8448x4096 .f32) (g : FVec Ideal S4096 .f32) (md : FVec Ideal S8x24576 .f32) : FVec Ideal S8192x4096 .f32 :=
  addf (mulf (mulf (mulf (extractStridedSlice S8192x4096 ![0, 0] x slices_S8448x4096_S8192x4096_0_0) (broadcastInDim S8192x4096 ![0, 1] bcast_S8192x1_S8192x4096_0_1 (Host.rsqrt (addf (Host.divf (broadcastInDim S8192x1 ![0] bcast_S8192_S8192x1_0 (Host.reduceAdd (mulf (extractStridedSlice S8192x4096 ![0, 0] x slices_S8448x4096_S8192x4096_0_0) (extractStridedSlice S8192x4096 ![0, 0] x slices_S8448x4096_S8192x4096_0_0)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))) (broadcastInDim S8192x4096 ![0, 1] bcast_S1x4096_S8192x4096_0_1 (broadcastInDim S1x4096 ![1] bcast_S4096_S1x4096_1 (addf (broadcastInDim S4096 ![] bcast_S_S4096 (constant S_ .f32 0x3F800000#32)) (extractStridedSlice S4096 ![4096] (shapeCast _ (extractStridedSlice S1x24576 ![0, 0] md slices_S8x24576_S1x24576_0_0) shapeCasts_S1x24576_S24576) slices_S24576_S4096_4096))))) (broadcastInDim S8192x4096 ![0, 1] bcast_S1x4096_S8192x4096_0_1 (broadcastInDim S1x4096 ![1] bcast_S4096_S1x4096_1 (extractStridedSlice S4096 ![0] (shapeCast _ (extractStridedSlice S1x24576 ![0, 0] md slices_S8x24576_S1x24576_0_0) shapeCasts_S1x24576_S24576) slices_S24576_S4096_0)))

theorem hLat_apply (x : FVec Ideal S8448x4096 .f32) (g : FVec Ideal S4096 .f32) (md : FVec Ideal S8x24576 .f32) (r : Fin 8192) (j : Fin 4096) :
    hLat x g md (ix2 r j) = out x g md 0 ⟨r.val, by omega⟩ j := by
  pointwise [hLat, out, rms]

/-- The text's rows. -/
def hCtx (x : FVec Ideal S8448x4096 .f32) (g : FVec Ideal S4096 .f32) (md : FVec Ideal S8x24576 .f32) : FVec Ideal S256x4096 .f32 :=
  addf (mulf (mulf (mulf (extractStridedSlice S256x4096 ![8192, 0] x slices_S8448x4096_S256x4096_8192_0) (broadcastInDim S256x4096 ![0, 1] bcast_S256x1_S256x4096_0_1 (Host.rsqrt (addf (Host.divf (broadcastInDim S256x1 ![0] bcast_S256_S256x1_0 (Host.reduceAdd (mulf (extractStridedSlice S256x4096 ![8192, 0] x slices_S8448x4096_S256x4096_8192_0) (extractStridedSlice S256x4096 ![8192, 0] x slices_S8448x4096_S256x4096_8192_0)) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 (broadcastInDim S1x4096 ![1] bcast_S4096_S1x4096_1 g))) (broadcastInDim S256x4096 ![0, 1] bcast_S1x4096_S256x4096_0_1 (broadcastInDim S1x4096 ![1] bcast_S4096_S1x4096_1 (addf (broadcastInDim S4096 ![] bcast_S_S4096 (constant S_ .f32 0x3F800000#32)) (extractStridedSlice S4096 ![4096] (shapeCast _ (extractStridedSlice S1x24576 ![1, 0] md slices_S8x24576_S1x24576_1_0) shapeCasts_S1x24576_S24576) slices_S24576_S4096_4096))))) (broadcastInDim S256x4096 ![0, 1] bcast_S1x4096_S256x4096_0_1 (broadcastInDim S1x4096 ![1] bcast_S4096_S1x4096_1 (extractStridedSlice S4096 ![0] (shapeCast _ (extractStridedSlice S1x24576 ![1, 0] md slices_S8x24576_S1x24576_1_0) shapeCasts_S1x24576_S24576) slices_S24576_S4096_0)))

theorem hCtx_apply (x : FVec Ideal S8448x4096 .f32) (g : FVec Ideal S4096 .f32) (md : FVec Ideal S8x24576 .f32) (r : Fin 256) (j : Fin 4096) :
    hCtx x g md (ix2 r j) = out x g md 1 ⟨8192 + r.val, by omega⟩ j := by
  pointwise [hCtx, out, rms]

/-- The two put end to end. -/
theorem ref_apply (x : FVec Ideal S8448x4096 .f32) (g : FVec Ideal S4096 .f32) (md : FVec Ideal S8x24576 .f32) :
    truncf (F := Ideal) .bf16 (concatenate S8448x4096 0 [⟨S8192x4096, hLat x g md⟩, ⟨S256x4096, hCtx x g md⟩]
      concatenates_S8192x4096_S256x4096_S8448x4096_d0) bitsLt_bf16_f32 = G x g md := by
  funext i
  have hi0 : (i 0).val < 8448 := (i 0).isLt
  show concatenate S8448x4096 0 [⟨S8192x4096, hLat x g md⟩, ⟨S256x4096, hCtx x g md⟩]
      concatenates_S8192x4096_S256x4096_S8448x4096_d0 i = _
  unfold G
  by_cases h : 8192 ≤ (i 0).val
  · rw [if_pos h]
    refine (concatenate_pair_apply_right (t := S8448x4096) 0 (hLat x g md) (hCtx x g md) _ i rfl rfl (ix2 ⟨(i 0).val - 8192, by omega⟩ (i 1)) ?_ ?_).trans ?_
    · intro b hb
      match b with
      | ⟨0, _⟩ => exact absurd rfl hb
      | ⟨1, _⟩ => rfl
    · show (i 0).val - 8192 + 8192 = (i 0).val; omega
    · refine (hCtx_apply x g md ⟨(i 0).val - 8192, by omega⟩ (i 1)).trans ?_
      exact congrArg (fun r : Fin 8448 => out x g md 1 r (i 1)) (Fin.ext (by show 8192 + ((i 0).val - 8192) = (i 0).val; omega))
  · rw [if_neg h]
    refine (concatenate_pair_apply_left (t := S8448x4096) 0 (hLat x g md) (hCtx x g md) _ i rfl (ix2 ⟨(i 0).val, by omega⟩ (i 1)) ?_).trans ?_
    · intro b
      match b with
      | ⟨0, _⟩ => rfl
      | ⟨1, _⟩ => rfl
    · exact hLat_apply x g md ⟨(i 0).val, by omega⟩ (i 1)

end Cert.NormRef

end
-- ==== Proof.Norm.lean ====
/- The layer's norm with its scale and shift: the call's result and the reference's are the same function of the residual
   stream, the gain and the modulation, at the ideal floats, and the frames of both. -/
module

public import proofs.«01_k».proof.Defs
public import proofs.«01_k».proof.Proof.NormRef
public import proofs.«01_k».proof.Proof.Gen.Kernel12.Frame
public import proofs.«01_k».proof.Proof.Gen.Kernel12Ideal.Value
public import Idealize.ShloMosaic.Lib.WordCmp
public import Idealize.ShloMosaic.Lib.Pipeline.Value
public import Idealize.ShloMosaic.Lib.Pipeline.Covers
public import Idealize.ShloMosaic.Lib.Pipeline.ValueKit.Tiles
public import Idealize.ShloMosaic.Lib.Pointwise

@[expose] public section

set_option maxRecDepth 16384

noncomputable section

namespace Cert.Norm

open Cert.Kernel12Ideal Cert.Kernel12Ideal.Gen Idealize.ShloMosaic Idealize.ShloMosaic.TcCoe Idealize.SL.Sem
open Cert.NormRef (rms out G)
open Idealize.ShloMosaic.Pipeline (Dat Window)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- An index of a block is the pair of its coordinates. -/
theorem eta (y : S256x4096.Idx) : y = ix2 (y 0) (y 1) := by
  funext a
  match a with
  | ⟨0, _⟩ => rfl
  | ⟨1, _⟩ => rfl

/-- The choice between two values by the row of the whole array, of row `r` of block `b`. -/
theorem select_row (b r : Nat) (hb : b < 33) (hr : r < 256) (u v : EReal) :
    Scalar.select (IntOp.cmpi .sge (IntOp.addi (Scalar.muli (BitVec.ofNat 32 b) 256#32) (BitVec.ofNat 32 r)) 8192#32) u v
      = if 8192 ≤ b * 256 + r then u else v := by
  have e : IntOp.addi (Scalar.muli (BitVec.ofNat 32 b) 256#32) (BitVec.ofNat 32 r) = BitVec.ofNat 32 (b * 256 + r) := by
    show BitVec.ofNat 32 b * BitVec.ofNat 32 256 + BitVec.ofNat 32 r = _
    apply BitVec.eq_of_toNat_eq
    rw [BitVec.toNat_add, BitVec.toNat_mul, BitVec.toNat_ofNat, BitVec.toNat_ofNat, BitVec.toNat_ofNat, BitVec.toNat_ofNat]
    omega
  rw [e]
  have k : IntOp.cmpi .sge (BitVec.ofNat 32 (b * 256 + r)) (BitVec.ofNat 32 8192) = 1#1 ↔ 8192 ≤ b * 256 + r :=
    WordCmp.cmpi_sge_ofNat_eq_one_iff (by omega) (by decide)
  unfold Scalar.select
  by_cases h : 8192 ≤ b * 256 + r
  · rw [if_pos h]; exact if_pos (k.mpr h)
  · rw [if_neg h]; exact if_neg (fun q => h (k.mp q))

theorem pay2_apply (x : Vec Ideal S256x4096 .f32) (g : Vec Ideal S1x4096 .f32) (r : Fin 256) (j : Fin 4096) :
    k0_pay2 (F := Ideal) x g (ix2 r j) = x (ix2 r j) * Ideal.rsqrt (Ideal.div (∑ k : Fin 4096, x (ix2 r k) * x (ix2 r k))
      (Ideal.ofBits .f32 0x45800000#32) + Ideal.ofBits .f32 0x358637BD#32) * g (ix2 0 j) := by
  pointwise [k0_pay2]

theorem pay4_apply (i : grid0.Coords) (x y : Vec Ideal S1x4096 .f32) (r : Fin 256) (j : Fin 4096) :
    k0_pay4 (F := Ideal) i x y (ix2 r j) = if 8192 ≤ (i 0).val * 256 + r.val then x (ix2 0 j) else y (ix2 0 j) := by
  pointwise [k0_pay4, k0_pay3]
  exact select_row _ _ (i 0).isLt r.isLt _ _

theorem pay5_apply (i : grid0.Coords) (x y : Vec Ideal S1x4096 .f32) (r : Fin 256) (j : Fin 4096) :
    k0_pay5 (F := Ideal) i x y (ix2 r j) = Ideal.ofBits .f32 0x3F800000#32 + if 8192 ≤ (i 0).val * 256 + r.val then x (ix2 0 j) else y (ix2 0 j) := by
  pointwise [k0_pay5, k0_pay3]
  exact congrArg _ (select_row _ _ (i 0).isLt r.isLt _ _)

theorem emb4_val (t : Fin cfg0.N) (y : S256x4096.Idx) (a : Fin 2) :
    ((((cfg0.win 4).blk t).view.emb y) a : Nat) = win0_4.index t a * S256x4096.size a + y a :=
  Window.rect_emb_val win0_4 t y a rfl

theorem index0 (t : Fin cfg0.N) : win0_4.index t 0 = (grid0.coords t 0).val := by
  have h : (grid0.coords t 0).val < 33 := (grid0.coords t 0).isLt
  show (BitVec.ofNat 32 (grid0.coords t 0).val).toNat = _
  rw [BitVec.toNat_ofNat, Nat.mod_eq_of_lt (by omega)]

/-- The row of the whole array of row `r` of the point's block. -/
def row (t : Fin cfg0.N) (r : Fin 256) : Fin 8448 :=
  ⟨(grid0.coords t 0).val * 256 + r.val, by have h : (grid0.coords t 0).val < 33 := (grid0.coords t 0).isLt; omega⟩

theorem emb4 (t : Fin cfg0.N) (y : S256x4096.Idx) : ((cfg0.win 4).blk t).view.emb y = ix2 (row t (y 0)) (y 1) := by
  funext a; apply Fin.ext
  refine (emb4_val t y a).trans ?_
  match a with
  | ⟨0, _⟩ => show win0_4.index t 0 * 256 + (y 0).val = _; rw [index0]; rfl
  | ⟨1, _⟩ => show 0 * 4096 + (y 1).val = (y 1).val; omega

theorem iblk0_apply (c : Dev nD) (t : Fin cfg0.N) (r : Fin 256) (k : Fin 4096) :
    iblk m c 0 t (ix2 r k) = V m c main_arg0 (ix2 (row t r) k) := by
  show V m c main_arg0 (((cfg0.win 0).blk t).view.emb (ix2 r k)) = _
  congr 1
  funext a; apply Fin.ext
  refine (Window.rect_emb_val win0_0 t _ a rfl).trans ?_
  match a with
  | ⟨0, _⟩ => show win0_4.index t 0 * 256 + r.val = _; rw [index0]; rfl
  | ⟨1, _⟩ => show 0 * 4096 + k.val = k.val; omega

theorem iblk1_apply (c : Dev nD) (t : Fin cfg0.N) (j : Fin 4096) :
    iblk m c 1 t (ix2 0 j) = V m c main_v0 (ix2 0 j) := by
  show V m c main_v0 (((cfg0.win 1).blk t).view.emb (ix2 0 j)) = _
  congr 1
  funext a; apply Fin.ext
  refine (Window.rect_emb_val win0_1 t _ a rfl).trans ?_
  match a with
  | ⟨0, _⟩ => rfl
  | ⟨1, _⟩ => show 0 * 4096 + j.val = j.val; omega

/-- The modulation's shift at row `l`. -/
theorem iblk2_apply (c : Dev nD) (t : Fin cfg0.N) (l : Fin 8) (j : Fin 4096) :
    iblk m c 2 t (ix2 l j) = V m c main_arg2 (ix2 l ⟨j.val, by omega⟩) := by
  show V m c main_arg2 (((cfg0.win 2).blk t).view.emb (ix2 l j)) = _
  congr 1
  funext a; apply Fin.ext
  refine (Window.rect_emb_val win0_2 t _ a rfl).trans ?_
  match a with
  | ⟨0, _⟩ => show 0 * 8 + l.val = l.val; omega
  | ⟨1, _⟩ => show 0 * 4096 + j.val = j.val; omega

/-- The modulation's scale at row `l`. -/
theorem iblk3_apply (c : Dev nD) (t : Fin cfg0.N) (l : Fin 8) (j : Fin 4096) :
    iblk m c 3 t (ix2 l j) = V m c main_arg2 (ix2 l ⟨4096 + j.val, by omega⟩) := by
  show V m c main_arg2 (((cfg0.win 3).blk t).view.emb (ix2 l j)) = _
  congr 1
  funext a; apply Fin.ext
  refine (Window.rect_emb_val win0_3 t _ a rfl).trans ?_
  match a with
  | ⟨0, _⟩ => show 0 * 8 + l.val = l.val; omega
  | ⟨1, _⟩ => show 1 * 4096 + j.val = 4096 + j.val; omega

theorem ld_row (r : Nat) (hr : r < 8) (h : ∀ a, (![r, 0] : Fin 2 → Nat) a + S1x4096.size a ≤ S8x4096.size a) (x : Vec Ideal S8x4096 .f32) (j : Fin 4096) :
    View.ld x (Rect.unit (s := S8x4096) ![r, 0] S1x4096.size h) (ix2 0 j) = x (ix2 ⟨r, hr⟩ j) := by
  refine View.ld_unit_apply_of x _ _ h _ _ ?_
  intro a
  match a with
  | ⟨0, _⟩ => rfl
  | ⟨1, _⟩ => exact (Nat.zero_add _).symm

/-- The gain as the launch reads it, a row. -/
theorem V_v0 (c : Dev nD) (j : Fin 4096) : V m c main_v0 (ix2 0 j) = m ((c : Thread nD τ).loc main_arg1) (ix1 j) := by
  have h : V m c main_v0 = shapeCast S1x4096 (m ((c : Thread nD τ).loc main_arg1)) shapeCasts_S4096_S1x4096 := by
    show StableHlo.after hostOps0 _ _ = _
    after_results
    rfl
  rw [h]
  refine shapeCast_apply _ _ _ (ix1 j) ?_
  rw [Shape.rowMajor_val_two, Shape.rowMajor_val_one]
  show j.val = 0 * 4096 + j.val
  omega

/-- A row's sum of squares, read from the block and from the array. -/
theorem sq_congr (x : S256x4096.Idx → EReal) (X : S8448x4096.Idx → EReal) (r : Fin 256) (q : Fin 8448)
    (h : ∀ k : Fin 4096, x (ix2 r k) = X (ix2 q k)) :
    (∑ k : Fin 4096, x (ix2 r k) * x (ix2 r k)) = ∑ k : Fin 4096, X (ix2 q k) * X (ix2 q k) :=
  Finset.sum_congr rfl fun k _ => by rw [h k]

/-- The point's block at an index. -/
theorem block (c : Dev nD) (t : Fin cfg0.N) (r : Fin 256) (j : Fin 4096) :
    k0_pay1 (F := Ideal) (k0_pay2 (iblk m c 0 t) (iblk m c 1 t))
        (k0_pay4 (F := Ideal) (grid0.coords t) (View.ld (iblk m c 2 t) (Rect.unit (s := S8x4096) ![1, 0] S1x4096.size inb_S8x4096_S1x4096_1_0)) (View.ld (iblk m c 2 t) (Rect.unit (s := S8x4096) ![0, 0] S1x4096.size inb_S8x4096_S1x4096_0_0)))
        (k0_pay5 (F := Ideal) (grid0.coords t) (View.ld (iblk m c 3 t) (Rect.unit (s := S8x4096) ![1, 0] S1x4096.size inb_S8x4096_S1x4096_1_0)) (View.ld (iblk m c 3 t) (Rect.unit (s := S8x4096) ![0, 0] S1x4096.size inb_S8x4096_S1x4096_0_0))) (ix2 r j)
      = G (V m c main_arg0) (m ((c : Thread nD τ).loc main_arg1)) (V m c main_arg2) (ix2 (row t r) j) := by
  have h1 : k0_pay1 (F := Ideal) (k0_pay2 (iblk m c 0 t) (iblk m c 1 t))
        (k0_pay4 (F := Ideal) (grid0.coords t) (View.ld (iblk m c 2 t) (Rect.unit (s := S8x4096) ![1, 0] S1x4096.size inb_S8x4096_S1x4096_1_0)) (View.ld (iblk m c 2 t) (Rect.unit (s := S8x4096) ![0, 0] S1x4096.size inb_S8x4096_S1x4096_0_0)))
        (k0_pay5 (F := Ideal) (grid0.coords t) (View.ld (iblk m c 3 t) (Rect.unit (s := S8x4096) ![1, 0] S1x4096.size inb_S8x4096_S1x4096_1_0)) (View.ld (iblk m c 3 t) (Rect.unit (s := S8x4096) ![0, 0] S1x4096.size inb_S8x4096_S1x4096_0_0))) (ix2 r j)
      = (k0_pay2 (F := Ideal) (iblk m c 0 t) (iblk m c 1 t) (ix2 r j) * (k0_pay5 (F := Ideal) (grid0.coords t) (View.ld (iblk m c 3 t) (Rect.unit (s := S8x4096) ![1, 0] S1x4096.size inb_S8x4096_S1x4096_1_0)) (View.ld (iblk m c 3 t) (Rect.unit (s := S8x4096) ![0, 0] S1x4096.size inb_S8x4096_S1x4096_0_0))) (ix2 r j) + (k0_pay4 (F := Ideal) (grid0.coords t) (View.ld (iblk m c 2 t) (Rect.unit (s := S8x4096) ![1, 0] S1x4096.size inb_S8x4096_S1x4096_1_0)) (View.ld (iblk m c 2 t) (Rect.unit (s := S8x4096) ![0, 0] S1x4096.size inb_S8x4096_S1x4096_0_0))) (ix2 r j) : EReal) := rfl
  rw [h1, pay2_apply, pay4_apply, pay5_apply, ld_row 1 (by decide), ld_row 0 (by decide), ld_row 1 (by decide), ld_row 0 (by decide),
    iblk0_apply, iblk1_apply, V_v0, iblk2_apply, iblk2_apply, iblk3_apply, iblk3_apply]
  rw [sq_congr (iblk m c 0 t) (V m c main_arg0) r (row t r) (iblk0_apply m c t r)]
  show _ = if 8192 ≤ (grid0.coords t 0).val * 256 + r.val then _ else _
  by_cases h : 8192 ≤ (grid0.coords t 0).val * 256 + r.val
  · rw [if_pos h, if_pos h, if_pos h]
    rfl
  · rw [if_neg h, if_neg h, if_neg h]
    rfl

theorem flushed_eq (c : Dev nD) (t : Fin cfg0.N) :
    (dats m 0 c).flushed 4 t = ((cfg0.win 4).blk t).view.read (Elt Ideal)
      (G (V m c main_arg0) (m ((c : Thread nD τ).loc main_arg1)) (V m c main_arg2)) := by
  rw [Value.flushed4]
  unfold out0_4 r0_0 r0_1 r0_2 r0_3
  rw [View.canon_unit_zero hz, View.ld_unit_zero hz, View.ld_unit_zero hz]
  funext y
  refine (congrArg _ (eta y)).trans ((block m c t (y 0) (y 1)).trans ?_)
  exact (congrArg (G (V m c main_arg0) (m ((c : Thread nD τ).loc main_arg1)) (V m c main_arg2)) (emb4 t y)).symm

/-- Every index of the result is in some point's block. -/
theorem cover (i : S8448x4096.Idx) :
    ∃ t : Fin cfg0.N, (cfg0.win 4).flush t = true ∧ i ∈ ((cfg0.win 4).blk t).view.set := by
  have h0 : (i 0 : Nat) < 8448 := (i 0).isLt
  have h1 : (i 1 : Nat) < 4096 := (i 1).isLt
  obtain ⟨t, ht⟩ := Pipeline.Grid.coords_surjective grid0 (fun a => match a with
    | ⟨0, _⟩ => (⟨(i 0).val / 256, by show _ < 33; omega⟩ : Fin 33))
  refine ⟨t, flush0_4 t, ?_⟩
  show i ∈ ((View.whole main_v1).slice (win0_4.rect t)).set
  rw [View.set_slice_whole, Rect.mem_set_unit]
  have e : win0_4.index t = ![(i 0).val / 256, 0] := by
    show cc0_transform_4 (grid0.coords t) = _
    rw [ht]
    show ![(BitVec.ofNat 32 ((i 0).val / 256)).toNat, 0] = _
    rw [BitVec.toNat_ofNat, Nat.mod_eq_of_lt (by omega)]
  intro a
  match a with
  | ⟨0, _⟩ =>
    show win0_4.index t 0 * 256 ≤ (i 0 : Nat) ∧ (i 0 : Nat) < win0_4.index t 0 * 256 + 256
    rw [e]; show (i 0).val / 256 * 256 ≤ _ ∧ _ < (i 0).val / 256 * 256 + 256; omega
  | ⟨1, _⟩ =>
    show win0_4.index t 1 * 4096 ≤ (i 1 : Nat) ∧ (i 1 : Nat) < win0_4.index t 1 * 4096 + 4096
    rw [e]; show 0 * 4096 ≤ _ ∧ _ < 0 * 4096 + 4096; omega

theorem final (c : Dev nD) : (dats m 0 c).arrAt 4 cfg0.N
    = G (m ((c : Thread nD τ).loc main_arg0)) (m ((c : Thread nD τ).loc main_arg1)) (m ((c : Thread nD τ).loc main_arg2)) :=
  ((dats m 0 c).arrAt_eq_of_cover 4 _ (fun t _ => flushed_eq m c t) cover).trans (by rw [V_main_arg0, V_main_arg2])

/-! ## The claims -/

theorem frame_K : quiescent_Kernel12 := fun m ρ _ => Cert.Kernel12.Gen.frame m ρ
theorem frame_KI : quiescent_Kernel12Ideal := fun m ρ _ => Cert.Kernel12Ideal.Gen.frame m ρ
theorem frame_RI : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem value : algebraic_Kernel12Ideal_Reference12Ideal := fun m g m' g' _ hm =>
  ⟨fun c => G (m ((c.tc : Thread nD τ).loc main_arg0)) (m ((c.tc : Thread nD τ).loc main_arg1)) (m ((c.tc : Thread nD τ).loc main_arg2)),
    (θ_run Cert.Kernel12Ideal.defs _ _).mono (fun r h c => ⟨(h c).1.trans (final m c), (h c).2⟩)
      (Cert.Kernel12Ideal.Value.run_blocks (F := Ideal) m g),
    (θ_run Cert.Reference12Ideal.defs _ _).mono (fun r h c => ⟨(h c).1.trans (by
        rw [(hm c).1, (hm c).2.1, (hm c).2.2]
        exact NormRef.ref_apply _ _ _), (h c).2⟩)
      (Cert.Reference12Ideal.Value.run (F := Ideal) m' g')⟩

end Cert.Norm

end
-- ==== Proof.FinishRef.lean ====
/- The reference of the differential heads' finish at an index: the difference of the two averages, with the factor made of
   the four learned vectors, over the root of its mean square, times the gain and the constant. -/
module

public import proofs.«01_k».proof.Proof.Gen.Reference13Ideal.Run
public import Idealize.ShloMosaic.Lib.Pointwise

@[expose] public section

set_option maxRecDepth 16384

noncomputable section

namespace Cert.FinishRef

open Cert.Reference13Ideal Cert.Reference13Ideal.Gen Idealize.ShloMosaic
open scoped BigOperators

/-- The factor of the second average. -/
def lam (lp : S4x64.Idx → EReal) : EReal :=
  Ideal.exp (∑ k : Fin 64, lp (ix2 0 k) * lp (ix2 1 k)) - Ideal.exp (∑ k : Fin 64, lp (ix2 2 k) * lp (ix2 3 k)) + Ideal.ofBits .f32 0x3E4CCCCD#32

/-- The difference of head `h`'s averages at a row and a column. -/
def diff (x : S8448x2048.Idx → EReal) (lp : S4x64.Idx → EReal) (r : Fin 8448) (h : Fin 8) (j : Fin 128) : EReal :=
  x (ix2 r ⟨h.val * 256 + j.val, by omega⟩) - lam lp * x (ix2 r ⟨h.val * 256 + 128 + j.val, by omega⟩)

/-- The finished difference. -/
def out (x : S8448x2048.Idx → EReal) (lp : S4x64.Idx → EReal) (g : S128.Idx → EReal) (r : Fin 8448) (h : Fin 8) (j : Fin 128) : EReal :=
  diff x lp r h j * Ideal.rsqrt (Ideal.div (∑ k : Fin 128, diff x lp r h k * diff x lp r h k) (Ideal.ofBits .f32 0x43000000#32)
    + Ideal.ofBits .f32 0x358637BD#32) * g (ix1 j) * Ideal.ofBits .f32 0x3F4CCCCD#32

/-- The result as a function of the averages, the four vectors and the gain. -/
def G (x : S8448x2048.Idx → EReal) (lp : S4x64.Idx → EReal) (g : S128.Idx → EReal) : S8448x1024.Idx → EReal := fun i =>
  out x lp g (i 0) ⟨(i 1).val / 128, by have h : (i 1).val < 1024 := (i 1).isLt; omega⟩ ⟨(i 1).val % 128, Nat.mod_lt _ (by decide)⟩

/-- The factor as the reference makes it. -/
def lamT (lp : FVec Ideal S4x64 .f32) : FVec Ideal S_ .f32 :=
  addf (subf (Host.exp (Host.reduceAdd (mulf (shapeCast _ (extractStridedSlice S1x64 ![0, 0] lp slices_S4x64_S1x64_0_0) shapeCasts_S1x64_S64) (shapeCast _ (extractStridedSlice S1x64 ![1, 0] lp slices_S4x64_S1x64_1_0) shapeCasts_S1x64_S64)) (constant S_ .f32 0x00000000#32) reducesTo_S64_S_d0 h_S_)) (Host.exp (Host.reduceAdd (mulf (shapeCast _ (extractStridedSlice S1x64 ![2, 0] lp slices_S4x64_S1x64_2_0) shapeCasts_S1x64_S64) (shapeCast _ (extractStridedSlice S1x64 ![3, 0] lp slices_S4x64_S1x64_3_0) shapeCasts_S1x64_S64)) (constant S_ .f32 0x00000000#32) reducesTo_S64_S_d0 h_S_))) (constant S_ .f32 0x3E4CCCCD#32)

theorem lamT_apply (lp : FVec Ideal S4x64 .f32) (i : S_.Idx) : lamT lp i = lam lp := by
  pointwise [lamT, lam]

/-- The difference as the reference makes it. -/
def dif (x : FVec Ideal S8448x2048 .f32) (lp : FVec Ideal S4x64 .f32) : FVec Ideal S8448x8x128 .f32 :=
  subf (shapeCast _ (extractStridedSlice S8448x8x1x128 ![0, 0, 0, 0] (shapeCast _ x shapeCasts_S8448x2048_S8448x8x2x128) slices_S8448x8x2x128_S8448x8x1x128_0_0_0_0) shapeCasts_S8448x8x1x128_S8448x8x128) (mulf (broadcastInDim S8448x8x128 ![] bcast_S_S8448x8x128 (lamT lp)) (shapeCast _ (extractStridedSlice S8448x8x1x128 ![0, 0, 1, 0] (shapeCast _ x shapeCasts_S8448x2048_S8448x8x2x128) slices_S8448x8x2x128_S8448x8x1x128_0_0_1_0) shapeCasts_S8448x8x1x128_S8448x8x128))

theorem dif_apply (x : FVec Ideal S8448x2048 .f32) (lp : FVec Ideal S4x64 .f32) (r : Fin 8448) (h : Fin 8) (j : Fin 128) :
    dif x lp (ix3 r h j) = diff x lp r h j := by
  pointwise [dif, diff, lamT_apply]

/-- The reference's result. -/
def res (x : FVec Ideal S8448x2048 .f32) (lp : FVec Ideal S4x64 .f32) (g : FVec Ideal S128 .f32) : FVec Ideal S8448x1024 .bf16 :=
  truncf .bf16 (shapeCast _ (mulf (mulf (mulf (dif x lp) (broadcastInDim S8448x8x128 ![0, 1, 2] bcast_S8448x8x1_S8448x8x128_0_1_2 (Host.rsqrt (addf (Host.divf (broadcastInDim S8448x8x1 ![0, 1] bcast_S8448x8_S8448x8x1_0_1 (Host.reduceAdd (mulf (dif x lp) (dif x lp)) (constant S_ .f32 0x00000000#32) reducesTo_S8448x8x128_S8448x8_d2 h_S_)) (broadcastInDim S8448x8x1 ![] bcast_S_S8448x8x1 (constant S_ .f32 0x43000000#32))) (broadcastInDim S8448x8x1 ![] bcast_S_S8448x8x1 (constant S_ .f32 0x358637BD#32)))))) (broadcastInDim S8448x8x128 ![0, 1, 2] bcast_S1x1x128_S8448x8x128_0_1_2 (broadcastInDim S1x1x128 ![2] bcast_S128_S1x1x128_2 g))) (broadcastInDim S8448x8x128 ![] bcast_S_S8448x8x128 (constant S_ .f32 0x3F4CCCCD#32))) shapeCasts_S8448x8x128_S8448x1024) bitsLt_bf16_f32

theorem res_apply (x : FVec Ideal S8448x2048 .f32) (lp : FVec Ideal S4x64 .f32) (g : FVec Ideal S128 .f32) (r : Fin 8448) (h : Fin 8) (j : Fin 128) :
    res x lp g (ix2 r ⟨128 * h.val + j.val, by omega⟩) = out x lp g r h j := by
  pointwise [res, out, dif_apply]

theorem ref_apply (x : FVec Ideal S8448x2048 .f32) (lp : FVec Ideal S4x64 .f32) (g : FVec Ideal S128 .f32) : res x lp g = G x lp g := by
  funext i
  have h1 : (i 1).val < 1024 := (i 1).isLt
  have e : i = ix2 (i 0) ⟨128 * ((i 1).val / 128) + (i 1).val % 128, by omega⟩ := by
    funext a
    match a with
    | ⟨0, _⟩ => rfl
    | ⟨1, _⟩ => exact Fin.ext (Nat.div_add_mod _ _).symm
  exact (congrArg (res x lp g) e).trans (res_apply x lp g (i 0) ⟨(i 1).val / 128, by omega⟩ ⟨(i 1).val % 128, Nat.mod_lt _ (by decide)⟩)

end Cert.FinishRef

end
-- ==== Proof.Finish.lean ====
/- The differential heads' finish: the call's result and the reference's are the same function of the two averages, the four
   learned vectors and the gain, at the ideal floats, and the frames of both. -/
module

public import proofs.«01_k».proof.Defs
public import proofs.«01_k».proof.Proof.FinishRef
public import proofs.«01_k».proof.Proof.Gen.Kernel13.Frame
public import proofs.«01_k».proof.Proof.Gen.Kernel13Ideal.Value
public import Idealize.ShloMosaic.Lib.Pipeline.Value
public import Idealize.ShloMosaic.Lib.Pipeline.Covers
public import Idealize.ShloMosaic.Lib.Pipeline.ValueKit.Tiles
public import Idealize.ShloMosaic.Lib.Pointwise

@[expose] public section

set_option maxRecDepth 16384

noncomputable section

namespace Cert.Finish

open Cert.Kernel13Ideal Cert.Kernel13Ideal.Gen Idealize.ShloMosaic Idealize.ShloMosaic.TcCoe Idealize.SL.Sem
open Cert.FinishRef (lam diff out G)
open Idealize.ShloMosaic.Pipeline (Dat Window)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- An index of a block is the pair of its coordinates. -/
theorem eta (y : S256x128.Idx) : y = ix2 (y 0) (y 1) := by
  funext a
  match a with
  | ⟨0, _⟩ => rfl
  | ⟨1, _⟩ => rfl

/-- The finished difference of a block's row, from the factor and the two averages. -/
def fin (l : EReal) (a b : S256x128.Idx → EReal) (g : EReal) (r : Fin 256) (j : Fin 128) : EReal :=
  (a (ix2 r j) - l * b (ix2 r j)) * Ideal.rsqrt (Ideal.div (∑ k : Fin 128, (a (ix2 r k) - l * b (ix2 r k)) * (a (ix2 r k) - l * b (ix2 r k)))
    (Ideal.ofBits .f32 0x43000000#32) + Ideal.ofBits .f32 0x358637BD#32) * g * Ideal.ofBits .f32 0x3F4CCCCD#32

theorem pay_apply (lp : Vec Ideal S4x64 .f32) (a b : Vec Ideal S256x128 .f32) (g : Vec Ideal S1x128 .f32) (r : Fin 256) (j : Fin 128) :
    k0_pay1 (F := Ideal) lp a b g (ix2 r j) = fin (lam lp) a b (g (ix2 0 j)) r j := by
  pointwise [k0_pay1, fin, lam]

theorem emb3_val (t : Fin cfg0.N) (y : S256x128.Idx) (a : Fin 2) :
    ((((cfg0.win 3).blk t).view.emb y) a : Nat) = win0_3.index t a * S256x128.size a + y a :=
  Window.rect_emb_val win0_3 t y a rfl

theorem index0 (t : Fin cfg0.N) : win0_3.index t 0 = (grid0.coords t 0).val := by
  have h : (grid0.coords t 0).val < 33 := (grid0.coords t 0).isLt
  show (BitVec.ofNat 32 (grid0.coords t 0).val).toNat = _
  rw [BitVec.toNat_ofNat, Nat.mod_eq_of_lt (by omega)]

theorem index1 (t : Fin cfg0.N) : win0_3.index t 1 = (grid0.coords t 1).val := by
  have h : (grid0.coords t 1).val < 8 := (grid0.coords t 1).isLt
  show (BitVec.ofNat 32 (grid0.coords t 1).val).toNat = _
  rw [BitVec.toNat_ofNat, Nat.mod_eq_of_lt (by omega)]

/-- The row of the whole array of row `r` of the point's block. -/
def row (t : Fin cfg0.N) (r : Fin 256) : Fin 8448 :=
  ⟨(grid0.coords t 0).val * 256 + r.val, by have h : (grid0.coords t 0).val < 33 := (grid0.coords t 0).isLt; omega⟩

/-- The point's head. -/
def head (t : Fin cfg0.N) : Fin 8 := ⟨(grid0.coords t 1).val, (grid0.coords t 1).isLt⟩

theorem emb3 (t : Fin cfg0.N) (y : S256x128.Idx) :
    ((cfg0.win 3).blk t).view.emb y = ix2 (row t (y 0)) ⟨(head t).val * 128 + (y 1).val, by have h : (y 1).val < 128 := (y 1).isLt; have := (head t).isLt; omega⟩ := by
  funext a; apply Fin.ext
  refine (emb3_val t y a).trans ?_
  match a with
  | ⟨0, _⟩ => show win0_3.index t 0 * 256 + (y 0).val = _; rw [index0]; rfl
  | ⟨1, _⟩ => show win0_3.index t 1 * 128 + (y 1).val = _; rw [index1]; rfl

theorem iblk0_apply (c : Dev nD) (t : Fin cfg0.N) (r : Fin 256) (k : Fin 256) :
    iblk m c 0 t (ix2 r k) = V m c main_arg0 (ix2 (row t r) ⟨(head t).val * 256 + k.val, by omega⟩) := by
  show V m c main_arg0 (((cfg0.win 0).blk t).view.emb (ix2 r k)) = _
  congr 1
  funext a; apply Fin.ext
  refine (Window.rect_emb_val win0_0 t _ a rfl).trans ?_
  match a with
  | ⟨0, _⟩ => show win0_3.index t 0 * 256 + r.val = _; rw [index0]; rfl
  | ⟨1, _⟩ => show win0_3.index t 1 * 256 + k.val = _; rw [index1]; rfl

theorem iblk1_eq (c : Dev nD) (t : Fin cfg0.N) : iblk m c 1 t = V m c main_arg1 := by
  funext y
  show V m c main_arg1 (((cfg0.win 1).blk t).view.emb y) = _
  congr 1
  funext a; apply Fin.ext
  refine (Window.rect_emb_val win0_1 t _ a rfl).trans ?_
  match a with
  | ⟨0, _⟩ => show 0 * 4 + (y 0).val = (y 0).val; omega
  | ⟨1, _⟩ => show 0 * 64 + (y 1).val = (y 1).val; omega

theorem iblk2_apply (c : Dev nD) (t : Fin cfg0.N) (j : Fin 128) :
    iblk m c 2 t (ix2 0 j) = V m c main_v0 (ix2 0 j) := by
  show V m c main_v0 (((cfg0.win 2).blk t).view.emb (ix2 0 j)) = _
  congr 1
  funext a; apply Fin.ext
  refine (Window.rect_emb_val win0_2 t _ a rfl).trans ?_
  match a with
  | ⟨0, _⟩ => rfl
  | ⟨1, _⟩ => show 0 * 128 + j.val = j.val; omega

theorem ld_half (o : Nat) (ho : o + 128 ≤ 256) (h : ∀ a, (![0, o] : Fin 2 → Nat) a + S256x128.size a ≤ S256x256.size a) (x : Vec Ideal S256x256 .f32)
    (r : Fin 256) (j : Fin 128) :
    View.ld x (Rect.unit (s := S256x256) ![0, o] S256x128.size h) (ix2 r j) = x (ix2 r ⟨o + j.val, by omega⟩) := by
  refine View.ld_unit_apply_of x _ _ h _ _ ?_
  intro a
  match a with
  | ⟨0, _⟩ => exact (Nat.zero_add _).symm
  | ⟨1, _⟩ => rfl

/-- The gain as the launch reads it, a row. -/
theorem V_v0 (c : Dev nD) (j : Fin 128) : V m c main_v0 (ix2 0 j) = m ((c : Thread nD τ).loc main_arg2) (ix1 j) := by
  have h : V m c main_v0 = shapeCast S1x128 (m ((c : Thread nD τ).loc main_arg2)) shapeCasts_S128_S1x128 := by
    show StableHlo.after hostOps0 _ _ = _
    after_results
    rfl
  rw [h]
  refine shapeCast_apply _ _ _ (ix1 j) ?_
  rw [Shape.rowMajor_val_two, Shape.rowMajor_val_one]
  show j.val = 0 * 128 + j.val
  omega

/-- A block's finished difference is the whole array's, where its averages are. -/
theorem fin_eq (lp : S4x64.Idx → EReal) (a b : S256x128.Idx → EReal) (g : S128.Idx → EReal) (X : S8448x2048.Idx → EReal)
    (r : Fin 256) (q : Fin 8448) (h : Fin 8) (j : Fin 128)
    (ha : ∀ k : Fin 128, a (ix2 r k) = X (ix2 q ⟨h.val * 256 + k.val, by omega⟩))
    (hb : ∀ k : Fin 128, b (ix2 r k) = X (ix2 q ⟨h.val * 256 + 128 + k.val, by omega⟩)) :
    fin (lam lp) a b (g (ix1 j)) r j = out X lp g q h j := by
  have e : ∀ k : Fin 128, a (ix2 r k) - lam lp * b (ix2 r k) = diff X lp q h k := fun k => by
    unfold diff
    rw [ha k, hb k]
  unfold fin out
  simp only [e]

/-- The point's block at an index. -/
theorem block (c : Dev nD) (t : Fin cfg0.N) (r : Fin 256) (j : Fin 128) :
    k0_pay1 (F := Ideal) (iblk m c 1 t) (View.ld (iblk m c 0 t) (Rect.unit (s := S256x256) ![0, 0] S256x128.size inb_S256x256_S256x128_0_0))
        (View.ld (iblk m c 0 t) (Rect.unit (s := S256x256) ![0, 128] S256x128.size inb_S256x256_S256x128_0_128)) (iblk m c 2 t) (ix2 r j)
      = out (V m c main_arg0) (V m c main_arg1) (m ((c : Thread nD τ).loc main_arg2)) (row t r) (head t) j := by
  rw [pay_apply, iblk1_eq, iblk2_apply, V_v0]
  refine fin_eq _ _ _ _ _ _ _ _ _ (fun k => ?_) (fun k => ?_)
  · refine (ld_half 0 (by decide) _ _ r k).trans ((iblk0_apply m c t r _).trans ?_)
    refine congrArg (fun l : Fin 2048 => V m c main_arg0 (ix2 (row t r) l)) (Fin.ext ?_)
    show (head t).val * 256 + (0 + k.val) = _
    dsimp only; omega
  · refine (ld_half 128 (by decide) _ _ r k).trans ((iblk0_apply m c t r _).trans ?_)
    refine congrArg (fun l : Fin 2048 => V m c main_arg0 (ix2 (row t r) l)) (Fin.ext ?_)
    show (head t).val * 256 + (128 + k.val) = _
    dsimp only; omega

theorem flushed_eq (c : Dev nD) (t : Fin cfg0.N) :
    (dats m 0 c).flushed 3 t = ((cfg0.win 3).blk t).view.read (Elt Ideal)
      (G (V m c main_arg0) (V m c main_arg1) (m ((c : Thread nD τ).loc main_arg2))) := by
  rw [Value.flushed3]
  unfold out0_3 r0_0 r0_1 r0_2 r0_3 r0_4
  rw [View.canon_unit_zero hz, View.ld_unit_zero hz, View.ld_unit_zero hz]
  funext y
  have hy : (y 1).val < 128 := (y 1).isLt
  refine (congrArg _ (eta y)).trans ((block m c t (y 0) (y 1)).trans ?_)
  refine Eq.trans ?_ (congrArg (G (V m c main_arg0) (V m c main_arg1) (m ((c : Thread nD τ).loc main_arg2))) (emb3 t y)).symm
  unfold G
  refine congrArg₂ (fun h j => out (V m c main_arg0) (V m c main_arg1) (m ((c : Thread nD τ).loc main_arg2)) (row t (y 0)) h j) (Fin.ext ?_) (Fin.ext ?_)
  · show (head t).val = ((head t).val * 128 + (y 1).val) / 128; omega
  · show (y 1).val = ((head t).val * 128 + (y 1).val) % 128; omega

/-- Every index of the result is in some point's block. -/
theorem cover (i : S8448x1024.Idx) :
    ∃ t : Fin cfg0.N, (cfg0.win 3).flush t = true ∧ i ∈ ((cfg0.win 3).blk t).view.set := by
  have h0 : (i 0 : Nat) < 8448 := (i 0).isLt
  have h1 : (i 1 : Nat) < 1024 := (i 1).isLt
  obtain ⟨t, ht⟩ := Pipeline.Grid.coords_surjective grid0 (fun a => match a with
    | ⟨0, _⟩ => (⟨(i 0).val / 256, by show _ < 33; omega⟩ : Fin 33)
    | ⟨1, _⟩ => (⟨(i 1).val / 128, by show _ < 8; omega⟩ : Fin 8))
  refine ⟨t, flush0_3 t, ?_⟩
  show i ∈ ((View.whole main_v1).slice (win0_3.rect t)).set
  rw [View.set_slice_whole, Rect.mem_set_unit]
  have e : win0_3.index t = ![(i 0).val / 256, (i 1).val / 128] := by
    show cc0_transform_3 (grid0.coords t) = _
    rw [ht]
    show ![(BitVec.ofNat 32 ((i 0).val / 256)).toNat, (BitVec.ofNat 32 ((i 1).val / 128)).toNat] = _
    rw [BitVec.toNat_ofNat, BitVec.toNat_ofNat, Nat.mod_eq_of_lt (by omega), Nat.mod_eq_of_lt (by omega)]
  intro a
  match a with
  | ⟨0, _⟩ =>
    show win0_3.index t 0 * 256 ≤ (i 0 : Nat) ∧ (i 0 : Nat) < win0_3.index t 0 * 256 + 256
    rw [e]; show (i 0).val / 256 * 256 ≤ _ ∧ _ < (i 0).val / 256 * 256 + 256; omega
  | ⟨1, _⟩ =>
    show win0_3.index t 1 * 128 ≤ (i 1 : Nat) ∧ (i 1 : Nat) < win0_3.index t 1 * 128 + 128
    rw [e]; show (i 1).val / 128 * 128 ≤ _ ∧ _ < (i 1).val / 128 * 128 + 128; omega

theorem final (c : Dev nD) : (dats m 0 c).arrAt 3 cfg0.N
    = G (m ((c : Thread nD τ).loc main_arg0)) (m ((c : Thread nD τ).loc main_arg1)) (m ((c : Thread nD τ).loc main_arg2)) :=
  ((dats m 0 c).arrAt_eq_of_cover 3 _ (fun t _ => flushed_eq m c t) cover).trans (by rw [V_main_arg0, V_main_arg1])

/-! ## The claims -/

theorem frame_K : quiescent_Kernel13 := fun m ρ _ => Cert.Kernel13.Gen.frame m ρ
theorem frame_KI : quiescent_Kernel13Ideal := fun m ρ _ => Cert.Kernel13Ideal.Gen.frame m ρ
theorem frame_RI : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem value : algebraic_Kernel13Ideal_Reference13Ideal := fun m g m' g' _ hm =>
  ⟨fun c => G (m ((c.tc : Thread nD τ).loc main_arg0)) (m ((c.tc : Thread nD τ).loc main_arg1)) (m ((c.tc : Thread nD τ).loc main_arg2)),
    (θ_run Cert.Kernel13Ideal.defs _ _).mono (fun r h c => ⟨(h c).1.trans (final m c), (h c).2⟩)
      (Cert.Kernel13Ideal.Value.run_blocks (F := Ideal) m g),
    (θ_run Cert.Reference13Ideal.defs _ _).mono (fun r h c => ⟨(h c).1.trans (by
        unfold Cert.Reference13Ideal.Value.res_main_v40
        rw [(hm c).1, (hm c).2.1, (hm c).2.2]
        exact FinishRef.ref_apply _ _ _), (h c).2⟩)
      (Cert.Reference13Ideal.Value.run (F := Ideal) m' g')⟩

end Cert.Finish

end
-- ==== Proof.GateProj.lean ====
/- The projection into the mLSTM's gates: the call's result and the reference's are the same function of the tokens and of the
   weight, at the ideal floats, and the frames of both. -/
module

public import proofs.«01_k».proof.Defs
public import proofs.«01_k».proof.Proof.MatBlock
public import proofs.«01_k».proof.Proof.Gen.Kernel14.Frame
public import proofs.«01_k».proof.Proof.Gen.Kernel14Ideal.Value
public import proofs.«01_k».proof.Proof.Gen.Reference14Ideal.Run

@[expose] public section

set_option maxRecDepth 16384

noncomputable section

namespace Cert.GateProj

open Cert.Kernel14Ideal Cert.Kernel14Ideal.Gen Idealize.ShloMosaic Idealize.ShloMosaic.TcCoe Idealize.SL.Sem
open Idealize.ShloMosaic.ValueIdx Cert.MatBlock
open Idealize.ShloMosaic.Pipeline (Dat Window)

variable (m : (ℓ : Loc nD τ sig) → Buf (Elt Ideal) ℓ) (ρ : Dev nD → PrngReg)

/-- The result array as a function of the two arrays the launch reads. -/
def G (A : S8448x4096.Idx → EReal) (B : S4096x128.Idx → EReal) : S8448x128.Idx → EReal := fun i => mm A B (i 0) (i 1)

theorem pay_apply (x0 : Vec Ideal S768x4096 .bf16) (x1 : Vec Ideal S4096x128 .bf16) (y : S768x128.Idx) :
    k0_pay1 (F := Ideal) x0 x1 y = mm (M := 768) (K := 4096) (N := 128) x0 x1 (y 0) (y 1) := by
  unfold k0_pay1
  rw [shapeCast_self]
  exact kernel_mm (φ₁ := .bf16) (φ₂ := .bf16) none x0 x1 y

theorem emb2_val (t : Fin cfg0.N) (y : S768x128.Idx) (a : Fin 2) :
    ((((cfg0.win 2).blk t).view.emb y) a : Nat) = win0_2.index t a * S768x128.size a + y a :=
  Window.rect_emb_val win0_2 t y a rfl

theorem iblk0_apply (c : Dev nD) (t : Fin cfg0.N) (y : S768x128.Idx) (k : Fin 4096) :
    iblk m c 0 t (ix2 (y 0) k) = V m c main_arg0 (ix2 (((cfg0.win 2).blk t).view.emb y 0) k) := by
  show V m c main_arg0 (((cfg0.win 0).blk t).view.emb (ix2 (y 0) k)) = _
  congr 1
  funext a; apply Fin.ext
  refine (Window.rect_emb_val win0_0 t _ a rfl).trans ?_
  match a with
  | ⟨0, _⟩ => exact (emb2_val t y 0).symm
  | ⟨1, _⟩ => show 0 * 4096 + k.val = k.val; omega

theorem iblk1_apply (c : Dev nD) (t : Fin cfg0.N) (y : S768x128.Idx) (k : Fin 4096) :
    iblk m c 1 t (ix2 k (y 1)) = V m c main_v2 (ix2 k (((cfg0.win 2).blk t).view.emb y 1)) := by
  show V m c main_v2 (((cfg0.win 1).blk t).view.emb (ix2 k (y 1))) = _
  congr 1
  funext a; apply Fin.ext
  refine (Window.rect_emb_val win0_1 t _ a rfl).trans ?_
  match a with
  | ⟨0, _⟩ => show 0 * 4096 + k.val = k.val; omega
  | ⟨1, _⟩ => exact (emb2_val t y 1).symm

theorem flushed_eq (c : Dev nD) (t : Fin cfg0.N) :
    (dats m 0 c).flushed 2 t = ((cfg0.win 2).blk t).view.read (Elt Ideal) (G (V m c main_arg0) (V m c main_v2)) := by
  rw [Value.flushed2]
  unfold out0_2
  rw [View.canon_unit_zero hz, View.ld_unit_zero hz, View.ld_unit_zero hz]
  funext y
  refine (pay_apply _ _ y).trans ?_
  exact Finset.sum_congr rfl fun k _ => congrArg₂ (fun a b : EReal => a * b) (iblk0_apply m c t y k) (iblk1_apply m c t y k)

/-- Every index of the result is in some point's block. -/
theorem cover (i : S8448x128.Idx) :
    ∃ t : Fin cfg0.N, (cfg0.win 2).flush t = true ∧ i ∈ ((cfg0.win 2).blk t).view.set := by
  have h0 : (i 0 : Nat) < 8448 := (i 0).isLt
  have h1 : (i 1 : Nat) < 128 := (i 1).isLt
  obtain ⟨t, ht⟩ := Pipeline.Grid.coords_surjective grid0 (fun a => match a with
    | ⟨0, _⟩ => (⟨(i 0).val / 768, by show _ < 11; omega⟩ : Fin 11)
    | ⟨1, _⟩ => (⟨0, by show _ < 1; omega⟩ : Fin 1))
  refine ⟨t, flush0_2 t, ?_⟩
  show i ∈ ((View.whole main_v3).slice (win0_2.rect t)).set
  rw [View.set_slice_whole, Rect.mem_set_unit]
  have e : win0_2.index t = ![(i 0).val / 768, 0] := by
    show cc0_transform_2 (grid0.coords t) = _
    rw [ht]
    show ![(BitVec.ofNat 32 ((i 0).val / 768)).toNat, (BitVec.ofNat 32 0).toNat] = _
    rw [BitVec.toNat_ofNat, Nat.mod_eq_of_lt (by omega)]
    rfl
  intro a
  match a with
  | ⟨0, _⟩ =>
    show win0_2.index t 0 * 768 ≤ (i 0 : Nat) ∧ (i 0 : Nat) < win0_2.index t 0 * 768 + 768
    rw [e]; show (i 0).val / 768 * 768 ≤ _ ∧ _ < (i 0).val / 768 * 768 + 768; omega
  | ⟨1, _⟩ =>
    show win0_2.index t 1 * 128 ≤ (i 1 : Nat) ∧ (i 1 : Nat) < win0_2.index t 1 * 128 + 128
    rw [e]; show 0 * 128 ≤ _ ∧ _ < 0 * 128 + 128; omega

/-- The weight as the launch reads it: its last 48 columns, then zeros. -/
def cols (W : S4096x11824.Idx → EReal) : S4096x128.Idx → EReal := fun j =>
  if h : (j 1).val < 48 then W (ix2 (j 0) ⟨11776 + (j 1).val, by omega⟩) else 0

theorem cols_lt (W : S4096x11824.Idx → EReal) (k : Fin 4096) (n : Fin 128) (q : n.val < 48) :
    cols W (ix2 k n) = W (ix2 k ⟨11776 + n.val, by omega⟩) := dif_pos q

theorem cols_ge (W : S4096x11824.Idx → EReal) (k : Fin 4096) (n : Fin 128) (q : ¬ n.val < 48) :
    cols W (ix2 k n) = 0 := dif_neg q

/-- A matrix of 48 columns put before 80 columns of zeros, at an index. -/
theorem pad_at {R : Nat} (x : (⟨2, ![R, 48]⟩ : Shape).Idx → EReal) (h : (⟨2, ![R, 48]⟩ : Shape).Pads ![0, 0] ![0, 80] ![0, 0] ⟨2, ![R, 128]⟩)
    (hu : 0 < S_.numel) (j : (⟨2, ![R, 128]⟩ : Shape).Idx) :
    pad ⟨2, ![R, 128]⟩ ![0, 0] ![0, 80] ![0, 0] x (sitofp (F := Ideal) .f32 (constantI S_ 32 0#32)) h hu j
      = if q : (j 1).val < 48 then x (ix2 (j 0) ⟨(j 1).val, q⟩) else 0 := by
  by_cases q : (j 1).val < 48
  · rw [dif_pos q]
    refine pad_apply_of_inside _ _ _ x _ h hu j _ fun a => ?_
    match a with
    | ⟨0, _⟩ => show (j 0).val = 0 + (j 0).val * (0 + 1); omega
    | ⟨1, _⟩ => show (j 1).val = 0 + (j 1).val * (0 + 1); omega
  · rw [dif_neg q]
    refine (pad_apply_of_not_inside _ _ _ x _ h hu j 1 fun k => q ?_).trans ?_
    · have k2 : ((j 1).val - 0) / (0 + 1) < 48 := k.2.2
      omega
    · show (((0#32 : BitVec 32).toInt : ℝ) : EReal) = 0
      norm_num

theorem slice_at {R : Nat} (x : (⟨2, ![R, 11824]⟩ : Shape).Idx → EReal) (h : (⟨2, ![R, 11824]⟩ : Shape).Slices ![0, 11776] ⟨2, ![R, 48]⟩)
    (r : Fin R) (k : Fin 48) :
    extractStridedSlice ⟨2, ![R, 48]⟩ ![0, 11776] x h (ix2 r k) = x (ix2 r ⟨11776 + k.val, by omega⟩) :=
  extractStridedSlice_apply (s := ⟨2, ![R, 11824]⟩) (t := ⟨2, ![R, 48]⟩) _ x h _ _ fun a => by
    match a with
    | ⟨0, _⟩ => exact (Nat.zero_add _).symm
    | ⟨1, _⟩ => rfl

theorem V_v2 (c : Dev nD) : V m c main_v2 = cols (m ((c : Thread nD τ).loc main_arg1)) := by
  have h : V m c main_v2 = truncf (F := Ideal) .bf16 (pad S4096x128 ![0, 0] ![0, 80] ![0, 0]
      (extractStridedSlice S4096x48 ![0, 11776] (m ((c : Thread nD τ).loc main_arg1)) slices_S4096x11824_S4096x48_0_11776)
      (sitofp .f32 (constantI S_ 32 0#32)) pads_S4096x48_S4096x128_000_0800 h_S_) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
  rw [h]
  funext j
  refine (pad_at (R := 4096) _ pads_S4096x48_S4096x128_000_0800 h_S_ j).trans ?_
  unfold cols
  by_cases q : (j 1).val < 48
  · rw [dif_pos q, dif_pos q]; exact slice_at (R := 4096) _ _ _ _
  · rw [dif_neg q, dif_neg q]

theorem final (c : Dev nD) : (dats m 0 c).arrAt 2 cfg0.N = G (m ((c : Thread nD τ).loc main_arg0)) (cols (m ((c : Thread nD τ).loc main_arg1))) :=
  ((dats m 0 c).arrAt_eq_of_cover 2 _ (fun t _ => flushed_eq m c t) cover).trans (by rw [V_main_arg0, V_v2])

/-! ## The claims -/

theorem frame_K : quiescent_Kernel14 := fun m ρ _ => Cert.Kernel14.Gen.frame m ρ
theorem frame_KI : quiescent_Kernel14Ideal := fun m ρ _ => Cert.Kernel14Ideal.Gen.frame m ρ
theorem frame_RI : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The reference's term at an index. -/
theorem ref_apply (A : FVec Ideal S8448x4096 .bf16) (W : FVec Ideal S4096x11824 .f32) :
    pad Cert.Reference14Ideal.S8448x128 ![0, 0] ![0, 80] ![0, 0] (extractStridedSlice Cert.Reference14Ideal.S8448x48 ![0, 11776]
        (Host.dotGeneral Cert.Reference14Ideal.dot_S8448x4096_S4096x11824_S8448x11824_1_0_0_1_n_n none
          (extf .f32 A Cert.Reference14Ideal.Gen.bitsLt_bf16_f32) W)
        Cert.Reference14Ideal.Gen.slices_S8448x11824_S8448x48_0_11776) (sitofp (F := Ideal) .f32 (constantI S_ 32 0#32))
        Cert.Reference14Ideal.Gen.pads_S8448x48_S8448x128_000_0800 Cert.Reference14Ideal.Gen.h_S_ = G A (cols W) := by
  funext i
  refine (pad_at (R := 8448) _ Cert.Reference14Ideal.Gen.pads_S8448x48_S8448x128_000_0800 Cert.Reference14Ideal.Gen.h_S_ i).trans ?_
  unfold G mm
  by_cases q : (i 1).val < 48
  · rw [dif_pos q]
    refine (slice_at (R := 8448) _ _ _ _).trans ((host_mm (φ₁ := .f32) (φ₂ := .f32) none A W _).trans ?_)
    exact Finset.sum_congr rfl fun k _ => congrArg _ (cols_lt W k (i 1) q).symm
  · rw [dif_neg q]
    refine (Finset.sum_eq_zero fun k _ => ?_).symm
    exact (congrArg _ (cols_ge W k (i 1) q)).trans (mul_zero _)

theorem value : algebraic_Kernel14Ideal_Reference14Ideal := fun m g m' g' _ hm =>
  ⟨fun c => G (m ((c.tc : Thread nD τ).loc main_arg0)) (cols (m ((c.tc : Thread nD τ).loc main_arg1))),
    (θ_run Cert.Kernel14Ideal.defs _ _).mono (fun r h c => ⟨(h c).1.trans (final m c), (h c).2⟩)
      (Cert.Kernel14Ideal.Value.run_blocks (F := Ideal) m g),
    (θ_run Cert.Reference14Ideal.defs _ _).mono (fun r h c => ⟨(h c).1.trans (by rw [(hm c).1, (hm c).2]; exact ref_apply _ _), (h c).2⟩)
      (Cert.Reference14Ideal.Value.run (F := Ideal) m' g')⟩

end Cert.GateProj

end
-- ==== Proof.lean ====
module

public import proofs.«01_k».proof.Defs
public import proofs.«01_k».proof.Proof.GatherClaims
public import proofs.«01_k».proof.Proof.FfnUp
public import proofs.«01_k».proof.Proof.FfnDown
public import proofs.«01_k».proof.Proof.InProj
public import proofs.«01_k».proof.Proof.OutProj
public import proofs.«01_k».proof.Proof.Attn
public import proofs.«01_k».proof.Proof.Diff
public import proofs.«01_k».proof.Proof.MoeUp
public import proofs.«01_k».proof.Proof.MoeDown
public import proofs.«01_k».proof.Proof.Norm
public import proofs.«01_k».proof.Proof.Finish
public import proofs.«01_k».proof.Proof.GateProj
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Pre_blocks10
public import proofs.«01_k».proof.Proof.Gen.Pre_blocks11
public import proofs.«01_k».proof.Proof.Gen.Pre_finite9
public import proofs.«01_k».proof.Proof.Gen.Pre_finite8
public import proofs.«01_k».proof.Proof.Gen.Kernel10
public import proofs.«01_k».proof.Proof.Gen.Kernel10Ideal.Launch
public import proofs.«01_k».proof.Proof.Gen.Kernel10Ideal.Skeleton
public import proofs.«01_k».proof.Proof.Gen.Kernel11
public import proofs.«01_k».proof.Proof.Gen.Kernel11Ideal.Launch
public import proofs.«01_k».proof.Proof.Gen.Kernel11Ideal.Skeleton
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_in_range.Gen.facts, Cert.Pre_finite8.Gen.facts, Cert.Pre_finite9.Gen.facts, Cert.Pre_blocks10.Gen.facts, Cert.Pre_blocks11.Gen.facts,
    GatherClaims.frame_Kernel, GatherClaims.frame_KernelIdeal, GatherClaims.frame_ReferenceIdeal, GatherClaims.frame_Reference,
    FfnUp.frame_K, FfnUp.frame_KI, FfnUp.frame_RI,
    FfnDown.frame_K, FfnDown.frame_KI, FfnDown.frame_RI,
    InProj.frame_K, InProj.frame_KI, InProj.frame_RI,
    OutProj.frame_K, OutProj.frame_KI, OutProj.frame_RI,
    Attn.frame_K, Attn.frame_KI, Attn.frame_RI, Diff.frame_K, Diff.frame_KI, Diff.frame_RI,
    MoeUp.frame_K, MoeUp.frame_KI, MoeUp.frame_RI, MoeDown.frame_K, MoeDown.frame_KI, MoeDown.frame_RI,
    Norm.frame_K, Norm.frame_KI, Norm.frame_RI,
    Finish.frame_K, Finish.frame_KI, Finish.frame_RI,
    GateProj.frame_K, GateProj.frame_KI, GateProj.frame_RI,
    trivial, GatherClaims.value_ideal, GatherClaims.value_bits,
    trivial, FfnUp.value, trivial, FfnDown.value, trivial, InProj.value, trivial, OutProj.value, trivial, Attn.value, trivial, Diff.value,
    trivial, MoeUp.value, trivial, MoeDown.value, trivial, Norm.value, trivial, Finish.value, trivial, GateProj.value⟩

end Cert.Proof

end
